-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxRefIdeal (m : (ℓ : Loc Cert.NormDxRefIdeal.nD Cert.NormDxRefIdeal.τ Cert.NormDxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_XbcDw (m : (ℓ : Loc Cert.XbcDw.nD Cert.XbcDw.τ Cert.XbcDw.sig) → Buf (Elt Bits) ℓ) : Prop :=
  True

def Pre_XbcDwIdeal (m : (ℓ : Loc Cert.XbcDwIdeal.nD Cert.XbcDwIdeal.τ Cert.XbcDwIdeal.sig) → Buf (Elt Ideal) ℓ) : Prop :=
  True

def Pre_XbcDwRefIdeal (m : (ℓ : Loc Cert.XbcDwRefIdeal.nD Cert.XbcDwRefIdeal.τ Cert.XbcDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_ZRefIdeal (m : (ℓ : Loc Cert.ZRefIdeal.nD Cert.ZRefIdeal.τ Cert.ZRefIdeal.sig) → Buf (Elt Ideal) ℓ) : Prop :=
  True

def Pre_ZDw (m : (ℓ : Loc Cert.ZDw.nD Cert.ZDw.τ Cert.ZDw.sig) → Buf (Elt Bits) ℓ) : Prop :=
  True

def Pre_ZDwIdeal (m : (ℓ : Loc Cert.ZDwIdeal.nD Cert.ZDwIdeal.τ Cert.ZDwIdeal.sig) → Buf (Elt Ideal) ℓ) : Prop :=
  True

def Pre_ZDwRefIdeal (m : (ℓ : Loc Cert.ZDwRefIdeal.nD Cert.ZDwRefIdeal.τ Cert.ZDwRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcRefIdeal (m : (ℓ : Loc Cert.XbcRefIdeal.nD Cert.XbcRefIdeal.τ Cert.XbcRefIdeal.sig) → Buf (Elt Ideal) ℓ) : Prop :=
  True

def Pre_XbcDx (m : (ℓ : Loc Cert.XbcDx.nD Cert.XbcDx.τ Cert.XbcDx.sig) → Buf (Elt Bits) ℓ) : Prop :=
  True

def Pre_XbcDxIdeal (m : (ℓ : Loc Cert.XbcDxIdeal.nD Cert.XbcDxIdeal.τ Cert.XbcDxIdeal.sig) → Buf (Elt Ideal) ℓ) : Prop :=
  True

def Pre_XbcDxRefIdeal (m : (ℓ : Loc Cert.XbcDxRefIdeal.nD Cert.XbcDxRefIdeal.τ Cert.XbcDxRefIdeal.sig) → Buf (Elt Ideal) ℓ) : Prop :=
  True

def Pre_ZDx (m : (ℓ : Loc Cert.ZDx.nD Cert.ZDx.τ Cert.ZDx.sig) → Buf (Elt Bits) ℓ) : Prop :=
  True

def Pre_ZDxIdeal (m : (ℓ : Loc Cert.ZDxIdeal.nD Cert.ZDxIdeal.τ Cert.ZDxIdeal.sig) → Buf (Elt Ideal) ℓ) : Prop :=
  True

def Pre_ZDxRefIdeal (m : (ℓ : Loc Cert.ZDxRefIdeal.nD Cert.ZDxRefIdeal.τ Cert.ZDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVRefIdeal (m : (ℓ : Loc Cert.ProjVRefIdeal.nD Cert.ProjVRefIdeal.τ Cert.ProjVRefIdeal.sig) → Buf (Elt Ideal) ℓ) : Prop :=
  True

def Pre_ProjVDx (m : (ℓ : Loc Cert.ProjVDx.nD Cert.ProjVDx.τ Cert.ProjVDx.sig) → Buf (Elt Bits) ℓ) : Prop :=
  True

def Pre_ProjVDxIdeal (m : (ℓ : Loc Cert.ProjVDxIdeal.nD Cert.ProjVDxIdeal.τ Cert.ProjVDxIdeal.sig) → Buf (Elt Ideal) ℓ) : Prop :=
  True

def Pre_ProjVDxRefIdeal (m : (ℓ : Loc Cert.ProjVDxRefIdeal.nD Cert.ProjVDxRefIdeal.τ Cert.ProjVDxRefIdeal.sig) → Buf (Elt Ideal) ℓ) : Prop :=
  True

def Pre_ProjO (m : (ℓ : Loc Cert.ProjO.nD Cert.ProjO.τ Cert.ProjO.sig) → Buf (Elt Bits) ℓ) : Prop :=
  True

def Pre_ProjOIdeal (m : (ℓ : Loc Cert.ProjOIdeal.nD Cert.ProjOIdeal.τ Cert.ProjOIdeal.sig) → Buf (Elt Ideal) ℓ) : Prop :=
  True

def Pre_ProjORefIdeal (m : (ℓ : Loc Cert.ProjORefIdeal.nD Cert.ProjORefIdeal.τ Cert.ProjORefIdeal.sig) → Buf (Elt Ideal) ℓ) : Prop :=
  True

def Pre_ProjODx (m : (ℓ : Loc Cert.ProjODx.nD Cert.ProjODx.τ Cert.ProjODx.sig) → Buf (Elt Bits) ℓ) : Prop :=
  True

def Pre_ProjODxIdeal (m : (ℓ : Loc Cert.ProjODxIdeal.nD Cert.ProjODxIdeal.τ Cert.ProjODxIdeal.sig) → Buf (Elt Ideal) ℓ) : Prop :=
  True

def Pre_ProjODxRefIdeal (m : (ℓ : Loc Cert.ProjODxRefIdeal.nD Cert.ProjODxRefIdeal.τ Cert.ProjODxRefIdeal.sig) → Buf (Elt Ideal) ℓ) : Prop :=
  True

def Pre_ActDx (m : (ℓ : Loc Cert.ActDx.nD Cert.ActDx.τ Cert.ActDx.sig) → Buf (Elt Bits) ℓ) : Prop :=
  True

def Pre_ActDxIdeal (m : (ℓ : Loc Cert.ActDxIdeal.nD Cert.ActDxIdeal.τ Cert.ActDxIdeal.sig) → Buf (Elt Ideal) ℓ) : Prop :=
  True

def Pre_ActDxIdeal_finite_gate [hPre_finite_gate : Cert.Pre_finite_gate.Facts] (m : (ℓ : Loc Cert.ActDxIdeal.nD Cert.ActDxIdeal.τ Cert.ActDxIdeal.sig) → Buf (Elt Ideal) ℓ) : Prop :=
  ∀ c : Dev Cert.ActDxIdeal.nD,
    (Cert.Pre_finite_gate.fn (F := Ideal) (m ((c.tc : Thread Cert.ActDxIdeal.nD Cert.ActDxIdeal.τ).loc Cert.ActDxIdeal.main_arg0)) (m ((c.tc : Thread Cert.ActDxIdeal.nD Cert.ActDxIdeal.τ).loc Cert.ActDxIdeal.main_arg1))) = (fun _ => 1#1)

def Pre_ActDxRefIdeal (m : (ℓ : Loc Cert.ActDxRefIdeal.nD Cert.ActDxRefIdeal.τ Cert.ActDxRefIdeal.sig) → Buf (Elt Ideal) ℓ) : Prop :=
  True

def Pre_ActDxRefIdeal_finite_gate [hPre_finite_gate : Cert.Pre_finite_gate.Facts] (m : (ℓ : Loc Cert.ActDxRefIdeal.nD Cert.ActDxRefIdeal.τ Cert.ActDxRefIdeal.sig) → Buf (Elt Ideal) ℓ) : Prop :=
  ∀ c : Dev Cert.ActDxRefIdeal.nD,
    (Cert.Pre_finite_gate.fn (F := Ideal) (m ((c.tc : Thread Cert.ActDxRefIdeal.nD Cert.ActDxRefIdeal.τ).loc Cert.ActDxRefIdeal.main_arg0)) (m ((c.tc : Thread Cert.ActDxRefIdeal.nD Cert.ActDxRefIdeal.τ).loc Cert.ActDxRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ r.2.sem = fun _ => 0)

def quiescent_NormDxRefIdeal [hNormDxRefIdeal : Cert.NormDxRefIdeal.Facts] : Prop :=
  ∀ (m : (ℓ : Loc Cert.NormDxRefIdeal.nD Cert.NormDxRefIdeal.τ Cert.NormDxRefIdeal.sig) → Buf (Elt Ideal) ℓ) (g : Dev Cert.NormDxRefIdeal.nD → PrngReg), Pre_NormDxRefIdeal m →
    θ_run (Cert.NormDxRefIdeal.defs (F := Ideal)) (onTc (τ := Cert.NormDxRefIdeal.τ) (Cert.NormDxRefIdeal.main (F := Ideal))) ⟨m, fun _ => 0, g⟩ (fun r => (∀ c : Dev Cert.NormDxRefIdeal.nD,
      r.2.mem ((c.tc : Thread Cert.NormDxRefIdeal.nD Cert.NormDxRefIdeal.τ).loc Cert.NormDxRefIdeal.main_arg0) = m ((c.tc : Thread Cert.NormDxRefIdeal.nD Cert.NormDxRefIdeal.τ).loc Cert.NormDxRefIdeal.main_arg0)
      ∧ r.2.mem ((c.tc : Thread Cert.NormDxRefIdeal.nD Cert.NormDxRefIdeal.τ).loc Cert.NormDxRefIdeal.main_arg1) = m ((c.tc : Thread Cert.NormDxRefIdeal.nD Cert.NormDxRefIdeal.τ).loc Cert.NormDxRefIdeal.main_arg1)
      ∧ r.2.mem ((c.tc : Thread Cert.NormDxRefIdeal.nD Cert.NormDxRefIdeal.τ).loc Cert.NormDxRefIdeal.main_arg2) = m ((c.tc : Thread Cert.NormDxRefIdeal.nD Cert.NormDxRefIdeal.τ).loc Cert.NormDxRefIdeal.main_arg2)
      ∧ r.2.mem ((c.tc : Thread Cert.NormDxRefIdeal.nD Cert.NormDxRefIdeal.τ).loc Cert.NormDxRefIdeal.main_arg3) = m ((c.tc : Thread Cert.NormDxRefIdeal.nD Cert.NormDxRefIdeal.τ).loc Cert.NormDxRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_XbcDw [hXbcDw : Cert.XbcDw.Facts] : Prop :=
  ∀ (m : (ℓ : Loc Cert.XbcDw.nD Cert.XbcDw.τ Cert.XbcDw.sig) → Buf (Elt Bits) ℓ) (g : Dev Cert.XbcDw.nD → PrngReg), Pre_XbcDw m →
    θ_run (Cert.XbcDw.defs (F := Bits)) (onTc (τ := Cert.XbcDw.τ) (Cert.XbcDw.main (F := Bits))) ⟨m, fun _ => 0, g⟩ (fun r => (∀ c : Dev Cert.XbcDw.nD,
      r.2.mem ((c.tc : Thread Cert.XbcDw.nD Cert.XbcDw.τ).loc Cert.XbcDw.main_arg0) = m ((c.tc : Thread Cert.XbcDw.nD Cert.XbcDw.τ).loc Cert.XbcDw.main_arg0)
      ∧ r.2.mem ((c.tc : Thread Cert.XbcDw.nD Cert.XbcDw.τ).loc Cert.XbcDw.main_arg1) = m ((c.tc : Thread Cert.XbcDw.nD Cert.XbcDw.τ).loc Cert.XbcDw.main_arg1))
      ∧ r.2.sem = fun _ => 0)

def quiescent_XbcDwIdeal [hXbcDwIdeal : Cert.XbcDwIdeal.Facts] : Prop :=
  ∀ (m : (ℓ : Loc Cert.XbcDwIdeal.nD Cert.XbcDwIdeal.τ Cert.XbcDwIdeal.sig) → Buf (Elt Ideal) ℓ) (g : Dev Cert.XbcDwIdeal.nD → PrngReg), Pre_XbcDwIdeal m →
    θ_run (Cert.XbcDwIdeal.defs (F := Ideal)) (onTc (τ := Cert.XbcDwIdeal.τ) (Cert.XbcDwIdeal.main (F := Ideal))) ⟨m, fun _ => 0, g⟩ (fun r => (∀ c : Dev Cert.XbcDwIdeal.nD,
      r.2.mem ((c.tc : Thread Cert.XbcDwIdeal.nD Cert.XbcDwIdeal.τ).loc Cert.XbcDwIdeal.main_arg0) = m ((c.tc : Thread Cert.XbcDwIdeal.nD Cert.XbcDwIdeal.τ).loc Cert.XbcDwIdeal.main_arg0)
      ∧ r.2.mem ((c.tc : Thread Cert.XbcDwIdeal.nD Cert.XbcDwIdeal.τ).loc Cert.XbcDwIdeal.main_arg1) = m ((c.tc : Thread Cert.XbcDwIdeal.nD Cert.XbcDwIdeal.τ).loc Cert.XbcDwIdeal.main_arg1))
      ∧ r.2.sem = fun _ => 0)

def quiescent_XbcDwRefIdeal [hXbcDwRefIdeal : Cert.XbcDwRefIdeal.Facts] : Prop :=
  ∀ (m : (ℓ : Loc Cert.XbcDwRefIdeal.nD Cert.XbcDwRefIdeal.τ Cert.XbcDwRefIdeal.sig) → Buf (Elt Ideal) ℓ) (g : Dev Cert.XbcDwRefIdeal.nD → PrngReg), Pre_XbcDwRefIdeal m →
    θ_run (Cert.XbcDwRefIdeal.defs (F := Ideal)) (onTc (τ := Cert.XbcDwRefIdeal.τ) (Cert.XbcDwRefIdeal.main (F := Ideal))) ⟨m, fun _ => 0, g⟩ (fun r => (∀ c : Dev Cert.XbcDwRefIdeal.nD,
      r.2.mem ((c.tc : Thread Cert.XbcDwRefIdeal.nD Cert.XbcDwRefIdeal.τ).loc Cert.XbcDwRefIdeal.main_arg0) = m ((c.tc : Thread Cert.XbcDwRefIdeal.nD Cert.XbcDwRefIdeal.τ).loc Cert.XbcDwRefIdeal.main_arg0)
      ∧ r.2.mem ((c.tc : Thread Cert.XbcDwRefIdeal.nD Cert.XbcDwRefIdeal.τ).loc Cert.XbcDwRefIdeal.main_arg1) = m ((c.tc : Thread Cert.XbcDwRefIdeal.nD Cert.XbcDwRefIdeal.τ).loc Cert.XbcDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_ZRefIdeal [hZRefIdeal : Cert.ZRefIdeal.Facts] : Prop :=
  ∀ (m : (ℓ : Loc Cert.ZRefIdeal.nD Cert.ZRefIdeal.τ Cert.ZRefIdeal.sig) → Buf (Elt Ideal) ℓ) (g : Dev Cert.ZRefIdeal.nD → PrngReg), Pre_ZRefIdeal m →
    θ_run (Cert.ZRefIdeal.defs (F := Ideal)) (onTc (τ := Cert.ZRefIdeal.τ) (Cert.ZRefIdeal.main (F := Ideal))) ⟨m, fun _ => 0, g⟩ (fun r => (∀ c : Dev Cert.ZRefIdeal.nD,
      r.2.mem ((c.tc : Thread Cert.ZRefIdeal.nD Cert.ZRefIdeal.τ).loc Cert.ZRefIdeal.main_arg0) = m ((c.tc : Thread Cert.ZRefIdeal.nD Cert.ZRefIdeal.τ).loc Cert.ZRefIdeal.main_arg0)
      ∧ r.2.mem ((c.tc : Thread Cert.ZRefIdeal.nD Cert.ZRefIdeal.τ).loc Cert.ZRefIdeal.main_arg1) = m ((c.tc : Thread Cert.ZRefIdeal.nD Cert.ZRefIdeal.τ).loc Cert.ZRefIdeal.main_arg1))
      ∧ r.2.sem = fun _ => 0)

def quiescent_ZDw [hZDw : Cert.ZDw.Facts] : Prop :=
  ∀ (m : (ℓ : Loc Cert.ZDw.nD Cert.ZDw.τ Cert.ZDw.sig) → Buf (Elt Bits) ℓ) (g : Dev Cert.ZDw.nD → PrngReg), Pre_ZDw m →
    θ_run (Cert.ZDw.defs (F := Bits)) (onTc (τ := Cert.ZDw.τ) (Cert.ZDw.main (F := Bits))) ⟨m, fun _ => 0, g⟩ (fun r => (∀ c : Dev Cert.ZDw.nD,
      r.2.mem ((c.tc : Thread Cert.ZDw.nD Cert.ZDw.τ).loc Cert.ZDw.main_arg0) = m ((c.tc : Thread Cert.ZDw.nD Cert.ZDw.τ).loc Cert.ZDw.main_arg0)
      ∧ r.2.mem ((c.tc : Thread Cert.ZDw.nD Cert.ZDw.τ).loc Cert.ZDw.main_arg1) = m ((c.tc : Thread Cert.ZDw.nD Cert.ZDw.τ).loc Cert.ZDw.main_arg1))
      ∧ r.2.sem = fun _ => 0)

def quiescent_ZDwIdeal [hZDwIdeal : Cert.ZDwIdeal.Facts] : Prop :=
  ∀ (m : (ℓ : Loc Cert.ZDwIdeal.nD Cert.ZDwIdeal.τ Cert.ZDwIdeal.sig) → Buf (Elt Ideal) ℓ) (g : Dev Cert.ZDwIdeal.nD → PrngReg), Pre_ZDwIdeal m →
    θ_run (Cert.ZDwIdeal.defs (F := Ideal)) (onTc (τ := Cert.ZDwIdeal.τ) (Cert.ZDwIdeal.main (F := Ideal))) ⟨m, fun _ => 0, g⟩ (fun r => (∀ c : Dev Cert.ZDwIdeal.nD,
      r.2.mem ((c.tc : Thread Cert.ZDwIdeal.nD Cert.ZDwIdeal.τ).loc Cert.ZDwIdeal.main_arg0) = m ((c.tc : Thread Cert.ZDwIdeal.nD Cert.ZDwIdeal.τ).loc Cert.ZDwIdeal.main_arg0)
      ∧ r.2.mem ((c.tc : Thread Cert.ZDwIdeal.nD Cert.ZDwIdeal.τ).loc Cert.ZDwIdeal.main_arg1) = m ((c.tc : Thread Cert.ZDwIdeal.nD Cert.ZDwIdeal.τ).loc Cert.ZDwIdeal.main_arg1))
      ∧ r.2.sem = fun _ => 0)

def quiescent_ZDwRefIdeal [hZDwRefIdeal : Cert.ZDwRefIdeal.Facts] : Prop :=
  ∀ (m : (ℓ : Loc Cert.ZDwRefIdeal.nD Cert.ZDwRefIdeal.τ Cert.ZDwRefIdeal.sig) → Buf (Elt Ideal) ℓ) (g : Dev Cert.ZDwRefIdeal.nD → PrngReg), Pre_ZDwRefIdeal m →
    θ_run (Cert.ZDwRefIdeal.defs (F := Ideal)) (onTc (τ := Cert.ZDwRefIdeal.τ) (Cert.ZDwRefIdeal.main (F := Ideal))) ⟨m, fun _ => 0, g⟩ (fun r => (∀ c : Dev Cert.ZDwRefIdeal.nD,
      r.2.mem ((c.tc : Thread Cert.ZDwRefIdeal.nD Cert.ZDwRefIdeal.τ).loc Cert.ZDwRefIdeal.main_arg0) = m ((c.tc : Thread Cert.ZDwRefIdeal.nD Cert.ZDwRefIdeal.τ).loc Cert.ZDwRefIdeal.main_arg0)
      ∧ r.2.mem ((c.tc : Thread Cert.ZDwRefIdeal.nD Cert.ZDwRefIdeal.τ).loc Cert.ZDwRefIdeal.main_arg1) = m ((c.tc : Thread Cert.ZDwRefIdeal.nD Cert.ZDwRefIdeal.τ).loc Cert.ZDwRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ r.2.sem = fun _ => 0)

def quiescent_XbcRefIdeal [hXbcRefIdeal : Cert.XbcRefIdeal.Facts] : Prop :=
  ∀ (m : (ℓ : Loc Cert.XbcRefIdeal.nD Cert.XbcRefIdeal.τ Cert.XbcRefIdeal.sig) → Buf (Elt Ideal) ℓ) (g : Dev Cert.XbcRefIdeal.nD → PrngReg), Pre_XbcRefIdeal m →
    θ_run (Cert.XbcRefIdeal.defs (F := Ideal)) (onTc (τ := Cert.XbcRefIdeal.τ) (Cert.XbcRefIdeal.main (F := Ideal))) ⟨m, fun _ => 0, g⟩ (fun r => (∀ c : Dev Cert.XbcRefIdeal.nD,
      r.2.mem ((c.tc : Thread Cert.XbcRefIdeal.nD Cert.XbcRefIdeal.τ).loc Cert.XbcRefIdeal.main_arg0) = m ((c.tc : Thread Cert.XbcRefIdeal.nD Cert.XbcRefIdeal.τ).loc Cert.XbcRefIdeal.main_arg0)
      ∧ r.2.mem ((c.tc : Thread Cert.XbcRefIdeal.nD Cert.XbcRefIdeal.τ).loc Cert.XbcRefIdeal.main_arg1) = m ((c.tc : Thread Cert.XbcRefIdeal.nD Cert.XbcRefIdeal.τ).loc Cert.XbcRefIdeal.main_arg1))
      ∧ r.2.sem = fun _ => 0)

def quiescent_XbcDx [hXbcDx : Cert.XbcDx.Facts] : Prop :=
  ∀ (m : (ℓ : Loc Cert.XbcDx.nD Cert.XbcDx.τ Cert.XbcDx.sig) → Buf (Elt Bits) ℓ) (g : Dev Cert.XbcDx.nD → PrngReg), Pre_XbcDx m →
    θ_run (Cert.XbcDx.defs (F := Bits)) (onTc (τ := Cert.XbcDx.τ) (Cert.XbcDx.main (F := Bits))) ⟨m, fun _ => 0, g⟩ (fun r => (∀ c : Dev Cert.XbcDx.nD,
      r.2.mem ((c.tc : Thread Cert.XbcDx.nD Cert.XbcDx.τ).loc Cert.XbcDx.main_arg0) = m ((c.tc : Thread Cert.XbcDx.nD Cert.XbcDx.τ).loc Cert.XbcDx.main_arg0)
      ∧ r.2.mem ((c.tc : Thread Cert.XbcDx.nD Cert.XbcDx.τ).loc Cert.XbcDx.main_arg1) = m ((c.tc : Thread Cert.XbcDx.nD Cert.XbcDx.τ).loc Cert.XbcDx.main_arg1))
      ∧ r.2.sem = fun _ => 0)

def quiescent_XbcDxIdeal [hXbcDxIdeal : Cert.XbcDxIdeal.Facts] : Prop :=
  ∀ (m : (ℓ : Loc Cert.XbcDxIdeal.nD Cert.XbcDxIdeal.τ Cert.XbcDxIdeal.sig) → Buf (Elt Ideal) ℓ) (g : Dev Cert.XbcDxIdeal.nD → PrngReg), Pre_XbcDxIdeal m →
    θ_run (Cert.XbcDxIdeal.defs (F := Ideal)) (onTc (τ := Cert.XbcDxIdeal.τ) (Cert.XbcDxIdeal.main (F := Ideal))) ⟨m, fun _ => 0, g⟩ (fun r => (∀ c : Dev Cert.XbcDxIdeal.nD,
      r.2.mem ((c.tc : Thread Cert.XbcDxIdeal.nD Cert.XbcDxIdeal.τ).loc Cert.XbcDxIdeal.main_arg0) = m ((c.tc : Thread Cert.XbcDxIdeal.nD Cert.XbcDxIdeal.τ).loc Cert.XbcDxIdeal.main_arg0)
      ∧ r.2.mem ((c.tc : Thread Cert.XbcDxIdeal.nD Cert.XbcDxIdeal.τ).loc Cert.XbcDxIdeal.main_arg1) = m ((c.tc : Thread Cert.XbcDxIdeal.nD Cert.XbcDxIdeal.τ).loc Cert.XbcDxIdeal.main_arg1))
      ∧ r.2.sem = fun _ => 0)

def quiescent_XbcDxRefIdeal [hXbcDxRefIdeal : Cert.XbcDxRefIdeal.Facts] : Prop :=
  ∀ (m : (ℓ : Loc Cert.XbcDxRefIdeal.nD Cert.XbcDxRefIdeal.τ Cert.XbcDxRefIdeal.sig) → Buf (Elt Ideal) ℓ) (g : Dev Cert.XbcDxRefIdeal.nD → PrngReg), Pre_XbcDxRefIdeal m →
    θ_run (Cert.XbcDxRefIdeal.defs (F := Ideal)) (onTc (τ := Cert.XbcDxRefIdeal.τ) (Cert.XbcDxRefIdeal.main (F := Ideal))) ⟨m, fun _ => 0, g⟩ (fun r => (∀ c : Dev Cert.XbcDxRefIdeal.nD,
      r.2.mem ((c.tc : Thread Cert.XbcDxRefIdeal.nD Cert.XbcDxRefIdeal.τ).loc Cert.XbcDxRefIdeal.main_arg0) = m ((c.tc : Thread Cert.XbcDxRefIdeal.nD Cert.XbcDxRefIdeal.τ).loc Cert.XbcDxRefIdeal.main_arg0)
      ∧ r.2.mem ((c.tc : Thread Cert.XbcDxRefIdeal.nD Cert.XbcDxRefIdeal.τ).loc Cert.XbcDxRefIdeal.main_arg1) = m ((c.tc : Thread Cert.XbcDxRefIdeal.nD Cert.XbcDxRefIdeal.τ).loc Cert.XbcDxRefIdeal.main_arg1))
      ∧ r.2.sem = fun _ => 0)

def quiescent_ZDx [hZDx : Cert.ZDx.Facts] : Prop :=
  ∀ (m : (ℓ : Loc Cert.ZDx.nD Cert.ZDx.τ Cert.ZDx.sig) → Buf (Elt Bits) ℓ) (g : Dev Cert.ZDx.nD → PrngReg), Pre_ZDx m →
    θ_run (Cert.ZDx.defs (F := Bits)) (onTc (τ := Cert.ZDx.τ) (Cert.ZDx.main (F := Bits))) ⟨m, fun _ => 0, g⟩ (fun r => (∀ c : Dev Cert.ZDx.nD,
      r.2.mem ((c.tc : Thread Cert.ZDx.nD Cert.ZDx.τ).loc Cert.ZDx.main_arg0) = m ((c.tc : Thread Cert.ZDx.nD Cert.ZDx.τ).loc Cert.ZDx.main_arg0)
      ∧ r.2.mem ((c.tc : Thread Cert.ZDx.nD Cert.ZDx.τ).loc Cert.ZDx.main_arg1) = m ((c.tc : Thread Cert.ZDx.nD Cert.ZDx.τ).loc Cert.ZDx.main_arg1)
      ∧ r.2.mem ((c.tc : Thread Cert.ZDx.nD Cert.ZDx.τ).loc Cert.ZDx.main_arg2) = m ((c.tc : Thread Cert.ZDx.nD Cert.ZDx.τ).loc Cert.ZDx.main_arg2))
      ∧ r.2.sem = fun _ => 0)

def quiescent_ZDxIdeal [hZDxIdeal : Cert.ZDxIdeal.Facts] : Prop :=
  ∀ (m : (ℓ : Loc Cert.ZDxIdeal.nD Cert.ZDxIdeal.τ Cert.ZDxIdeal.sig) → Buf (Elt Ideal) ℓ) (g : Dev Cert.ZDxIdeal.nD → PrngReg), Pre_ZDxIdeal m →
    θ_run (Cert.ZDxIdeal.defs (F := Ideal)) (onTc (τ := Cert.ZDxIdeal.τ) (Cert.ZDxIdeal.main (F := Ideal))) ⟨m, fun _ => 0, g⟩ (fun r => (∀ c : Dev Cert.ZDxIdeal.nD,
      r.2.mem ((c.tc : Thread Cert.ZDxIdeal.nD Cert.ZDxIdeal.τ).loc Cert.ZDxIdeal.main_arg0) = m ((c.tc : Thread Cert.ZDxIdeal.nD Cert.ZDxIdeal.τ).loc Cert.ZDxIdeal.main_arg0)
      ∧ r.2.mem ((c.tc : Thread Cert.ZDxIdeal.nD Cert.ZDxIdeal.τ).loc Cert.ZDxIdeal.main_arg1) = m ((c.tc : Thread Cert.ZDxIdeal.nD Cert.ZDxIdeal.τ).loc Cert.ZDxIdeal.main_arg1)
      ∧ r.2.mem ((c.tc : Thread Cert.ZDxIdeal.nD Cert.ZDxIdeal.τ).loc Cert.ZDxIdeal.main_arg2) = m ((c.tc : Thread Cert.ZDxIdeal.nD Cert.ZDxIdeal.τ).loc Cert.ZDxIdeal.main_arg2))
      ∧ r.2.sem = fun _ => 0)

def quiescent_ZDxRefIdeal [hZDxRefIdeal : Cert.ZDxRefIdeal.Facts] : Prop :=
  ∀ (m : (ℓ : Loc Cert.ZDxRefIdeal.nD Cert.ZDxRefIdeal.τ Cert.ZDxRefIdeal.sig) → Buf (Elt Ideal) ℓ) (g : Dev Cert.ZDxRefIdeal.nD → PrngReg), Pre_ZDxRefIdeal m →
    θ_run (Cert.ZDxRefIdeal.defs (F := Ideal)) (onTc (τ := Cert.ZDxRefIdeal.τ) (Cert.ZDxRefIdeal.main (F := Ideal))) ⟨m, fun _ => 0, g⟩ (fun r => (∀ c : Dev Cert.ZDxRefIdeal.nD,
      r.2.mem ((c.tc : Thread Cert.ZDxRefIdeal.nD Cert.ZDxRefIdeal.τ).loc Cert.ZDxRefIdeal.main_arg0) = m ((c.tc : Thread Cert.ZDxRefIdeal.nD Cert.ZDxRefIdeal.τ).loc Cert.ZDxRefIdeal.main_arg0)
      ∧ r.2.mem ((c.tc : Thread Cert.ZDxRefIdeal.nD Cert.ZDxRefIdeal.τ).loc Cert.ZDxRefIdeal.main_arg1) = m ((c.tc : Thread Cert.ZDxRefIdeal.nD Cert.ZDxRefIdeal.τ).loc Cert.ZDxRefIdeal.main_arg1)
      ∧ r.2.mem ((c.tc : Thread Cert.ZDxRefIdeal.nD Cert.ZDxRefIdeal.τ).loc Cert.ZDxRefIdeal.main_arg2) = m ((c.tc : Thread Cert.ZDxRefIdeal.nD Cert.ZDxRefIdeal.τ).loc Cert.ZDxRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVRefIdeal [hProjVRefIdeal : Cert.ProjVRefIdeal.Facts] : Prop :=
  ∀ (m : (ℓ : Loc Cert.ProjVRefIdeal.nD Cert.ProjVRefIdeal.τ Cert.ProjVRefIdeal.sig) → Buf (Elt Ideal) ℓ) (g : Dev Cert.ProjVRefIdeal.nD → PrngReg), Pre_ProjVRefIdeal m →
    θ_run (Cert.ProjVRefIdeal.defs (F := Ideal)) (onTc (τ := Cert.ProjVRefIdeal.τ) (Cert.ProjVRefIdeal.main (F := Ideal))) ⟨m, fun _ => 0, g⟩ (fun r => (∀ c : Dev Cert.ProjVRefIdeal.nD,
      r.2.mem ((c.tc : Thread Cert.ProjVRefIdeal.nD Cert.ProjVRefIdeal.τ).loc Cert.ProjVRefIdeal.main_arg0) = m ((c.tc : Thread Cert.ProjVRefIdeal.nD Cert.ProjVRefIdeal.τ).loc Cert.ProjVRefIdeal.main_arg0)
      ∧ r.2.mem ((c.tc : Thread Cert.ProjVRefIdeal.nD Cert.ProjVRefIdeal.τ).loc Cert.ProjVRefIdeal.main_arg1) = m ((c.tc : Thread Cert.ProjVRefIdeal.nD Cert.ProjVRefIdeal.τ).loc Cert.ProjVRefIdeal.main_arg1))
      ∧ r.2.sem = fun _ => 0)

def quiescent_ProjVDx [hProjVDx : Cert.ProjVDx.Facts] : Prop :=
  ∀ (m : (ℓ : Loc Cert.ProjVDx.nD Cert.ProjVDx.τ Cert.ProjVDx.sig) → Buf (Elt Bits) ℓ) (g : Dev Cert.ProjVDx.nD → PrngReg), Pre_ProjVDx m →
    θ_run (Cert.ProjVDx.defs (F := Bits)) (onTc (τ := Cert.ProjVDx.τ) (Cert.ProjVDx.main (F := Bits))) ⟨m, fun _ => 0, g⟩ (fun r => (∀ c : Dev Cert.ProjVDx.nD,
      r.2.mem ((c.tc : Thread Cert.ProjVDx.nD Cert.ProjVDx.τ).loc Cert.ProjVDx.main_arg0) = m ((c.tc : Thread Cert.ProjVDx.nD Cert.ProjVDx.τ).loc Cert.ProjVDx.main_arg0)
      ∧ r.2.mem ((c.tc : Thread Cert.ProjVDx.nD Cert.ProjVDx.τ).loc Cert.ProjVDx.main_arg1) = m ((c.tc : Thread Cert.ProjVDx.nD Cert.ProjVDx.τ).loc Cert.ProjVDx.main_arg1)
      ∧ r.2.mem ((c.tc : Thread Cert.ProjVDx.nD Cert.ProjVDx.τ).loc Cert.ProjVDx.main_arg2) = m ((c.tc : Thread Cert.ProjVDx.nD Cert.ProjVDx.τ).loc Cert.ProjVDx.main_arg2))
      ∧ r.2.sem = fun _ => 0)

def quiescent_ProjVDxIdeal [hProjVDxIdeal : Cert.ProjVDxIdeal.Facts] : Prop :=
  ∀ (m : (ℓ : Loc Cert.ProjVDxIdeal.nD Cert.ProjVDxIdeal.τ Cert.ProjVDxIdeal.sig) → Buf (Elt Ideal) ℓ) (g : Dev Cert.ProjVDxIdeal.nD → PrngReg), Pre_ProjVDxIdeal m →
    θ_run (Cert.ProjVDxIdeal.defs (F := Ideal)) (onTc (τ := Cert.ProjVDxIdeal.τ) (Cert.ProjVDxIdeal.main (F := Ideal))) ⟨m, fun _ => 0, g⟩ (fun r => (∀ c : Dev Cert.ProjVDxIdeal.nD,
      r.2.mem ((c.tc : Thread Cert.ProjVDxIdeal.nD Cert.ProjVDxIdeal.τ).loc Cert.ProjVDxIdeal.main_arg0) = m ((c.tc : Thread Cert.ProjVDxIdeal.nD Cert.ProjVDxIdeal.τ).loc Cert.ProjVDxIdeal.main_arg0)
      ∧ r.2.mem ((c.tc : Thread Cert.ProjVDxIdeal.nD Cert.ProjVDxIdeal.τ).loc Cert.ProjVDxIdeal.main_arg1) = m ((c.tc : Thread Cert.ProjVDxIdeal.nD Cert.ProjVDxIdeal.τ).loc Cert.ProjVDxIdeal.main_arg1)
      ∧ r.2.mem ((c.tc : Thread Cert.ProjVDxIdeal.nD Cert.ProjVDxIdeal.τ).loc Cert.ProjVDxIdeal.main_arg2) = m ((c.tc : Thread Cert.ProjVDxIdeal.nD Cert.ProjVDxIdeal.τ).loc Cert.ProjVDxIdeal.main_arg2))
      ∧ r.2.sem = fun _ => 0)

def quiescent_ProjVDxRefIdeal [hProjVDxRefIdeal : Cert.ProjVDxRefIdeal.Facts] : Prop :=
  ∀ (m : (ℓ : Loc Cert.ProjVDxRefIdeal.nD Cert.ProjVDxRefIdeal.τ Cert.ProjVDxRefIdeal.sig) → Buf (Elt Ideal) ℓ) (g : Dev Cert.ProjVDxRefIdeal.nD → PrngReg), Pre_ProjVDxRefIdeal m →
    θ_run (Cert.ProjVDxRefIdeal.defs (F := Ideal)) (onTc (τ := Cert.ProjVDxRefIdeal.τ) (Cert.ProjVDxRefIdeal.main (F := Ideal))) ⟨m, fun _ => 0, g⟩ (fun r => (∀ c : Dev Cert.ProjVDxRefIdeal.nD,
      r.2.mem ((c.tc : Thread Cert.ProjVDxRefIdeal.nD Cert.ProjVDxRefIdeal.τ).loc Cert.ProjVDxRefIdeal.main_arg0) = m ((c.tc : Thread Cert.ProjVDxRefIdeal.nD Cert.ProjVDxRefIdeal.τ).loc Cert.ProjVDxRefIdeal.main_arg0)
      ∧ r.2.mem ((c.tc : Thread Cert.ProjVDxRefIdeal.nD Cert.ProjVDxRefIdeal.τ).loc Cert.ProjVDxRefIdeal.main_arg1) = m ((c.tc : Thread Cert.ProjVDxRefIdeal.nD Cert.ProjVDxRefIdeal.τ).loc Cert.ProjVDxRefIdeal.main_arg1)
      ∧ r.2.mem ((c.tc : Thread Cert.ProjVDxRefIdeal.nD Cert.ProjVDxRefIdeal.τ).loc Cert.ProjVDxRefIdeal.main_arg2) = m ((c.tc : Thread Cert.ProjVDxRefIdeal.nD Cert.ProjVDxRefIdeal.τ).loc Cert.ProjVDxRefIdeal.main_arg2))
      ∧ r.2.sem = fun _ => 0)

def quiescent_ProjO [hProjO : Cert.ProjO.Facts] : Prop :=
  ∀ (m : (ℓ : Loc Cert.ProjO.nD Cert.ProjO.τ Cert.ProjO.sig) → Buf (Elt Bits) ℓ) (g : Dev Cert.ProjO.nD → PrngReg), Pre_ProjO m →
    θ_run (Cert.ProjO.defs (F := Bits)) (onTc (τ := Cert.ProjO.τ) (Cert.ProjO.main (F := Bits))) ⟨m, fun _ => 0, g⟩ (fun r => (∀ c : Dev Cert.ProjO.nD,
      r.2.mem ((c.tc : Thread Cert.ProjO.nD Cert.ProjO.τ).loc Cert.ProjO.main_arg0) = m ((c.tc : Thread Cert.ProjO.nD Cert.ProjO.τ).loc Cert.ProjO.main_arg0)
      ∧ r.2.mem ((c.tc : Thread Cert.ProjO.nD Cert.ProjO.τ).loc Cert.ProjO.main_arg1) = m ((c.tc : Thread Cert.ProjO.nD Cert.ProjO.τ).loc Cert.ProjO.main_arg1)
      ∧ r.2.mem ((c.tc : Thread Cert.ProjO.nD Cert.ProjO.τ).loc Cert.ProjO.main_arg2) = m ((c.tc : Thread Cert.ProjO.nD Cert.ProjO.τ).loc Cert.ProjO.main_arg2))
      ∧ r.2.sem = fun _ => 0)

def quiescent_ProjOIdeal [hProjOIdeal : Cert.ProjOIdeal.Facts] : Prop :=
  ∀ (m : (ℓ : Loc Cert.ProjOIdeal.nD Cert.ProjOIdeal.τ Cert.ProjOIdeal.sig) → Buf (Elt Ideal) ℓ) (g : Dev Cert.ProjOIdeal.nD → PrngReg), Pre_ProjOIdeal m →
    θ_run (Cert.ProjOIdeal.defs (F := Ideal)) (onTc (τ := Cert.ProjOIdeal.τ) (Cert.ProjOIdeal.main (F := Ideal))) ⟨m, fun _ => 0, g⟩ (fun r => (∀ c : Dev Cert.ProjOIdeal.nD,
      r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
      ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
      ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2))
      ∧ r.2.sem = fun _ => 0)

def quiescent_ProjORefIdeal [hProjORefIdeal : Cert.ProjORefIdeal.Facts] : Prop :=
  ∀ (m : (ℓ : Loc Cert.ProjORefIdeal.nD Cert.ProjORefIdeal.τ Cert.ProjORefIdeal.sig) → Buf (Elt Ideal) ℓ) (g : Dev Cert.ProjORefIdeal.nD → PrngReg), Pre_ProjORefIdeal m →
    θ_run (Cert.ProjORefIdeal.defs (F := Ideal)) (onTc (τ := Cert.ProjORefIdeal.τ) (Cert.ProjORefIdeal.main (F := Ideal))) ⟨m, fun _ => 0, g⟩ (fun r => (∀ c : Dev Cert.ProjORefIdeal.nD,
      r.2.mem ((c.tc : Thread Cert.ProjORefIdeal.nD Cert.ProjORefIdeal.τ).loc Cert.ProjORefIdeal.main_arg0) = m ((c.tc : Thread Cert.ProjORefIdeal.nD Cert.ProjORefIdeal.τ).loc Cert.ProjORefIdeal.main_arg0)
      ∧ r.2.mem ((c.tc : Thread Cert.ProjORefIdeal.nD Cert.ProjORefIdeal.τ).loc Cert.ProjORefIdeal.main_arg1) = m ((c.tc : Thread Cert.ProjORefIdeal.nD Cert.ProjORefIdeal.τ).loc Cert.ProjORefIdeal.main_arg1)
      ∧ r.2.mem ((c.tc : Thread Cert.ProjORefIdeal.nD Cert.ProjORefIdeal.τ).loc Cert.ProjORefIdeal.main_arg2) = m ((c.tc : Thread Cert.ProjORefIdeal.nD Cert.ProjORefIdeal.τ).loc Cert.ProjORefIdeal.main_arg2))
      ∧ r.2.sem = fun _ => 0)

def quiescent_ProjODx [hProjODx : Cert.ProjODx.Facts] : Prop :=
  ∀ (m : (ℓ : Loc Cert.ProjODx.nD Cert.ProjODx.τ Cert.ProjODx.sig) → Buf (Elt Bits) ℓ) (g : Dev Cert.ProjODx.nD → PrngReg), Pre_ProjODx m →
    θ_run (Cert.ProjODx.defs (F := Bits)) (onTc (τ := Cert.ProjODx.τ) (Cert.ProjODx.main (F := Bits))) ⟨m, fun _ => 0, g⟩ (fun r => (∀ c : Dev Cert.ProjODx.nD,
      r.2.mem ((c.tc : Thread Cert.ProjODx.nD Cert.ProjODx.τ).loc Cert.ProjODx.main_arg0) = m ((c.tc : Thread Cert.ProjODx.nD Cert.ProjODx.τ).loc Cert.ProjODx.main_arg0)
      ∧ r.2.mem ((c.tc : Thread Cert.ProjODx.nD Cert.ProjODx.τ).loc Cert.ProjODx.main_arg1) = m ((c.tc : Thread Cert.ProjODx.nD Cert.ProjODx.τ).loc Cert.ProjODx.main_arg1))
      ∧ r.2.sem = fun _ => 0)

def quiescent_ProjODxIdeal [hProjODxIdeal : Cert.ProjODxIdeal.Facts] : Prop :=
  ∀ (m : (ℓ : Loc Cert.ProjODxIdeal.nD Cert.ProjODxIdeal.τ Cert.ProjODxIdeal.sig) → Buf (Elt Ideal) ℓ) (g : Dev Cert.ProjODxIdeal.nD → PrngReg), Pre_ProjODxIdeal m →
    θ_run (Cert.ProjODxIdeal.defs (F := Ideal)) (onTc (τ := Cert.ProjODxIdeal.τ) (Cert.ProjODxIdeal.main (F := Ideal))) ⟨m, fun _ => 0, g⟩ (fun r => (∀ c : Dev Cert.ProjODxIdeal.nD,
      r.2.mem ((c.tc : Thread Cert.ProjODxIdeal.nD Cert.ProjODxIdeal.τ).loc Cert.ProjODxIdeal.main_arg0) = m ((c.tc : Thread Cert.ProjODxIdeal.nD Cert.ProjODxIdeal.τ).loc Cert.ProjODxIdeal.main_arg0)
      ∧ r.2.mem ((c.tc : Thread Cert.ProjODxIdeal.nD Cert.ProjODxIdeal.τ).loc Cert.ProjODxIdeal.main_arg1) = m ((c.tc : Thread Cert.ProjODxIdeal.nD Cert.ProjODxIdeal.τ).loc Cert.ProjODxIdeal.main_arg1))
      ∧ r.2.sem = fun _ => 0)

def quiescent_ProjODxRefIdeal [hProjODxRefIdeal : Cert.ProjODxRefIdeal.Facts] : Prop :=
  ∀ (m : (ℓ : Loc Cert.ProjODxRefIdeal.nD Cert.ProjODxRefIdeal.τ Cert.ProjODxRefIdeal.sig) → Buf (Elt Ideal) ℓ) (g : Dev Cert.ProjODxRefIdeal.nD → PrngReg), Pre_ProjODxRefIdeal m →
    θ_run (Cert.ProjODxRefIdeal.defs (F := Ideal)) (onTc (τ := Cert.ProjODxRefIdeal.τ) (Cert.ProjODxRefIdeal.main (F := Ideal))) ⟨m, fun _ => 0, g⟩ (fun r => (∀ c : Dev Cert.ProjODxRefIdeal.nD,
      r.2.mem ((c.tc : Thread Cert.ProjODxRefIdeal.nD Cert.ProjODxRefIdeal.τ).loc Cert.ProjODxRefIdeal.main_arg0) = m ((c.tc : Thread Cert.ProjODxRefIdeal.nD Cert.ProjODxRefIdeal.τ).loc Cert.ProjODxRefIdeal.main_arg0)
      ∧ r.2.mem ((c.tc : Thread Cert.ProjODxRefIdeal.nD Cert.ProjODxRefIdeal.τ).loc Cert.ProjODxRefIdeal.main_arg1) = m ((c.tc : Thread Cert.ProjODxRefIdeal.nD Cert.ProjODxRefIdeal.τ).loc Cert.ProjODxRefIdeal.main_arg1))
      ∧ r.2.sem = fun _ => 0)

def quiescent_ActDx [hActDx : Cert.ActDx.Facts] : Prop :=
  ∀ (m : (ℓ : Loc Cert.ActDx.nD Cert.ActDx.τ Cert.ActDx.sig) → Buf (Elt Bits) ℓ) (g : Dev Cert.ActDx.nD → PrngReg), Pre_ActDx m →
    θ_run (Cert.ActDx.defs (F := Bits)) (onTc (τ := Cert.ActDx.τ) (Cert.ActDx.main (F := Bits))) ⟨m, fun _ => 0, g⟩ (fun r => (∀ c : Dev Cert.ActDx.nD,
      r.2.mem ((c.tc : Thread Cert.ActDx.nD Cert.ActDx.τ).loc Cert.ActDx.main_arg0) = m ((c.tc : Thread Cert.ActDx.nD Cert.ActDx.τ).loc Cert.ActDx.main_arg0)
      ∧ r.2.mem ((c.tc : Thread Cert.ActDx.nD Cert.ActDx.τ).loc Cert.ActDx.main_arg1) = m ((c.tc : Thread Cert.ActDx.nD Cert.ActDx.τ).loc Cert.ActDx.main_arg1))
      ∧ r.2.sem = fun _ => 0)

def quiescent_ActDxIdeal [hActDxIdeal : Cert.ActDxIdeal.Facts] : Prop :=
  ∀ (m : (ℓ : Loc Cert.ActDxIdeal.nD Cert.ActDxIdeal.τ Cert.ActDxIdeal.sig) → Buf (Elt Ideal) ℓ) (g : Dev Cert.ActDxIdeal.nD → PrngReg), Pre_ActDxIdeal m →
    θ_run (Cert.ActDxIdeal.defs (F := Ideal)) (onTc (τ := Cert.ActDxIdeal.τ) (Cert.ActDxIdeal.main (F := Ideal))) ⟨m, fun _ => 0, g⟩ (fun r => (∀ c : Dev Cert.ActDxIdeal.nD,
      r.2.mem ((c.tc : Thread Cert.ActDxIdeal.nD Cert.ActDxIdeal.τ).loc Cert.ActDxIdeal.main_arg0) = m ((c.tc : Thread Cert.ActDxIdeal.nD Cert.ActDxIdeal.τ).loc Cert.ActDxIdeal.main_arg0)
      ∧ r.2.mem ((c.tc : Thread Cert.ActDxIdeal.nD Cert.ActDxIdeal.τ).loc Cert.ActDxIdeal.main_arg1) = m ((c.tc : Thread Cert.ActDxIdeal.nD Cert.ActDxIdeal.τ).loc Cert.ActDxIdeal.main_arg1))
      ∧ r.2.sem = fun _ => 0)

def quiescent_ActDxIdeal_pre_finite_gate [hActDxIdeal : Cert.ActDxIdeal.Facts] [hPre_finite_gate : Cert.Pre_finite_gate.Facts] : Prop :=
  ∀ (m : (ℓ : Loc Cert.ActDxIdeal.nD Cert.ActDxIdeal.τ Cert.ActDxIdeal.sig) → Buf (Elt Ideal) ℓ) (g : Dev Cert.ActDxIdeal.nD → PrngReg), Pre_ActDxIdeal_finite_gate m →
    θ_run (Cert.ActDxIdeal.defs (F := Ideal)) (onTc (τ := Cert.ActDxIdeal.τ) (Cert.ActDxIdeal.main (F := Ideal))) ⟨m, fun _ => 0, g⟩ (fun r => (∀ c : Dev Cert.ActDxIdeal.nD,
      r.2.mem ((c.tc : Thread Cert.ActDxIdeal.nD Cert.ActDxIdeal.τ).loc Cert.ActDxIdeal.main_arg0) = m ((c.tc : Thread Cert.ActDxIdeal.nD Cert.ActDxIdeal.τ).loc Cert.ActDxIdeal.main_arg0)
      ∧ r.2.mem ((c.tc : Thread Cert.ActDxIdeal.nD Cert.ActDxIdeal.τ).loc Cert.ActDxIdeal.main_arg1) = m ((c.tc : Thread Cert.ActDxIdeal.nD Cert.ActDxIdeal.τ).loc Cert.ActDxIdeal.main_arg1))
      ∧ r.2.sem = fun _ => 0)

def quiescent_ActDxRefIdeal [hActDxRefIdeal : Cert.ActDxRefIdeal.Facts] : Prop :=
  ∀ (m : (ℓ : Loc Cert.ActDxRefIdeal.nD Cert.ActDxRefIdeal.τ Cert.ActDxRefIdeal.sig) → Buf (Elt Ideal) ℓ) (g : Dev Cert.ActDxRefIdeal.nD → PrngReg), Pre_ActDxRefIdeal m →
    θ_run (Cert.ActDxRefIdeal.defs (F := Ideal)) (onTc (τ := Cert.ActDxRefIdeal.τ) (Cert.ActDxRefIdeal.main (F := Ideal))) ⟨m, fun _ => 0, g⟩ (fun r => (∀ c : Dev Cert.ActDxRefIdeal.nD,
      r.2.mem ((c.tc : Thread Cert.ActDxRefIdeal.nD Cert.ActDxRefIdeal.τ).loc Cert.ActDxRefIdeal.main_arg0) = m ((c.tc : Thread Cert.ActDxRefIdeal.nD Cert.ActDxRefIdeal.τ).loc Cert.ActDxRefIdeal.main_arg0)
      ∧ r.2.mem ((c.tc : Thread Cert.ActDxRefIdeal.nD Cert.ActDxRefIdeal.τ).loc Cert.ActDxRefIdeal.main_arg1) = m ((c.tc : Thread Cert.ActDxRefIdeal.nD Cert.ActDxRefIdeal.τ).loc Cert.ActDxRefIdeal.main_arg1))
      ∧ r.2.sem = fun _ => 0)

def quiescent_ActDxRefIdeal_pre_finite_gate [hActDxRefIdeal : Cert.ActDxRefIdeal.Facts] [hPre_finite_gate : Cert.Pre_finite_gate.Facts] : Prop :=
  ∀ (m : (ℓ : Loc Cert.ActDxRefIdeal.nD Cert.ActDxRefIdeal.τ Cert.ActDxRefIdeal.sig) → Buf (Elt Ideal) ℓ) (g : Dev Cert.ActDxRefIdeal.nD → PrngReg), Pre_ActDxRefIdeal_finite_gate m →
    θ_run (Cert.ActDxRefIdeal.defs (F := Ideal)) (onTc (τ := Cert.ActDxRefIdeal.τ) (Cert.ActDxRefIdeal.main (F := Ideal))) ⟨m, fun _ => 0, g⟩ (fun r => (∀ c : Dev Cert.ActDxRefIdeal.nD,
      r.2.mem ((c.tc : Thread Cert.ActDxRefIdeal.nD Cert.ActDxRefIdeal.τ).loc Cert.ActDxRefIdeal.main_arg0) = m ((c.tc : Thread Cert.ActDxRefIdeal.nD Cert.ActDxRefIdeal.τ).loc Cert.ActDxRefIdeal.main_arg0)
      ∧ r.2.mem ((c.tc : Thread Cert.ActDxRefIdeal.nD Cert.ActDxRefIdeal.τ).loc Cert.ActDxRefIdeal.main_arg1) = m ((c.tc : Thread Cert.ActDxRefIdeal.nD Cert.ActDxRefIdeal.τ).loc Cert.ActDxRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)) (v4 : (c : Dev Cert.KernelIdeal.nD) → Buf (Elt Ideal) ((c.tc : Thread Cert.KernelIdeal.nD Cert.KernelIdeal.τ).loc Cert.KernelIdeal.main_v55_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_v55_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormDx_NormDxIdeal : Prop :=
  True

def algebraic_NormDxIdeal_NormDxRefIdeal [hNormDxIdeal : Cert.NormDxIdeal.Facts] [hNormDxRefIdeal : Cert.NormDxRefIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxRefIdeal.nD Cert.NormDxRefIdeal.τ Cert.NormDxRefIdeal.sig) → Buf (Elt Ideal) ℓ) (g' : Dev Cert.NormDxRefIdeal.nD → PrngReg), Pre_NormDxIdeal m →
    (∀ c : Dev Cert.NormDxIdeal.nD,
      m' ((c.tc : Thread Cert.NormDxRefIdeal.nD Cert.NormDxRefIdeal.τ).loc Cert.NormDxRefIdeal.main_arg0) = m ((c.tc : Thread Cert.NormDxIdeal.nD Cert.NormDxIdeal.τ).loc Cert.NormDxIdeal.main_arg0)
      ∧ m' ((c.tc : Thread Cert.NormDxRefIdeal.nD Cert.NormDxRefIdeal.τ).loc Cert.NormDxRefIdeal.main_arg1) = m ((c.tc : Thread Cert.NormDxIdeal.nD Cert.NormDxIdeal.τ).loc Cert.NormDxIdeal.main_arg1)
      ∧ m' ((c.tc : Thread Cert.NormDxRefIdeal.nD Cert.NormDxRefIdeal.τ).loc Cert.NormDxRefIdeal.main_arg2) = m ((c.tc : Thread Cert.NormDxIdeal.nD Cert.NormDxIdeal.τ).loc Cert.NormDxIdeal.main_arg2)
      ∧ m' ((c.tc : Thread Cert.NormDxRefIdeal.nD Cert.NormDxRefIdeal.τ).loc Cert.NormDxRefIdeal.main_arg3) = m ((c.tc : Thread Cert.NormDxIdeal.nD Cert.NormDxIdeal.τ).loc Cert.NormDxIdeal.main_arg3)) →
    ∃ (v0 : (c : Dev Cert.NormDxIdeal.nD) → Buf (Elt Ideal) ((c.tc : Thread Cert.NormDxIdeal.nD Cert.NormDxIdeal.τ).loc Cert.NormDxIdeal.main_v0_0)) (v1 : (c : Dev Cert.NormDxIdeal.nD) → Buf (Elt Ideal) ((c.tc : Thread Cert.NormDxIdeal.nD Cert.NormDxIdeal.τ).loc Cert.NormDxIdeal.main_v0_1)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v0_0) = v0 c
          ∧ r.2.mem ((c.tc : Thread Cert.NormDxIdeal.nD Cert.NormDxIdeal.τ).loc Cert.NormDxIdeal.main_v0_1) = v1 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ θ_run (Cert.NormDxRefIdeal.defs (F := Ideal)) (onTc (τ := Cert.NormDxRefIdeal.τ) (Cert.NormDxRefIdeal.main (F := Ideal))) ⟨m', fun _ => 0, g'⟩ (fun r => ∀ c : Dev Cert.NormDxRefIdeal.nD,
          r.2.mem ((c.tc : Thread Cert.NormDxRefIdeal.nD Cert.NormDxRefIdeal.τ).loc Cert.NormDxRefIdeal.main_v34) = v0 c
          ∧ r.2.mem ((c.tc : Thread Cert.NormDxRefIdeal.nD Cert.NormDxRefIdeal.τ).loc Cert.NormDxRefIdeal.main_v17) = v1 c
          ∧ r.2.mem ((c.tc : Thread Cert.NormDxRefIdeal.nD Cert.NormDxRefIdeal.τ).loc Cert.NormDxRefIdeal.main_arg0) = m' ((c.tc : Thread Cert.NormDxRefIdeal.nD Cert.NormDxRefIdeal.τ).loc Cert.NormDxRefIdeal.main_arg0)
          ∧ r.2.mem ((c.tc : Thread Cert.NormDxRefIdeal.nD Cert.NormDxRefIdeal.τ).loc Cert.NormDxRefIdeal.main_arg1) = m' ((c.tc : Thread Cert.NormDxRefIdeal.nD Cert.NormDxRefIdeal.τ).loc Cert.NormDxRefIdeal.main_arg1)
          ∧ r.2.mem ((c.tc : Thread Cert.NormDxRefIdeal.nD Cert.NormDxRefIdeal.τ).loc Cert.NormDxRefIdeal.main_arg2) = m' ((c.tc : Thread Cert.NormDxRefIdeal.nD Cert.NormDxRefIdeal.τ).loc Cert.NormDxRefIdeal.main_arg2)
          ∧ r.2.mem ((c.tc : Thread Cert.NormDxRefIdeal.nD Cert.NormDxRefIdeal.τ).loc Cert.NormDxRefIdeal.main_arg3) = m' ((c.tc : Thread Cert.NormDxRefIdeal.nD Cert.NormDxRefIdeal.τ).loc Cert.NormDxRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_XbcDw_XbcDwIdeal : Prop :=
  True

def algebraic_XbcDwIdeal_XbcDwRefIdeal [hXbcDwIdeal : Cert.XbcDwIdeal.Facts] [hXbcDwRefIdeal : Cert.XbcDwRefIdeal.Facts] : Prop :=
  ∀ (m : (ℓ : Loc Cert.XbcDwIdeal.nD Cert.XbcDwIdeal.τ Cert.XbcDwIdeal.sig) → Buf (Elt Ideal) ℓ) (g : Dev Cert.XbcDwIdeal.nD → PrngReg)
    (m' : (ℓ : Loc Cert.XbcDwRefIdeal.nD Cert.XbcDwRefIdeal.τ Cert.XbcDwRefIdeal.sig) → Buf (Elt Ideal) ℓ) (g' : Dev Cert.XbcDwRefIdeal.nD → PrngReg), Pre_XbcDwIdeal m →
    (∀ c : Dev Cert.XbcDwIdeal.nD,
      m' ((c.tc : Thread Cert.XbcDwRefIdeal.nD Cert.XbcDwRefIdeal.τ).loc Cert.XbcDwRefIdeal.main_arg0) = m ((c.tc : Thread Cert.XbcDwIdeal.nD Cert.XbcDwIdeal.τ).loc Cert.XbcDwIdeal.main_arg0)
      ∧ m' ((c.tc : Thread Cert.XbcDwRefIdeal.nD Cert.XbcDwRefIdeal.τ).loc Cert.XbcDwRefIdeal.main_arg1) = m ((c.tc : Thread Cert.XbcDwIdeal.nD Cert.XbcDwIdeal.τ).loc Cert.XbcDwIdeal.main_arg1)) →
    ∃ (v0 : (c : Dev Cert.XbcDwIdeal.nD) → Buf (Elt Ideal) ((c.tc : Thread Cert.XbcDwIdeal.nD Cert.XbcDwIdeal.τ).loc Cert.XbcDwIdeal.main_v0)),
      θ_run (Cert.XbcDwIdeal.defs (F := Ideal)) (onTc (τ := Cert.XbcDwIdeal.τ) (Cert.XbcDwIdeal.main (F := Ideal))) ⟨m, fun _ => 0, g⟩ (fun r => ∀ c : Dev Cert.XbcDwIdeal.nD,
          r.2.mem ((c.tc : Thread Cert.XbcDwIdeal.nD Cert.XbcDwIdeal.τ).loc Cert.XbcDwIdeal.main_v0) = v0 c
          ∧ r.2.mem ((c.tc : Thread Cert.XbcDwIdeal.nD Cert.XbcDwIdeal.τ).loc Cert.XbcDwIdeal.main_arg0) = m ((c.tc : Thread Cert.XbcDwIdeal.nD Cert.XbcDwIdeal.τ).loc Cert.XbcDwIdeal.main_arg0)
          ∧ r.2.mem ((c.tc : Thread Cert.XbcDwIdeal.nD Cert.XbcDwIdeal.τ).loc Cert.XbcDwIdeal.main_arg1) = m ((c.tc : Thread Cert.XbcDwIdeal.nD Cert.XbcDwIdeal.τ).loc Cert.XbcDwIdeal.main_arg1))
      ∧ θ_run (Cert.XbcDwRefIdeal.defs (F := Ideal)) (onTc (τ := Cert.XbcDwRefIdeal.τ) (Cert.XbcDwRefIdeal.main (F := Ideal))) ⟨m', fun _ => 0, g'⟩ (fun r => ∀ c : Dev Cert.XbcDwRefIdeal.nD,
          r.2.mem ((c.tc : Thread Cert.XbcDwRefIdeal.nD Cert.XbcDwRefIdeal.τ).loc Cert.XbcDwRefIdeal.main_v6) = v0 c
          ∧ r.2.mem ((c.tc : Thread Cert.XbcDwRefIdeal.nD Cert.XbcDwRefIdeal.τ).loc Cert.XbcDwRefIdeal.main_arg0) = m' ((c.tc : Thread Cert.XbcDwRefIdeal.nD Cert.XbcDwRefIdeal.τ).loc Cert.XbcDwRefIdeal.main_arg0)
          ∧ r.2.mem ((c.tc : Thread Cert.XbcDwRefIdeal.nD Cert.XbcDwRefIdeal.τ).loc Cert.XbcDwRefIdeal.main_arg1) = m' ((c.tc : Thread Cert.XbcDwRefIdeal.nD Cert.XbcDwRefIdeal.τ).loc Cert.XbcDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_Z_ZIdeal : Prop :=
  True

def algebraic_ZIdeal_ZRefIdeal [hZIdeal : Cert.ZIdeal.Facts] [hZRefIdeal : Cert.ZRefIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.ZRefIdeal.nD Cert.ZRefIdeal.τ Cert.ZRefIdeal.sig) → Buf (Elt Ideal) ℓ) (g' : Dev Cert.ZRefIdeal.nD → PrngReg), Pre_ZIdeal m →
    (∀ c : Dev Cert.ZIdeal.nD,
      m' ((c.tc : Thread Cert.ZRefIdeal.nD Cert.ZRefIdeal.τ).loc Cert.ZRefIdeal.main_arg0) = m ((c.tc : Thread Cert.ZIdeal.nD Cert.ZIdeal.τ).loc Cert.ZIdeal.main_arg0)
      ∧ m' ((c.tc : Thread Cert.ZRefIdeal.nD Cert.ZRefIdeal.τ).loc Cert.ZRefIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v0)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v0) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.ZRefIdeal.defs (F := Ideal)) (onTc (τ := Cert.ZRefIdeal.τ) (Cert.ZRefIdeal.main (F := Ideal))) ⟨m', fun _ => 0, g'⟩ (fun r => ∀ c : Dev Cert.ZRefIdeal.nD,
          r.2.mem ((c.tc : Thread Cert.ZRefIdeal.nD Cert.ZRefIdeal.τ).loc Cert.ZRefIdeal.main_v2) = v0 c
          ∧ r.2.mem ((c.tc : Thread Cert.ZRefIdeal.nD Cert.ZRefIdeal.τ).loc Cert.ZRefIdeal.main_arg0) = m' ((c.tc : Thread Cert.ZRefIdeal.nD Cert.ZRefIdeal.τ).loc Cert.ZRefIdeal.main_arg0)
          ∧ r.2.mem ((c.tc : Thread Cert.ZRefIdeal.nD Cert.ZRefIdeal.τ).loc Cert.ZRefIdeal.main_arg1) = m' ((c.tc : Thread Cert.ZRefIdeal.nD Cert.ZRefIdeal.τ).loc Cert.ZRefIdeal.main_arg1))

def preserves_ZDw_ZDwIdeal : Prop :=
  True

def algebraic_ZDwIdeal_ZDwRefIdeal [hZDwIdeal : Cert.ZDwIdeal.Facts] [hZDwRefIdeal : Cert.ZDwRefIdeal.Facts] : Prop :=
  ∀ (m : (ℓ : Loc Cert.ZDwIdeal.nD Cert.ZDwIdeal.τ Cert.ZDwIdeal.sig) → Buf (Elt Ideal) ℓ) (g : Dev Cert.ZDwIdeal.nD → PrngReg)
    (m' : (ℓ : Loc Cert.ZDwRefIdeal.nD Cert.ZDwRefIdeal.τ Cert.ZDwRefIdeal.sig) → Buf (Elt Ideal) ℓ) (g' : Dev Cert.ZDwRefIdeal.nD → PrngReg), Pre_ZDwIdeal m →
    (∀ c : Dev Cert.ZDwIdeal.nD,
      m' ((c.tc : Thread Cert.ZDwRefIdeal.nD Cert.ZDwRefIdeal.τ).loc Cert.ZDwRefIdeal.main_arg0) = m ((c.tc : Thread Cert.ZDwIdeal.nD Cert.ZDwIdeal.τ).loc Cert.ZDwIdeal.main_arg0)
      ∧ m' ((c.tc : Thread Cert.ZDwRefIdeal.nD Cert.ZDwRefIdeal.τ).loc Cert.ZDwRefIdeal.main_arg1) = m ((c.tc : Thread Cert.ZDwIdeal.nD Cert.ZDwIdeal.τ).loc Cert.ZDwIdeal.main_arg1)) →
    ∃ (v0 : (c : Dev Cert.ZDwIdeal.nD) → Buf (Elt Ideal) ((c.tc : Thread Cert.ZDwIdeal.nD Cert.ZDwIdeal.τ).loc Cert.ZDwIdeal.main_v0)),
      θ_run (Cert.ZDwIdeal.defs (F := Ideal)) (onTc (τ := Cert.ZDwIdeal.τ) (Cert.ZDwIdeal.main (F := Ideal))) ⟨m, fun _ => 0, g⟩ (fun r => ∀ c : Dev Cert.ZDwIdeal.nD,
          r.2.mem ((c.tc : Thread Cert.ZDwIdeal.nD Cert.ZDwIdeal.τ).loc Cert.ZDwIdeal.main_v0) = v0 c
          ∧ r.2.mem ((c.tc : Thread Cert.ZDwIdeal.nD Cert.ZDwIdeal.τ).loc Cert.ZDwIdeal.main_arg0) = m ((c.tc : Thread Cert.ZDwIdeal.nD Cert.ZDwIdeal.τ).loc Cert.ZDwIdeal.main_arg0)
          ∧ r.2.mem ((c.tc : Thread Cert.ZDwIdeal.nD Cert.ZDwIdeal.τ).loc Cert.ZDwIdeal.main_arg1) = m ((c.tc : Thread Cert.ZDwIdeal.nD Cert.ZDwIdeal.τ).loc Cert.ZDwIdeal.main_arg1))
      ∧ θ_run (Cert.ZDwRefIdeal.defs (F := Ideal)) (onTc (τ := Cert.ZDwRefIdeal.τ) (Cert.ZDwRefIdeal.main (F := Ideal))) ⟨m', fun _ => 0, g'⟩ (fun r => ∀ c : Dev Cert.ZDwRefIdeal.nD,
          r.2.mem ((c.tc : Thread Cert.ZDwRefIdeal.nD Cert.ZDwRefIdeal.τ).loc Cert.ZDwRefIdeal.main_v6) = v0 c
          ∧ r.2.mem ((c.tc : Thread Cert.ZDwRefIdeal.nD Cert.ZDwRefIdeal.τ).loc Cert.ZDwRefIdeal.main_arg0) = m' ((c.tc : Thread Cert.ZDwRefIdeal.nD Cert.ZDwRefIdeal.τ).loc Cert.ZDwRefIdeal.main_arg0)
          ∧ r.2.mem ((c.tc : Thread Cert.ZDwRefIdeal.nD Cert.ZDwRefIdeal.τ).loc Cert.ZDwRefIdeal.main_arg1) = m' ((c.tc : Thread Cert.ZDwRefIdeal.nD Cert.ZDwRefIdeal.τ).loc Cert.ZDwRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Xbc_XbcIdeal : Prop :=
  True

def algebraic_XbcIdeal_XbcRefIdeal [hXbcIdeal : Cert.XbcIdeal.Facts] [hXbcRefIdeal : Cert.XbcRefIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcRefIdeal.nD Cert.XbcRefIdeal.τ Cert.XbcRefIdeal.sig) → Buf (Elt Ideal) ℓ) (g' : Dev Cert.XbcRefIdeal.nD → PrngReg), Pre_XbcIdeal m →
    (∀ c : Dev Cert.XbcIdeal.nD,
      m' ((c.tc : Thread Cert.XbcRefIdeal.nD Cert.XbcRefIdeal.τ).loc Cert.XbcRefIdeal.main_arg0) = m ((c.tc : Thread Cert.XbcIdeal.nD Cert.XbcIdeal.τ).loc Cert.XbcIdeal.main_arg0)
      ∧ m' ((c.tc : Thread Cert.XbcRefIdeal.nD Cert.XbcRefIdeal.τ).loc Cert.XbcRefIdeal.main_arg1) = m ((c.tc : Thread Cert.XbcIdeal.nD Cert.XbcIdeal.τ).loc Cert.XbcIdeal.main_arg1)) →
    ∃ (v0 : (c : Dev Cert.XbcIdeal.nD) → Buf (Elt Ideal) ((c.tc : Thread Cert.XbcIdeal.nD Cert.XbcIdeal.τ).loc Cert.XbcIdeal.main_v0)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v0) = v0 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ θ_run (Cert.XbcRefIdeal.defs (F := Ideal)) (onTc (τ := Cert.XbcRefIdeal.τ) (Cert.XbcRefIdeal.main (F := Ideal))) ⟨m', fun _ => 0, g'⟩ (fun r => ∀ c : Dev Cert.XbcRefIdeal.nD,
          r.2.mem ((c.tc : Thread Cert.XbcRefIdeal.nD Cert.XbcRefIdeal.τ).loc Cert.XbcRefIdeal.main_v2) = v0 c
          ∧ r.2.mem ((c.tc : Thread Cert.XbcRefIdeal.nD Cert.XbcRefIdeal.τ).loc Cert.XbcRefIdeal.main_arg0) = m' ((c.tc : Thread Cert.XbcRefIdeal.nD Cert.XbcRefIdeal.τ).loc Cert.XbcRefIdeal.main_arg0)
          ∧ r.2.mem ((c.tc : Thread Cert.XbcRefIdeal.nD Cert.XbcRefIdeal.τ).loc Cert.XbcRefIdeal.main_arg1) = m' ((c.tc : Thread Cert.XbcRefIdeal.nD Cert.XbcRefIdeal.τ).loc Cert.XbcRefIdeal.main_arg1))

def preserves_XbcDx_XbcDxIdeal : Prop :=
  True

def algebraic_XbcDxIdeal_XbcDxRefIdeal [hXbcDxIdeal : Cert.XbcDxIdeal.Facts] [hXbcDxRefIdeal : Cert.XbcDxRefIdeal.Facts] : Prop :=
  ∀ (m : (ℓ : Loc Cert.XbcDxIdeal.nD Cert.XbcDxIdeal.τ Cert.XbcDxIdeal.sig) → Buf (Elt Ideal) ℓ) (g : Dev Cert.XbcDxIdeal.nD → PrngReg)
    (m' : (ℓ : Loc Cert.XbcDxRefIdeal.nD Cert.XbcDxRefIdeal.τ Cert.XbcDxRefIdeal.sig) → Buf (Elt Ideal) ℓ) (g' : Dev Cert.XbcDxRefIdeal.nD → PrngReg), Pre_XbcDxIdeal m →
    (∀ c : Dev Cert.XbcDxIdeal.nD,
      m' ((c.tc : Thread Cert.XbcDxRefIdeal.nD Cert.XbcDxRefIdeal.τ).loc Cert.XbcDxRefIdeal.main_arg0) = m ((c.tc : Thread Cert.XbcDxIdeal.nD Cert.XbcDxIdeal.τ).loc Cert.XbcDxIdeal.main_arg0)
      ∧ m' ((c.tc : Thread Cert.XbcDxRefIdeal.nD Cert.XbcDxRefIdeal.τ).loc Cert.XbcDxRefIdeal.main_arg1) = m ((c.tc : Thread Cert.XbcDxIdeal.nD Cert.XbcDxIdeal.τ).loc Cert.XbcDxIdeal.main_arg1)) →
    ∃ (v0 : (c : Dev Cert.XbcDxIdeal.nD) → Buf (Elt Ideal) ((c.tc : Thread Cert.XbcDxIdeal.nD Cert.XbcDxIdeal.τ).loc Cert.XbcDxIdeal.main_v0)),
      θ_run (Cert.XbcDxIdeal.defs (F := Ideal)) (onTc (τ := Cert.XbcDxIdeal.τ) (Cert.XbcDxIdeal.main (F := Ideal))) ⟨m, fun _ => 0, g⟩ (fun r => ∀ c : Dev Cert.XbcDxIdeal.nD,
          r.2.mem ((c.tc : Thread Cert.XbcDxIdeal.nD Cert.XbcDxIdeal.τ).loc Cert.XbcDxIdeal.main_v0) = v0 c
          ∧ r.2.mem ((c.tc : Thread Cert.XbcDxIdeal.nD Cert.XbcDxIdeal.τ).loc Cert.XbcDxIdeal.main_arg0) = m ((c.tc : Thread Cert.XbcDxIdeal.nD Cert.XbcDxIdeal.τ).loc Cert.XbcDxIdeal.main_arg0)
          ∧ r.2.mem ((c.tc : Thread Cert.XbcDxIdeal.nD Cert.XbcDxIdeal.τ).loc Cert.XbcDxIdeal.main_arg1) = m ((c.tc : Thread Cert.XbcDxIdeal.nD Cert.XbcDxIdeal.τ).loc Cert.XbcDxIdeal.main_arg1))
      ∧ θ_run (Cert.XbcDxRefIdeal.defs (F := Ideal)) (onTc (τ := Cert.XbcDxRefIdeal.τ) (Cert.XbcDxRefIdeal.main (F := Ideal))) ⟨m', fun _ => 0, g'⟩ (fun r => ∀ c : Dev Cert.XbcDxRefIdeal.nD,
          r.2.mem ((c.tc : Thread Cert.XbcDxRefIdeal.nD Cert.XbcDxRefIdeal.τ).loc Cert.XbcDxRefIdeal.main_v4) = v0 c
          ∧ r.2.mem ((c.tc : Thread Cert.XbcDxRefIdeal.nD Cert.XbcDxRefIdeal.τ).loc Cert.XbcDxRefIdeal.main_arg0) = m' ((c.tc : Thread Cert.XbcDxRefIdeal.nD Cert.XbcDxRefIdeal.τ).loc Cert.XbcDxRefIdeal.main_arg0)
          ∧ r.2.mem ((c.tc : Thread Cert.XbcDxRefIdeal.nD Cert.XbcDxRefIdeal.τ).loc Cert.XbcDxRefIdeal.main_arg1) = m' ((c.tc : Thread Cert.XbcDxRefIdeal.nD Cert.XbcDxRefIdeal.τ).loc Cert.XbcDxRefIdeal.main_arg1))

def preserves_ZDx_ZDxIdeal : Prop :=
  True

def algebraic_ZDxIdeal_ZDxRefIdeal [hZDxIdeal : Cert.ZDxIdeal.Facts] [hZDxRefIdeal : Cert.ZDxRefIdeal.Facts] : Prop :=
  ∀ (m : (ℓ : Loc Cert.ZDxIdeal.nD Cert.ZDxIdeal.τ Cert.ZDxIdeal.sig) → Buf (Elt Ideal) ℓ) (g : Dev Cert.ZDxIdeal.nD → PrngReg)
    (m' : (ℓ : Loc Cert.ZDxRefIdeal.nD Cert.ZDxRefIdeal.τ Cert.ZDxRefIdeal.sig) → Buf (Elt Ideal) ℓ) (g' : Dev Cert.ZDxRefIdeal.nD → PrngReg), Pre_ZDxIdeal m →
    (∀ c : Dev Cert.ZDxIdeal.nD,
      m' ((c.tc : Thread Cert.ZDxRefIdeal.nD Cert.ZDxRefIdeal.τ).loc Cert.ZDxRefIdeal.main_arg0) = m ((c.tc : Thread Cert.ZDxIdeal.nD Cert.ZDxIdeal.τ).loc Cert.ZDxIdeal.main_arg0)
      ∧ m' ((c.tc : Thread Cert.ZDxRefIdeal.nD Cert.ZDxRefIdeal.τ).loc Cert.ZDxRefIdeal.main_arg1) = m ((c.tc : Thread Cert.ZDxIdeal.nD Cert.ZDxIdeal.τ).loc Cert.ZDxIdeal.main_arg1)
      ∧ m' ((c.tc : Thread Cert.ZDxRefIdeal.nD Cert.ZDxRefIdeal.τ).loc Cert.ZDxRefIdeal.main_arg2) = m ((c.tc : Thread Cert.ZDxIdeal.nD Cert.ZDxIdeal.τ).loc Cert.ZDxIdeal.main_arg2)) →
    ∃ (v0 : (c : Dev Cert.ZDxIdeal.nD) → Buf (Elt Ideal) ((c.tc : Thread Cert.ZDxIdeal.nD Cert.ZDxIdeal.τ).loc Cert.ZDxIdeal.main_v0)),
      θ_run (Cert.ZDxIdeal.defs (F := Ideal)) (onTc (τ := Cert.ZDxIdeal.τ) (Cert.ZDxIdeal.main (F := Ideal))) ⟨m, fun _ => 0, g⟩ (fun r => ∀ c : Dev Cert.ZDxIdeal.nD,
          r.2.mem ((c.tc : Thread Cert.ZDxIdeal.nD Cert.ZDxIdeal.τ).loc Cert.ZDxIdeal.main_v0) = v0 c
          ∧ r.2.mem ((c.tc : Thread Cert.ZDxIdeal.nD Cert.ZDxIdeal.τ).loc Cert.ZDxIdeal.main_arg0) = m ((c.tc : Thread Cert.ZDxIdeal.nD Cert.ZDxIdeal.τ).loc Cert.ZDxIdeal.main_arg0)
          ∧ r.2.mem ((c.tc : Thread Cert.ZDxIdeal.nD Cert.ZDxIdeal.τ).loc Cert.ZDxIdeal.main_arg1) = m ((c.tc : Thread Cert.ZDxIdeal.nD Cert.ZDxIdeal.τ).loc Cert.ZDxIdeal.main_arg1)
          ∧ r.2.mem ((c.tc : Thread Cert.ZDxIdeal.nD Cert.ZDxIdeal.τ).loc Cert.ZDxIdeal.main_arg2) = m ((c.tc : Thread Cert.ZDxIdeal.nD Cert.ZDxIdeal.τ).loc Cert.ZDxIdeal.main_arg2))
      ∧ θ_run (Cert.ZDxRefIdeal.defs (F := Ideal)) (onTc (τ := Cert.ZDxRefIdeal.τ) (Cert.ZDxRefIdeal.main (F := Ideal))) ⟨m', fun _ => 0, g'⟩ (fun r => ∀ c : Dev Cert.ZDxRefIdeal.nD,
          r.2.mem ((c.tc : Thread Cert.ZDxRefIdeal.nD Cert.ZDxRefIdeal.τ).loc Cert.ZDxRefIdeal.main_v5) = v0 c
          ∧ r.2.mem ((c.tc : Thread Cert.ZDxRefIdeal.nD Cert.ZDxRefIdeal.τ).loc Cert.ZDxRefIdeal.main_arg0) = m' ((c.tc : Thread Cert.ZDxRefIdeal.nD Cert.ZDxRefIdeal.τ).loc Cert.ZDxRefIdeal.main_arg0)
          ∧ r.2.mem ((c.tc : Thread Cert.ZDxRefIdeal.nD Cert.ZDxRefIdeal.τ).loc Cert.ZDxRefIdeal.main_arg1) = m' ((c.tc : Thread Cert.ZDxRefIdeal.nD Cert.ZDxRefIdeal.τ).loc Cert.ZDxRefIdeal.main_arg1)
          ∧ r.2.mem ((c.tc : Thread Cert.ZDxRefIdeal.nD Cert.ZDxRefIdeal.τ).loc Cert.ZDxRefIdeal.main_arg2) = m' ((c.tc : Thread Cert.ZDxRefIdeal.nD Cert.ZDxRefIdeal.τ).loc Cert.ZDxRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_ProjV_ProjVIdeal : Prop :=
  True

def algebraic_ProjVIdeal_ProjVRefIdeal [hProjVIdeal : Cert.ProjVIdeal.Facts] [hProjVRefIdeal : Cert.ProjVRefIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVRefIdeal.nD Cert.ProjVRefIdeal.τ Cert.ProjVRefIdeal.sig) → Buf (Elt Ideal) ℓ) (g' : Dev Cert.ProjVRefIdeal.nD → PrngReg), Pre_ProjVIdeal m →
    (∀ c : Dev Cert.ProjVIdeal.nD,
      m' ((c.tc : Thread Cert.ProjVRefIdeal.nD Cert.ProjVRefIdeal.τ).loc Cert.ProjVRefIdeal.main_arg0) = m ((c.tc : Thread Cert.ProjVIdeal.nD Cert.ProjVIdeal.τ).loc Cert.ProjVIdeal.main_arg0)
      ∧ m' ((c.tc : Thread Cert.ProjVRefIdeal.nD Cert.ProjVRefIdeal.τ).loc Cert.ProjVRefIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v0)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v0) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVRefIdeal.defs (F := Ideal)) (onTc (τ := Cert.ProjVRefIdeal.τ) (Cert.ProjVRefIdeal.main (F := Ideal))) ⟨m', fun _ => 0, g'⟩ (fun r => ∀ c : Dev Cert.ProjVRefIdeal.nD,
          r.2.mem ((c.tc : Thread Cert.ProjVRefIdeal.nD Cert.ProjVRefIdeal.τ).loc Cert.ProjVRefIdeal.main_v3) = v0 c
          ∧ r.2.mem ((c.tc : Thread Cert.ProjVRefIdeal.nD Cert.ProjVRefIdeal.τ).loc Cert.ProjVRefIdeal.main_arg0) = m' ((c.tc : Thread Cert.ProjVRefIdeal.nD Cert.ProjVRefIdeal.τ).loc Cert.ProjVRefIdeal.main_arg0)
          ∧ r.2.mem ((c.tc : Thread Cert.ProjVRefIdeal.nD Cert.ProjVRefIdeal.τ).loc Cert.ProjVRefIdeal.main_arg1) = m' ((c.tc : Thread Cert.ProjVRefIdeal.nD Cert.ProjVRefIdeal.τ).loc Cert.ProjVRefIdeal.main_arg1))

def preserves_ProjVDx_ProjVDxIdeal : Prop :=
  True

def algebraic_ProjVDxIdeal_ProjVDxRefIdeal [hProjVDxIdeal : Cert.ProjVDxIdeal.Facts] [hProjVDxRefIdeal : Cert.ProjVDxRefIdeal.Facts] : Prop :=
  ∀ (m : (ℓ : Loc Cert.ProjVDxIdeal.nD Cert.ProjVDxIdeal.τ Cert.ProjVDxIdeal.sig) → Buf (Elt Ideal) ℓ) (g : Dev Cert.ProjVDxIdeal.nD → PrngReg)
    (m' : (ℓ : Loc Cert.ProjVDxRefIdeal.nD Cert.ProjVDxRefIdeal.τ Cert.ProjVDxRefIdeal.sig) → Buf (Elt Ideal) ℓ) (g' : Dev Cert.ProjVDxRefIdeal.nD → PrngReg), Pre_ProjVDxIdeal m →
    (∀ c : Dev Cert.ProjVDxIdeal.nD,
      m' ((c.tc : Thread Cert.ProjVDxRefIdeal.nD Cert.ProjVDxRefIdeal.τ).loc Cert.ProjVDxRefIdeal.main_arg0) = m ((c.tc : Thread Cert.ProjVDxIdeal.nD Cert.ProjVDxIdeal.τ).loc Cert.ProjVDxIdeal.main_arg0)
      ∧ m' ((c.tc : Thread Cert.ProjVDxRefIdeal.nD Cert.ProjVDxRefIdeal.τ).loc Cert.ProjVDxRefIdeal.main_arg1) = m ((c.tc : Thread Cert.ProjVDxIdeal.nD Cert.ProjVDxIdeal.τ).loc Cert.ProjVDxIdeal.main_arg1)
      ∧ m' ((c.tc : Thread Cert.ProjVDxRefIdeal.nD Cert.ProjVDxRefIdeal.τ).loc Cert.ProjVDxRefIdeal.main_arg2) = m ((c.tc : Thread Cert.ProjVDxIdeal.nD Cert.ProjVDxIdeal.τ).loc Cert.ProjVDxIdeal.main_arg2)) →
    ∃ (v0 : (c : Dev Cert.ProjVDxIdeal.nD) → Buf (Elt Ideal) ((c.tc : Thread Cert.ProjVDxIdeal.nD Cert.ProjVDxIdeal.τ).loc Cert.ProjVDxIdeal.main_v0)),
      θ_run (Cert.ProjVDxIdeal.defs (F := Ideal)) (onTc (τ := Cert.ProjVDxIdeal.τ) (Cert.ProjVDxIdeal.main (F := Ideal))) ⟨m, fun _ => 0, g⟩ (fun r => ∀ c : Dev Cert.ProjVDxIdeal.nD,
          r.2.mem ((c.tc : Thread Cert.ProjVDxIdeal.nD Cert.ProjVDxIdeal.τ).loc Cert.ProjVDxIdeal.main_v0) = v0 c
          ∧ r.2.mem ((c.tc : Thread Cert.ProjVDxIdeal.nD Cert.ProjVDxIdeal.τ).loc Cert.ProjVDxIdeal.main_arg0) = m ((c.tc : Thread Cert.ProjVDxIdeal.nD Cert.ProjVDxIdeal.τ).loc Cert.ProjVDxIdeal.main_arg0)
          ∧ r.2.mem ((c.tc : Thread Cert.ProjVDxIdeal.nD Cert.ProjVDxIdeal.τ).loc Cert.ProjVDxIdeal.main_arg1) = m ((c.tc : Thread Cert.ProjVDxIdeal.nD Cert.ProjVDxIdeal.τ).loc Cert.ProjVDxIdeal.main_arg1)
          ∧ r.2.mem ((c.tc : Thread Cert.ProjVDxIdeal.nD Cert.ProjVDxIdeal.τ).loc Cert.ProjVDxIdeal.main_arg2) = m ((c.tc : Thread Cert.ProjVDxIdeal.nD Cert.ProjVDxIdeal.τ).loc Cert.ProjVDxIdeal.main_arg2))
      ∧ θ_run (Cert.ProjVDxRefIdeal.defs (F := Ideal)) (onTc (τ := Cert.ProjVDxRefIdeal.τ) (Cert.ProjVDxRefIdeal.main (F := Ideal))) ⟨m', fun _ => 0, g'⟩ (fun r => ∀ c : Dev Cert.ProjVDxRefIdeal.nD,
          r.2.mem ((c.tc : Thread Cert.ProjVDxRefIdeal.nD Cert.ProjVDxRefIdeal.τ).loc Cert.ProjVDxRefIdeal.main_v5) = v0 c
          ∧ r.2.mem ((c.tc : Thread Cert.ProjVDxRefIdeal.nD Cert.ProjVDxRefIdeal.τ).loc Cert.ProjVDxRefIdeal.main_arg0) = m' ((c.tc : Thread Cert.ProjVDxRefIdeal.nD Cert.ProjVDxRefIdeal.τ).loc Cert.ProjVDxRefIdeal.main_arg0)
          ∧ r.2.mem ((c.tc : Thread Cert.ProjVDxRefIdeal.nD Cert.ProjVDxRefIdeal.τ).loc Cert.ProjVDxRefIdeal.main_arg1) = m' ((c.tc : Thread Cert.ProjVDxRefIdeal.nD Cert.ProjVDxRefIdeal.τ).loc Cert.ProjVDxRefIdeal.main_arg1)
          ∧ r.2.mem ((c.tc : Thread Cert.ProjVDxRefIdeal.nD Cert.ProjVDxRefIdeal.τ).loc Cert.ProjVDxRefIdeal.main_arg2) = m' ((c.tc : Thread Cert.ProjVDxRefIdeal.nD Cert.ProjVDxRefIdeal.τ).loc Cert.ProjVDxRefIdeal.main_arg2))

def preserves_ProjO_ProjOIdeal : Prop :=
  True

def algebraic_ProjOIdeal_ProjORefIdeal [hProjOIdeal : Cert.ProjOIdeal.Facts] [hProjORefIdeal : Cert.ProjORefIdeal.Facts] : Prop :=
  ∀ (m : (ℓ : Loc Cert.ProjOIdeal.nD Cert.ProjOIdeal.τ Cert.ProjOIdeal.sig) → Buf (Elt Ideal) ℓ) (g : Dev Cert.ProjOIdeal.nD → PrngReg)
    (m' : (ℓ : Loc Cert.ProjORefIdeal.nD Cert.ProjORefIdeal.τ Cert.ProjORefIdeal.sig) → Buf (Elt Ideal) ℓ) (g' : Dev Cert.ProjORefIdeal.nD → PrngReg), Pre_ProjOIdeal m →
    (∀ c : Dev Cert.ProjOIdeal.nD,
      m' ((c.tc : Thread Cert.ProjORefIdeal.nD Cert.ProjORefIdeal.τ).loc Cert.ProjORefIdeal.main_arg0) = m ((c.tc : Thread Cert.ProjOIdeal.nD Cert.ProjOIdeal.τ).loc Cert.ProjOIdeal.main_arg0)
      ∧ m' ((c.tc : Thread Cert.ProjORefIdeal.nD Cert.ProjORefIdeal.τ).loc Cert.ProjORefIdeal.main_arg1) = m ((c.tc : Thread Cert.ProjOIdeal.nD Cert.ProjOIdeal.τ).loc Cert.ProjOIdeal.main_arg1)
      ∧ m' ((c.tc : Thread Cert.ProjORefIdeal.nD Cert.ProjORefIdeal.τ).loc Cert.ProjORefIdeal.main_arg2) = m ((c.tc : Thread Cert.ProjOIdeal.nD Cert.ProjOIdeal.τ).loc Cert.ProjOIdeal.main_arg2)) →
    ∃ (v0 : (c : Dev Cert.ProjOIdeal.nD) → Buf (Elt Ideal) ((c.tc : Thread Cert.ProjOIdeal.nD Cert.ProjOIdeal.τ).loc Cert.ProjOIdeal.main_v0)),
      θ_run (Cert.ProjOIdeal.defs (F := Ideal)) (onTc (τ := Cert.ProjOIdeal.τ) (Cert.ProjOIdeal.main (F := Ideal))) ⟨m, fun _ => 0, g⟩ (fun r => ∀ c : Dev Cert.ProjOIdeal.nD,
          r.2.mem ((c.tc : Thread Cert.ProjOIdeal.nD Cert.ProjOIdeal.τ).loc Cert.ProjOIdeal.main_v0) = v0 c
          ∧ r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
          ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
          ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2))
      ∧ θ_run (Cert.ProjORefIdeal.defs (F := Ideal)) (onTc (τ := Cert.ProjORefIdeal.τ) (Cert.ProjORefIdeal.main (F := Ideal))) ⟨m', fun _ => 0, g'⟩ (fun r => ∀ c : Dev Cert.ProjORefIdeal.nD,
          r.2.mem ((c.tc : Thread Cert.ProjORefIdeal.nD Cert.ProjORefIdeal.τ).loc Cert.ProjORefIdeal.main_v3) = v0 c
          ∧ r.2.mem ((c.tc : Thread Cert.ProjORefIdeal.nD Cert.ProjORefIdeal.τ).loc Cert.ProjORefIdeal.main_arg0) = m' ((c.tc : Thread Cert.ProjORefIdeal.nD Cert.ProjORefIdeal.τ).loc Cert.ProjORefIdeal.main_arg0)
          ∧ r.2.mem ((c.tc : Thread Cert.ProjORefIdeal.nD Cert.ProjORefIdeal.τ).loc Cert.ProjORefIdeal.main_arg1) = m' ((c.tc : Thread Cert.ProjORefIdeal.nD Cert.ProjORefIdeal.τ).loc Cert.ProjORefIdeal.main_arg1)
          ∧ r.2.mem ((c.tc : Thread Cert.ProjORefIdeal.nD Cert.ProjORefIdeal.τ).loc Cert.ProjORefIdeal.main_arg2) = m' ((c.tc : Thread Cert.ProjORefIdeal.nD Cert.ProjORefIdeal.τ).loc Cert.ProjORefIdeal.main_arg2))

def preserves_ProjODx_ProjODxIdeal : Prop :=
  True

def algebraic_ProjODxIdeal_ProjODxRefIdeal [hProjODxIdeal : Cert.ProjODxIdeal.Facts] [hProjODxRefIdeal : Cert.ProjODxRefIdeal.Facts] : Prop :=
  ∀ (m : (ℓ : Loc Cert.ProjODxIdeal.nD Cert.ProjODxIdeal.τ Cert.ProjODxIdeal.sig) → Buf (Elt Ideal) ℓ) (g : Dev Cert.ProjODxIdeal.nD → PrngReg)
    (m' : (ℓ : Loc Cert.ProjODxRefIdeal.nD Cert.ProjODxRefIdeal.τ Cert.ProjODxRefIdeal.sig) → Buf (Elt Ideal) ℓ) (g' : Dev Cert.ProjODxRefIdeal.nD → PrngReg), Pre_ProjODxIdeal m →
    (∀ c : Dev Cert.ProjODxIdeal.nD,
      m' ((c.tc : Thread Cert.ProjODxRefIdeal.nD Cert.ProjODxRefIdeal.τ).loc Cert.ProjODxRefIdeal.main_arg0) = m ((c.tc : Thread Cert.ProjODxIdeal.nD Cert.ProjODxIdeal.τ).loc Cert.ProjODxIdeal.main_arg0)
      ∧ m' ((c.tc : Thread Cert.ProjODxRefIdeal.nD Cert.ProjODxRefIdeal.τ).loc Cert.ProjODxRefIdeal.main_arg1) = m ((c.tc : Thread Cert.ProjODxIdeal.nD Cert.ProjODxIdeal.τ).loc Cert.ProjODxIdeal.main_arg1)) →
    ∃ (v0 : (c : Dev Cert.ProjODxIdeal.nD) → Buf (Elt Ideal) ((c.tc : Thread Cert.ProjODxIdeal.nD Cert.ProjODxIdeal.τ).loc Cert.ProjODxIdeal.main_v0)),
      θ_run (Cert.ProjODxIdeal.defs (F := Ideal)) (onTc (τ := Cert.ProjODxIdeal.τ) (Cert.ProjODxIdeal.main (F := Ideal))) ⟨m, fun _ => 0, g⟩ (fun r => ∀ c : Dev Cert.ProjODxIdeal.nD,
          r.2.mem ((c.tc : Thread Cert.ProjODxIdeal.nD Cert.ProjODxIdeal.τ).loc Cert.ProjODxIdeal.main_v0) = v0 c
          ∧ r.2.mem ((c.tc : Thread Cert.ProjODxIdeal.nD Cert.ProjODxIdeal.τ).loc Cert.ProjODxIdeal.main_arg0) = m ((c.tc : Thread Cert.ProjODxIdeal.nD Cert.ProjODxIdeal.τ).loc Cert.ProjODxIdeal.main_arg0)
          ∧ r.2.mem ((c.tc : Thread Cert.ProjODxIdeal.nD Cert.ProjODxIdeal.τ).loc Cert.ProjODxIdeal.main_arg1) = m ((c.tc : Thread Cert.ProjODxIdeal.nD Cert.ProjODxIdeal.τ).loc Cert.ProjODxIdeal.main_arg1))
      ∧ θ_run (Cert.ProjODxRefIdeal.defs (F := Ideal)) (onTc (τ := Cert.ProjODxRefIdeal.τ) (Cert.ProjODxRefIdeal.main (F := Ideal))) ⟨m', fun _ => 0, g'⟩ (fun r => ∀ c : Dev Cert.ProjODxRefIdeal.nD,
          r.2.mem ((c.tc : Thread Cert.ProjODxRefIdeal.nD Cert.ProjODxRefIdeal.τ).loc Cert.ProjODxRefIdeal.main_v5) = v0 c
          ∧ r.2.mem ((c.tc : Thread Cert.ProjODxRefIdeal.nD Cert.ProjODxRefIdeal.τ).loc Cert.ProjODxRefIdeal.main_arg0) = m' ((c.tc : Thread Cert.ProjODxRefIdeal.nD Cert.ProjODxRefIdeal.τ).loc Cert.ProjODxRefIdeal.main_arg0)
          ∧ r.2.mem ((c.tc : Thread Cert.ProjODxRefIdeal.nD Cert.ProjODxRefIdeal.τ).loc Cert.ProjODxRefIdeal.main_arg1) = m' ((c.tc : Thread Cert.ProjODxRefIdeal.nD Cert.ProjODxRefIdeal.τ).loc Cert.ProjODxRefIdeal.main_arg1))

def preserves_ActDx_ActDxIdeal : Prop :=
  True

def algebraic_ActDxIdeal_ActDxRefIdeal_pre_finite_gate [hActDxIdeal : Cert.ActDxIdeal.Facts] [hActDxRefIdeal : Cert.ActDxRefIdeal.Facts] [hPre_finite_gate : Cert.Pre_finite_gate.Facts] : Prop :=
  ∀ (m : (ℓ : Loc Cert.ActDxIdeal.nD Cert.ActDxIdeal.τ Cert.ActDxIdeal.sig) → Buf (Elt Ideal) ℓ) (g : Dev Cert.ActDxIdeal.nD → PrngReg)
    (m' : (ℓ : Loc Cert.ActDxRefIdeal.nD Cert.ActDxRefIdeal.τ Cert.ActDxRefIdeal.sig) → Buf (Elt Ideal) ℓ) (g' : Dev Cert.ActDxRefIdeal.nD → PrngReg), Pre_ActDxIdeal_finite_gate m →
    (∀ c : Dev Cert.ActDxIdeal.nD,
      m' ((c.tc : Thread Cert.ActDxRefIdeal.nD Cert.ActDxRefIdeal.τ).loc Cert.ActDxRefIdeal.main_arg0) = m ((c.tc : Thread Cert.ActDxIdeal.nD Cert.ActDxIdeal.τ).loc Cert.ActDxIdeal.main_arg0)
      ∧ m' ((c.tc : Thread Cert.ActDxRefIdeal.nD Cert.ActDxRefIdeal.τ).loc Cert.ActDxRefIdeal.main_arg1) = m ((c.tc : Thread Cert.ActDxIdeal.nD Cert.ActDxIdeal.τ).loc Cert.ActDxIdeal.main_arg1)) →
    ∃ (v0 : (c : Dev Cert.ActDxIdeal.nD) → Buf (Elt Ideal) ((c.tc : Thread Cert.ActDxIdeal.nD Cert.ActDxIdeal.τ).loc Cert.ActDxIdeal.main_v0)),
      θ_run (Cert.ActDxIdeal.defs (F := Ideal)) (onTc (τ := Cert.ActDxIdeal.τ) (Cert.ActDxIdeal.main (F := Ideal))) ⟨m, fun _ => 0, g⟩ (fun r => ∀ c : Dev Cert.ActDxIdeal.nD,
          r.2.mem ((c.tc : Thread Cert.ActDxIdeal.nD Cert.ActDxIdeal.τ).loc Cert.ActDxIdeal.main_v0) = v0 c
          ∧ r.2.mem ((c.tc : Thread Cert.ActDxIdeal.nD Cert.ActDxIdeal.τ).loc Cert.ActDxIdeal.main_arg0) = m ((c.tc : Thread Cert.ActDxIdeal.nD Cert.ActDxIdeal.τ).loc Cert.ActDxIdeal.main_arg0)
          ∧ r.2.mem ((c.tc : Thread Cert.ActDxIdeal.nD Cert.ActDxIdeal.τ).loc Cert.ActDxIdeal.main_arg1) = m ((c.tc : Thread Cert.ActDxIdeal.nD Cert.ActDxIdeal.τ).loc Cert.ActDxIdeal.main_arg1))
      ∧ θ_run (Cert.ActDxRefIdeal.defs (F := Ideal)) (onTc (τ := Cert.ActDxRefIdeal.τ) (Cert.ActDxRefIdeal.main (F := Ideal))) ⟨m', fun _ => 0, g'⟩ (fun r => ∀ c : Dev Cert.ActDxRefIdeal.nD,
          r.2.mem ((c.tc : Thread Cert.ActDxRefIdeal.nD Cert.ActDxRefIdeal.τ).loc Cert.ActDxRefIdeal.main_v9) = v0 c
          ∧ r.2.mem ((c.tc : Thread Cert.ActDxRefIdeal.nD Cert.ActDxRefIdeal.τ).loc Cert.ActDxRefIdeal.main_arg0) = m' ((c.tc : Thread Cert.ActDxRefIdeal.nD Cert.ActDxRefIdeal.τ).loc Cert.ActDxRefIdeal.main_arg0)
          ∧ r.2.mem ((c.tc : Thread Cert.ActDxRefIdeal.nD Cert.ActDxRefIdeal.τ).loc Cert.ActDxRefIdeal.main_arg1) = m' ((c.tc : Thread Cert.ActDxRefIdeal.nD Cert.ActDxRefIdeal.τ).loc Cert.ActDxRefIdeal.main_arg1))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hNorm : Cert.Norm.Facts) (hNormIdeal : Cert.NormIdeal.Facts) (hNormRefIdeal : Cert.NormRefIdeal.Facts) (hNormDx : Cert.NormDx.Facts) (hNormDxIdeal : Cert.NormDxIdeal.Facts) (hNormDxRefIdeal : Cert.NormDxRefIdeal.Facts) (hProj : Cert.Proj.Facts) (hProjIdeal : Cert.ProjIdeal.Facts) (hProjRefIdeal : Cert.ProjRefIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hXbcDw : Cert.XbcDw.Facts) (hXbcDwIdeal : Cert.XbcDwIdeal.Facts) (hXbcDwRefIdeal : Cert.XbcDwRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hZ : Cert.Z.Facts) (hZIdeal : Cert.ZIdeal.Facts) (hZRefIdeal : Cert.ZRefIdeal.Facts) (hZDw : Cert.ZDw.Facts) (hZDwIdeal : Cert.ZDwIdeal.Facts) (hZDwRefIdeal : Cert.ZDwRefIdeal.Facts) (hConv : Cert.Conv.Facts) (hConvIdeal : Cert.ConvIdeal.Facts) (hConvRefIdeal : Cert.ConvRefIdeal.Facts) (hXbc : Cert.Xbc.Facts) (hXbcIdeal : Cert.XbcIdeal.Facts) (hXbcRefIdeal : Cert.XbcRefIdeal.Facts) (hXbcDx : Cert.XbcDx.Facts) (hXbcDxIdeal : Cert.XbcDxIdeal.Facts) (hXbcDxRefIdeal : Cert.XbcDxRefIdeal.Facts) (hZDx : Cert.ZDx.Facts) (hZDxIdeal : Cert.ZDxIdeal.Facts) (hZDxRefIdeal : Cert.ZDxRefIdeal.Facts) (hOut : Cert.Out.Facts) (hOutIdeal : Cert.OutIdeal.Facts) (hOutRefIdeal : Cert.OutRefIdeal.Facts) (hProjV : Cert.ProjV.Facts) (hProjVIdeal : Cert.ProjVIdeal.Facts) (hProjVRefIdeal : Cert.ProjVRefIdeal.Facts) (hProjVDx : Cert.ProjVDx.Facts) (hProjVDxIdeal : Cert.ProjVDxIdeal.Facts) (hProjVDxRefIdeal : Cert.ProjVDxRefIdeal.Facts) (hProjO : Cert.ProjO.Facts) (hProjOIdeal : Cert.ProjOIdeal.Facts) (hProjORefIdeal : Cert.ProjORefIdeal.Facts) (hProjODx : Cert.ProjODx.Facts) (hProjODxIdeal : Cert.ProjODxIdeal.Facts) (hProjODxRefIdeal : Cert.ProjODxRefIdeal.Facts) (hActDx : Cert.ActDx.Facts) (hActDxIdeal : Cert.ActDxIdeal.Facts) (hActDxRefIdeal : Cert.ActDxRefIdeal.Facts) (hPre_finite_inputs : Cert.Pre_finite_inputs.Facts) (hPre_finite_gate : Cert.Pre_finite_gate.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActRefIdeal (hActRefIdeal := hActRefIdeal)
    ∧ quiescent_Norm (hNorm := hNorm)
    ∧ quiescent_NormIdeal (hNormIdeal := hNormIdeal)
    ∧ quiescent_NormRefIdeal (hNormRefIdeal := hNormRefIdeal)
    ∧ quiescent_NormDx (hNormDx := hNormDx)
    ∧ quiescent_NormDxIdeal (hNormDxIdeal := hNormDxIdeal)
    ∧ quiescent_NormDxRefIdeal (hNormDxRefIdeal := hNormDxRefIdeal)
    ∧ quiescent_Proj (hProj := hProj)
    ∧ quiescent_ProjIdeal (hProjIdeal := hProjIdeal)
    ∧ quiescent_ProjRefIdeal (hProjRefIdeal := hProjRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_XbcDw (hXbcDw := hXbcDw)
    ∧ quiescent_XbcDwIdeal (hXbcDwIdeal := hXbcDwIdeal)
    ∧ quiescent_XbcDwRefIdeal (hXbcDwRefIdeal := hXbcDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_Z (hZ := hZ)
    ∧ quiescent_ZIdeal (hZIdeal := hZIdeal)
    ∧ quiescent_ZRefIdeal (hZRefIdeal := hZRefIdeal)
    ∧ quiescent_ZDw (hZDw := hZDw)
    ∧ quiescent_ZDwIdeal (hZDwIdeal := hZDwIdeal)
    ∧ quiescent_ZDwRefIdeal (hZDwRefIdeal := hZDwRefIdeal)
    ∧ quiescent_Conv (hConv := hConv)
    ∧ quiescent_ConvIdeal (hConvIdeal := hConvIdeal)
    ∧ quiescent_ConvRefIdeal (hConvRefIdeal := hConvRefIdeal)
    ∧ quiescent_Xbc (hXbc := hXbc)
    ∧ quiescent_XbcIdeal (hXbcIdeal := hXbcIdeal)
    ∧ quiescent_XbcRefIdeal (hXbcRefIdeal := hXbcRefIdeal)
    ∧ quiescent_XbcDx (hXbcDx := hXbcDx)
    ∧ quiescent_XbcDxIdeal (hXbcDxIdeal := hXbcDxIdeal)
    ∧ quiescent_XbcDxRefIdeal (hXbcDxRefIdeal := hXbcDxRefIdeal)
    ∧ quiescent_ZDx (hZDx := hZDx)
    ∧ quiescent_ZDxIdeal (hZDxIdeal := hZDxIdeal)
    ∧ quiescent_ZDxRefIdeal (hZDxRefIdeal := hZDxRefIdeal)
    ∧ quiescent_Out (hOut := hOut)
    ∧ quiescent_OutIdeal (hOutIdeal := hOutIdeal)
    ∧ quiescent_OutRefIdeal (hOutRefIdeal := hOutRefIdeal)
    ∧ quiescent_ProjV (hProjV := hProjV)
    ∧ quiescent_ProjVIdeal (hProjVIdeal := hProjVIdeal)
    ∧ quiescent_ProjVRefIdeal (hProjVRefIdeal := hProjVRefIdeal)
    ∧ quiescent_ProjVDx (hProjVDx := hProjVDx)
    ∧ quiescent_ProjVDxIdeal (hProjVDxIdeal := hProjVDxIdeal)
    ∧ quiescent_ProjVDxRefIdeal (hProjVDxRefIdeal := hProjVDxRefIdeal)
    ∧ quiescent_ProjO (hProjO := hProjO)
    ∧ quiescent_ProjOIdeal (hProjOIdeal := hProjOIdeal)
    ∧ quiescent_ProjORefIdeal (hProjORefIdeal := hProjORefIdeal)
    ∧ quiescent_ProjODx (hProjODx := hProjODx)
    ∧ quiescent_ProjODxIdeal (hProjODxIdeal := hProjODxIdeal)
    ∧ quiescent_ProjODxRefIdeal (hProjODxRefIdeal := hProjODxRefIdeal)
    ∧ quiescent_ActDx (hActDx := hActDx)
    ∧ quiescent_ActDxIdeal (hActDxIdeal := hActDxIdeal)
    ∧ quiescent_ActDxIdeal_pre_finite_gate (hActDxIdeal := hActDxIdeal) (hPre_finite_gate := hPre_finite_gate)
    ∧ quiescent_ActDxRefIdeal (hActDxRefIdeal := hActDxRefIdeal)
    ∧ quiescent_ActDxRefIdeal_pre_finite_gate (hActDxRefIdeal := hActDxRefIdeal) (hPre_finite_gate := hPre_finite_gate)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal (hActIdeal := hActIdeal) (hActRefIdeal := hActRefIdeal)
    ∧ preserves_Norm_NormIdeal
    ∧ algebraic_NormIdeal_NormRefIdeal (hNormIdeal := hNormIdeal) (hNormRefIdeal := hNormRefIdeal)
    ∧ preserves_NormDx_NormDxIdeal
    ∧ algebraic_NormDxIdeal_NormDxRefIdeal (hNormDxIdeal := hNormDxIdeal) (hNormDxRefIdeal := hNormDxRefIdeal)
    ∧ preserves_Proj_ProjIdeal
    ∧ algebraic_ProjIdeal_ProjRefIdeal (hProjIdeal := hProjIdeal) (hProjRefIdeal := hProjRefIdeal)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_XbcDw_XbcDwIdeal
    ∧ algebraic_XbcDwIdeal_XbcDwRefIdeal (hXbcDwIdeal := hXbcDwIdeal) (hXbcDwRefIdeal := hXbcDwRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_Z_ZIdeal
    ∧ algebraic_ZIdeal_ZRefIdeal (hZIdeal := hZIdeal) (hZRefIdeal := hZRefIdeal)
    ∧ preserves_ZDw_ZDwIdeal
    ∧ algebraic_ZDwIdeal_ZDwRefIdeal (hZDwIdeal := hZDwIdeal) (hZDwRefIdeal := hZDwRefIdeal)
    ∧ preserves_Conv_ConvIdeal
    ∧ algebraic_ConvIdeal_ConvRefIdeal (hConvIdeal := hConvIdeal) (hConvRefIdeal := hConvRefIdeal)
    ∧ preserves_Xbc_XbcIdeal
    ∧ algebraic_XbcIdeal_XbcRefIdeal (hXbcIdeal := hXbcIdeal) (hXbcRefIdeal := hXbcRefIdeal)
    ∧ preserves_XbcDx_XbcDxIdeal
    ∧ algebraic_XbcDxIdeal_XbcDxRefIdeal (hXbcDxIdeal := hXbcDxIdeal) (hXbcDxRefIdeal := hXbcDxRefIdeal)
    ∧ preserves_ZDx_ZDxIdeal
    ∧ algebraic_ZDxIdeal_ZDxRefIdeal (hZDxIdeal := hZDxIdeal) (hZDxRefIdeal := hZDxRefIdeal)
    ∧ preserves_Out_OutIdeal
    ∧ algebraic_OutIdeal_OutRefIdeal (hOutIdeal := hOutIdeal) (hOutRefIdeal := hOutRefIdeal)
    ∧ preserves_ProjV_ProjVIdeal
    ∧ algebraic_ProjVIdeal_ProjVRefIdeal (hProjVIdeal := hProjVIdeal) (hProjVRefIdeal := hProjVRefIdeal)
    ∧ preserves_ProjVDx_ProjVDxIdeal
    ∧ algebraic_ProjVDxIdeal_ProjVDxRefIdeal (hProjVDxIdeal := hProjVDxIdeal) (hProjVDxRefIdeal := hProjVDxRefIdeal)
    ∧ preserves_ProjO_ProjOIdeal
    ∧ algebraic_ProjOIdeal_ProjORefIdeal (hProjOIdeal := hProjOIdeal) (hProjORefIdeal := hProjORefIdeal)
    ∧ preserves_ProjODx_ProjODxIdeal
    ∧ algebraic_ProjODxIdeal_ProjODxRefIdeal (hProjODxIdeal := hProjODxIdeal) (hProjODxRefIdeal := hProjODxRefIdeal)
    ∧ preserves_ActDx_ActDxIdeal
    ∧ algebraic_ActDxIdeal_ActDxRefIdeal_pre_finite_gate (hActDxIdeal := hActDxIdeal) (hActDxRefIdeal := hActDxRefIdeal) (hPre_finite_gate := hPre_finite_gate)
-- ==== Pre_finite_gate.lean ====
abbrev S4096x11264 : Shape := ⟨2, ![4096, 11264]⟩
abbrev S4096x5632 : Shape := ⟨2, ![4096, 5632]⟩
abbrev S_ : Shape := ⟨0, ![]⟩

class Facts : Prop where
  bcast_S_S4096x11264 : S_.BroadcastsInDim S4096x11264 (![] : Fin 0 → Fin S4096x11264.rank)
  concatenates_S4096x5632_S4096x5632_S4096x11264_d1 : Shape.Concatenates [S4096x5632, S4096x5632] S4096x11264 1

variable [Facts]

def fn {F : FTy → Type} [FloatOps F] (main_arg0 : FVec F S4096x11264 .bf16) (main_arg1 : FVec F S4096x5632 .f32) : IVec S4096x11264 1 :=
  let main_v0 : FVec F S4096x11264 .bf16 := Host.absf main_arg0
  let main_cst : FVec F S_ .bf16 := constant S_ .bf16 0x7F80#16
  let main_v1 : FVec F S4096x11264 .bf16 := broadcastInDim S4096x11264 ![] bcast_S_S4096x11264 main_cst
  let main_v2 : IVec S4096x11264 1 := cmpf .olt main_v0 main_v1
  let main_v3 : FVec F S4096x5632 .f32 := Host.absf main_arg1
  let main_v4 : FVec F S4096x11264 .f32 := (fun a b => concatenate S4096x11264 1 [⟨S4096x5632, a⟩, ⟨S4096x5632, b⟩] concatenates_S4096x5632_S4096x5632_S4096x11264_d1) main_v3 main_v3
  let main_cst_0 : FVec F S_ .f32 := constant S_ .f32 0x7F800000#32
  let main_v5 : FVec F S4096x11264 .f32 := broadcastInDim S4096x11264 ![] bcast_S_S4096x11264 main_cst_0
  let main_v6 : IVec S4096x11264 1 := cmpf .olt main_v4 main_v5
  let main_v7 : IVec S4096x11264 1 := andi main_v2 main_v6
  main_v7
-- ==== Pre_finite_inputs.lean ====
abbrev S4096x2048 : Shape := ⟨2, ![4096, 2048]⟩
abbrev S4096x16 : Shape := ⟨2, ![4096, 16]⟩
abbrev S_ : Shape := ⟨0, ![]⟩
abbrev S4096x16x128 : Shape := ⟨3, ![4096, 16, 128]⟩

class Facts : Prop where
  bcast_S_S4096x2048 : S_.BroadcastsInDim S4096x2048 (![] : Fin 0 → Fin S4096x2048.rank)
  bcast_S_S4096x16 : S_.BroadcastsInDim S4096x16 (![] : Fin 0 → Fin S4096x16.rank)
  bcast_S4096x16_S4096x16x128_0_1 : S4096x16.BroadcastsInDim S4096x16x128 (![0, 1] : Fin 2 → Fin S4096x16x128.rank)
  shapeCasts_S4096x16x128_S4096x2048 : S4096x16x128.ShapeCasts S4096x2048

variable [Facts]

def fn_part1 {F : FTy → Type} [FloatOps F] (main_v14 : IVec S4096x2048 1) (main_v18 : IVec S4096x16x128 1) : IVec S4096x2048 1 :=
  let main_v19 : IVec S4096x2048 1 := shapeCast S4096x2048 main_v18 shapeCasts_S4096x16x128_S4096x2048
  let main_v20 : IVec S4096x2048 1 := andi main_v14 main_v19
  main_v20

def fn {F : FTy → Type} [FloatOps F] (main_arg0 : FVec F S4096x2048 .f32) (main_arg1 : FVec F S4096x2048 .f32) (main_arg2 : FVec F S4096x2048 .f32) (main_arg3 : FVec F S4096x16 .f32) (main_arg4 : FVec F S4096x2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := andi main_v2 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_v10 : IVec S4096x2048 1 := andi main_v6 main_v9
  let main_v11 : FVec F S4096x2048 .f32 := Host.absf main_arg4
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : IVec S4096x2048 1 := andi main_v10 main_v13
  let main_v15 : FVec F S4096x16 .f32 := Host.absf main_arg3
  let main_cst_3 : FVec F S_ .f32 := constant S_ .f32 0x7F800000#32
  let main_v16 : FVec F S4096x16 .f32 := broadcastInDim S4096x16 ![] bcast_S_S4096x16 main_cst_3
  let main_v17 : IVec S4096x16 1 := cmpf .olt main_v15 main_v16
  let main_v18 : IVec S4096x16x128 1 := broadcastInDim S4096x16x128 ![0, 1] bcast_S4096x16_S4096x16x128_0_1 main_v17
  fn_part1 (F := F) main_v14 main_v18
-- ==== Kernel.lean ====
abbrev S4096x2048 : Shape := ⟨2, ![4096, 2048]⟩
abbrev S4096x16 : Shape := ⟨2, ![4096, 16]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x8x1x512 : Shape := ⟨4, ![16, 8, 1, 512]⟩
abbrev S4096x128 : Shape := ⟨2, ![4096, 128]⟩
abbrev S512x128 : Shape := ⟨2, ![512, 128]⟩
abbrev S1x1x1x512 : Shape := ⟨4, ![1, 1, 1, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 73
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x16, .f32⟩
  | .hbm, ⟨4, _⟩ => ⟨S4096x2048, .f32⟩
  | .hbm, ⟨5, _⟩ => ⟨S4096x16x128, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096, .f32⟩
  | .hbm, ⟨13, _⟩ => ⟨S16x4096x1, .f32⟩
  | .hbm, ⟨14, _⟩ => ⟨S16x4096, .f32⟩
  | .hbm, ⟨15, _⟩ => ⟨S16x1x4096, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x128x4096, .f32⟩
  | .hbm, ⟨50, _⟩ => ⟨S4096x16x128, .f32⟩
  | .hbm, ⟨51, _⟩ => ⟨S4096x16x128, .f32⟩
  | .hbm, ⟨52, _⟩ => ⟨S4096x16x128, .f32⟩
  | .hbm, ⟨53, _⟩ => ⟨S_, .f32⟩
  | .hbm, ⟨54, _⟩ => ⟨S4096x16, .f32⟩
  | .hbm, ⟨55, _⟩ => ⟨S4096x16, .f32⟩
  | .hbm, ⟨56, _⟩ => ⟨S4096x16x128, .f32⟩
  | .hbm, ⟨57, _⟩ => ⟨S4096x2048, .f32⟩
  | .hbm, ⟨58, _⟩ => ⟨S4096x16x128, .f32⟩
  | .hbm, ⟨59, _⟩ => ⟨S4096x2048, .f32⟩
  | .hbm, ⟨60, _⟩ => ⟨S4096x16x128, .f32⟩
  | .hbm, ⟨61, _⟩ => ⟨S4096x2048, .f32⟩
  | .hbm, ⟨62, _⟩ => ⟨S16x4096, .f32⟩
  | .hbm, ⟨63, _⟩ => ⟨S16x8x1x512, .f32⟩
  | .hbm, ⟨64, _⟩ => ⟨S4096x2048, .bf16⟩
  | .hbm, ⟨65, _⟩ => ⟨S4096x2048, .bf16⟩
  | .hbm, ⟨66, _⟩ => ⟨S4096x2048, .bf16⟩
  | .hbm, ⟨67, _⟩ => ⟨S4096x2048, .bf16⟩
  | .hbm, ⟨68, _⟩ => ⟨S4096x2048, .f32⟩
  | .hbm, ⟨69, _⟩ => ⟨S4096x2048, .f32⟩
  | .hbm, ⟨70, _⟩ => ⟨S4096x2048, .bf16⟩
  | .hbm, ⟨71, _⟩ => ⟨S4096x2048, .f32⟩
  | .hbm, ⟨72, _⟩ => ⟨S16x8x1x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1x1x1x512, .f32⟩
  | .local _ .vmem, ⟨15, _⟩ => ⟨S1x1x1x512, .f32⟩
  | .local _ .vmem, ⟨16, _⟩ => ⟨S4096x128, .f32⟩
  | .local _ .vmem, ⟨17, _⟩ => ⟨S4096x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S4096x128, .f32⟩
  | .local _ .vmem, ⟨23, _⟩ => ⟨S4096x128, .f32⟩
  | .local _ .vmem, ⟨24, _⟩ => ⟨S1x1x1x512, .f32⟩
  | .local _ .vmem, ⟨25, _⟩ => ⟨S1x1x1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev main_v55_2 : Ref sig .tc := ⟨.hbm, 70, rfl⟩
abbrev main_v55_3 : Ref sig .tc := ⟨.hbm, 71, rfl⟩
abbrev main_v55_4 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32_10 : BitVec 32 := 512#32
  let v18 : BitVec 32 := Scalar.muli arg1 c512_i32_10
  v18
def k0_off1 (i : grid0.Coords) : Fin 2 → Nat :=
  let arg1 : BitVec 32 := BitVec.ofNat 32 (i 1).val
  let c512_i32_10 : BitVec 32 := 512#32
  let v18 : BitVec 32 := Scalar.muli arg1 c512_i32_10
  let v19 : BitVec 32 := v18
  let v20 : Index := Scalar.indexCast v19
  let c0_11 : Index := 0#32
  ![v20.toNat, 0]
@[reducible] def k0_t1_loop (i : grid0.Coords) : Scf.Loop 32 :=
  let arg1 : BitVec 32 := BitVec.ofNat 32 (i 1).val
  let c1_i32 : BitVec 32 := 1#32
  let v17 : BitVec 32 := Scalar.addi arg1 c1_i32
  let c8_i32 : BitVec 32 := 8#32
  let v88 : BitVec 32 := Scalar.subi c8_i32 v17
  let c1_i32_34 : BitVec 32 := 1#32
  let v90 : BitVec 32 := Scalar.divsi v88 c1_i32_34
  let v91 : BitVec 32 := Scalar.muli v90 c1_i32_34
  let v92 : BitVec 32 := Scalar.addi v17 v91
  let c1_i32_35 : BitVec 32 := 1#32
  ⟨v17, v92, c1_i32_35⟩
def k0_mult2 (i : grid0.Coords) (k0_t1 : Fin (k0_t1_loop i).trips) : BitVec 32 :=
  let arg1 : BitVec 32 := BitVec.ofNat 32 (i 1).val
  let c1_i32 : BitVec 32 := 1#32
  let v17 : BitVec 32 := Scalar.addi arg1 c1_i32
  let c1_i32_35 : BitVec 32 := 1#32
  let arg15 : BitVec 32 := Scf.iv v17 c1_i32_35 k0_t1
  let c512_i32_46 : BitVec 32 := 512#32
  let v103 : BitVec 32 := Scalar.muli arg15 c512_i32_46
  v103
def k0_off2 (i : grid0.Coords) (k0_t1 : Fin (k0_t1_loop i).trips) : Fin 2 → Nat :=
  let arg1 : BitVec 32 := BitVec.ofNat 32 (i 1).val
  let c1_i32 : BitVec 32 := 1#32
  let v17 : BitVec 32 := Scalar.addi arg1 c1_i32
  let c1_i32_35 : BitVec 32 := 1#32
  let arg15 : BitVec 32 := Scf.iv v17 c1_i32_35 k0_t1
  let c512_i32_46 : BitVec 32 := 512#32
  let v103 : BitVec 32 := Scalar.muli arg15 c512_i32_46
  let v104 : BitVec 32 := v103
  let v105 : Index := Scalar.indexCast v104
  let c0_47 : Index := 0#32
  ![v105.toNat, 0]
@[reducible] def k0_t2_loop (i : grid0.Coords) : Scf.Loop 32 :=
  let arg1 : BitVec 32 := BitVec.ofNat 32 (i 1).val
  let c1_i32 : BitVec 32 := 1#32
  let v17 : BitVec 32 := Scalar.addi arg1 c1_i32
  let c8_i32 : BitVec 32 := 8#32
  let v88 : BitVec 32 := Scalar.subi c8_i32 v17
  let c1_i32_34 : BitVec 32 := 1#32
  let v90 : BitVec 32 := Scalar.divsi v88 c1_i32_34
  let v91 : BitVec 32 := Scalar.muli v90 c1_i32_34
  let v92 : BitVec 32 := Scalar.addi v17 v91
  let v89 : BitVec 32 := Scalar.addi v17 v88
  let c1_i32_36 : BitVec 32 := 1#32
  ⟨v92, v89, c1_i32_36⟩
def k0_mult3 (i : grid0.Coords) (k0_t2 : Fin (k0_t2_loop i).trips) : BitVec 32 :=
  let arg1 : BitVec 32 := BitVec.ofNat 32 (i 1).val
  let c1_i32 : BitVec 32 := 1#32
  let v17 : BitVec 32 := Scalar.addi arg1 c1_i32
  let c8_i32 : BitVec 32 := 8#32
  let v88 : BitVec 32 := Scalar.subi c8_i32 v17
  let c1_i32_34 : BitVec 32 := 1#32
  let v90 : BitVec 32 := Scalar.divsi v88 c1_i32_34
  let v91 : BitVec 32 := Scalar.muli v90 c1_i32_34
  let v92 : BitVec 32 := Scalar.addi v17 v91
  let c1_i32_36 : BitVec 32 := 1#32
  let arg15 : BitVec 32 := Scf.iv v92 c1_i32_36 k0_t2
  let c512_i32_46 : BitVec 32 := 512#32
  let v103 : BitVec 32 := Scalar.muli arg15 c512_i32_46
  v103
def k0_off3 (i : grid0.Coords) (k0_t2 : Fin (k0_t2_loop i).trips) : Fin 2 → Nat :=
  let arg1 : BitVec 32 := BitVec.ofNat 32 (i 1).val
  let c1_i32 : BitVec 32 := 1#32
  let v17 : BitVec 32 := Scalar.addi arg1 c1_i32
  let c8_i32 : BitVec 32 := 8#32
  let v88 : BitVec 32 := Scalar.subi c8_i32 v17
  let c1_i32_34 : BitVec 32 := 1#32
  let v90 : BitVec 32 := Scalar.divsi v88 c1_i32_34
  let v91 : BitVec 32 := Scalar.muli v90 c1_i32_34
  let v92 : BitVec 32 := Scalar.addi v17 v91
  let c1_i32_36 : BitVec 32 := 1#32
  let arg15 : BitVec 32 := Scf.iv v92 c1_i32_36 k0_t2
  let c512_i32_46 : BitVec 32 := 512#32
  let v103 : BitVec 32 := Scalar.muli arg15 c512_i32_46
  let v104 : BitVec 32 := v103
  let v105 : Index := Scalar.indexCast v104
  let c0_47 : Index := 0#32
  ![v105.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x16 : Shape := ⟨2, ![4096, 16]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩
abbrev S16x8x1x512 : Shape := ⟨4, ![16, 8, 1, 512]⟩

abbrev nBuf : Space → Nat
  | .hbm => 125
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x16, .f32⟩
  | .hbm, ⟨4, _⟩ => ⟨S4096x2048, .f32⟩
  | .hbm, ⟨5, _⟩ => ⟨S4096x16x128, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096, .f32⟩
  | .hbm, ⟨13, _⟩ => ⟨S16x4096x1, .f32⟩
  | .hbm, ⟨14, _⟩ => ⟨S16x4096, .f32⟩
  | .hbm, ⟨15, _⟩ => ⟨S16x1x4096, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .i1⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S16x4096, .i1⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S16x4096, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x128x4096, .f32⟩
  | .hbm, ⟨73, _⟩ => ⟨S4096x16x128, .f32⟩
  | .hbm, ⟨74, _⟩ => ⟨S4096x2048, .f32⟩
  | .hbm, ⟨75, _⟩ => ⟨S4096x16x128, .f32⟩
  | .hbm, ⟨76, _⟩ => ⟨S16x128x4096, .f32⟩
  | .hbm, ⟨77, _⟩ => ⟨S16x4096x4096, .f32⟩
  | .hbm, ⟨78, _⟩ => ⟨S16x128x4096, .f32⟩
  | .hbm, ⟨79, _⟩ => ⟨S4096x16x128, .f32⟩
  | .hbm, ⟨80, _⟩ => ⟨S16x4096x4096, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096, .f32⟩
  | .hbm, ⟨85, _⟩ => ⟨S16x4096x1, .f32⟩
  | .hbm, ⟨86, _⟩ => ⟨S16x4096x1, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S16x4096x4096, .f32⟩
  | .hbm, ⟨92, _⟩ => ⟨S16x4096x4096, .f32⟩
  | .hbm, ⟨93, _⟩ => ⟨S16x4096x4096, .f32⟩
  | .hbm, ⟨94, _⟩ => ⟨S_, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096, .f32⟩
  | .hbm, ⟨99, _⟩ => ⟨S16x4096x1, .f32⟩
  | .hbm, ⟨100, _⟩ => ⟨S16x4096x4096, .f32⟩
  | .hbm, ⟨101, _⟩ => ⟨S_, .f32⟩
  | .hbm, ⟨102, _⟩ => ⟨S16x4096, .f32⟩
  | .hbm, ⟨103, _⟩ => ⟨S16x1x4096, .f32⟩
  | .hbm, ⟨104, _⟩ => ⟨S_, .f32⟩
  | .hbm, ⟨105, _⟩ => ⟨S16x4096, .f32⟩
  | .hbm, ⟨106, _⟩ => ⟨S4096x16, .f32⟩
  | .hbm, ⟨107, _⟩ => ⟨S_, .f32⟩
  | .hbm, ⟨108, _⟩ => ⟨S16x4096, .f32⟩
  | .hbm, ⟨109, _⟩ => ⟨S4096x16, .f32⟩
  | .hbm, ⟨110, _⟩ => ⟨S_, .f32⟩
  | .hbm, ⟨111, _⟩ => ⟨S16x4096x4096, .f32⟩
  | .hbm, ⟨112, _⟩ => ⟨S16x4096x4096, .f32⟩
  | .hbm, ⟨113, _⟩ => ⟨S16x4096x128, .f32⟩
  | .hbm, ⟨114, _⟩ => ⟨S4096x16x128, .f32⟩
  | .hbm, ⟨115, _⟩ => ⟨S16x4096x128, .f32⟩
  | .hbm, ⟨116, _⟩ => ⟨S4096x16x128, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .bf16⟩
  | .hbm, ⟨121, _⟩ => ⟨S4096x16x128, .f32⟩
  | .hbm, ⟨122, _⟩ => ⟨S4096x2048, .f32⟩
  | .hbm, ⟨123, _⟩ => ⟨S16x4096, .f32⟩
  | .hbm, ⟨124, _⟩ => ⟨S16x8x1x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== UpDw.lean ====
abbrev S4096x2048 : Shape := ⟨2, ![4096, 2048]⟩
abbrev S4096x11264 : Shape := ⟨2, ![4096, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x4x2816, .bf16⟩
  | .hbm, ⟨11, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDx.lean ====
abbrev S4096x11264 : Shape := ⟨2, ![4096, 11264]⟩
abbrev S4x2048x2816 : Shape := ⟨3, ![4, 2048, 2816]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x11264 : Shape := ⟨2, ![4096, 11264]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S_, .f32⟩
  | .hbm, ⟨5, _⟩ => ⟨S4096x2048, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Act.lean ====
abbrev S4096x11264 : Shape := ⟨2, ![4096, 11264]⟩
abbrev S4096x5632 : Shape := ⟨2, ![4096, 5632]⟩
abbrev S128x5632 : Shape := ⟨2, ![128, 5632]⟩

abbrev nBuf : Space → Nat
  | .hbm => 2
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActRefIdeal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormDx.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormDxRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XbcDw.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcDwRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Z.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ZDw.lean ====
abbrev S4096x2048 : Shape := ⟨2, ![4096, 2048]⟩
abbrev S4096x4096 : Shape := ⟨2, ![4096, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Conv.lean ====
abbrev S4096x6144 : Shape := ⟨2, ![4096, 6144]⟩
abbrev S4x6144 : Shape := ⟨2, ![4, 6144]⟩
abbrev S1x6144 : Shape := ⟨2, ![1, 6144]⟩
abbrev S4096x128 : Shape := ⟨2, ![4096, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S1x6144, .f32⟩
  | .hbm, ⟨3, _⟩ => ⟨S4096x6144, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvRefIdeal.lean ====
abbrev S4096x6144 : Shape := ⟨2, ![4096, 6144]⟩
abbrev S4x6144 : Shape := ⟨2, ![4, 6144]⟩
abbrev S1x6144 : Shape := ⟨2, ![1, 6144]⟩
abbrev S_ : Shape := ⟨0, ![]⟩
abbrev S4099x6144 : Shape := ⟨2, ![4099, 6144]⟩
abbrev S6144 : Shape := ⟨1, ![6144]⟩

abbrev nBuf : Space → Nat
  | .hbm => 47
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S4099x6144, .f32⟩
  | .hbm, ⟨6, _⟩ => ⟨S1x6144, .f32⟩
  | .hbm, ⟨7, _⟩ => ⟨S6144, .f32⟩
  | .hbm, ⟨8, _⟩ => ⟨S4096x6144, .f32⟩
  | .hbm, ⟨9, _⟩ => ⟨S1x6144, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S1x6144, .f32⟩
  | .hbm, ⟨16, _⟩ => ⟨S6144, .f32⟩
  | .hbm, ⟨17, _⟩ => ⟨S4096x6144, .f32⟩
  | .hbm, ⟨18, _⟩ => ⟨S1x6144, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S1x6144, .f32⟩
  | .hbm, ⟨23, _⟩ => ⟨S6144, .f32⟩
  | .hbm, ⟨24, _⟩ => ⟨S4096x6144, .f32⟩
  | .hbm, ⟨25, _⟩ => ⟨S1x6144, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S1x6144, .f32⟩
  | .hbm, ⟨30, _⟩ => ⟨S6144, .f32⟩
  | .hbm, ⟨31, _⟩ => ⟨S4096x6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S4096x6144, .f32⟩
  | .hbm, ⟨39, _⟩ => ⟨S4096x6144, .f32⟩
  | .hbm, ⟨40, _⟩ => ⟨S_, .f32⟩
  | .hbm, ⟨41, _⟩ => ⟨S4096x6144, .f32⟩
  | .hbm, ⟨42, _⟩ => ⟨S4096x6144, .f32⟩
  | .hbm, ⟨43, _⟩ => ⟨S_, .f32⟩
  | .hbm, ⟨44, _⟩ => ⟨S4096x6144, .f32⟩
  | .hbm, ⟨45, _⟩ => ⟨S4096x6144, .f32⟩
  | .hbm, ⟨46, _⟩ => ⟨S4096x6144, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Xbc.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcRefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XbcDx.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcDxRefIdeal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ZDx.lean ====
abbrev S4096x4096 : Shape := ⟨2, ![4096, 4096]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ZDxRefIdeal.lean ====
abbrev S4096x4096 : Shape := ⟨2, ![4096, 4096]⟩
abbrev S2048x4096 : Shape := ⟨2, ![2048, 4096]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Out.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjV.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjVRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjVDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjVDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjO.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjORefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjODx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjODxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ActDx.lean ====
abbrev S4096x11264 : Shape := ⟨2, ![4096, 11264]⟩
abbrev S4096x5632 : Shape := ⟨2, ![4096, 5632]⟩
abbrev S128x5632 : Shape := ⟨2, ![128, 5632]⟩
abbrev S128x11264 : Shape := ⟨2, ![128, 11264]⟩

abbrev nBuf : Space → Nat
  | .hbm => 3
  | .vmem => 8
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .f32⟩
  | .hbm, ⟨2, _⟩ => ⟨S4096x11264, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .f32⟩
  | .local _ .vmem, ⟨5, _⟩ => ⟨S128x5632, .f32⟩
  | .local _ .vmem, ⟨6, _⟩ => ⟨S128x11264, .bf16⟩
  | .local _ .vmem, ⟨7, _⟩ => ⟨S128x11264, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActDxRefIdeal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .f32⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x11264, .f32⟩
  | .hbm, ⟨26, _⟩ => ⟨S4096x11264, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== Proof.Att.Step.lean ====
/- What one call of the kernel's body computes, as a recursion over the row blocks: the key block `j` takes the row block
   `j` (the diagonal one) and then the row blocks `j + 1`, `j + 2`, … 7, each adding to the five gradients. The loop of the
   printed body is this recursion. -/
module

public import proofs.«01_k».proof.Proof.Gen.KernelIdeal.Loops
public import Idealize.ShloMosaic.Lib.VecWindow
public import Idealize.ShloMosaic.Lib.Pointwise.Index

@[expose] public section

set_option maxRecDepth 16384

noncomputable section

namespace Cert.KernelIdeal.Att

open Cert.KernelIdeal Cert.KernelIdeal.Gen Idealize.ShloMosaic Idealize.ShloMosaic.TcCoe Idealize.ShloMosaic.Tactic

variable {F : FTy → Type} [FloatOps F] [Named F]

/-- The rows 512 n, …, 512 n + 511 of an array of 4096 rows. -/
def rows {α : Type} (n : ℕ) (x : S4096x128.Idx → α) : S512x128.Idx → α :=
  fun y => x (ix2 ⟨(512 * n + (y 0).val) % 4096, Nat.mod_lt _ (by decide)⟩ (y 1))

/-- The array with its rows 512 n, …, 512 n + 511 replaced. -/
def putRows {α : Type} (n : ℕ) (x : S4096x128.Idx → α) (w : S512x128.Idx → α) : S4096x128.Idx → α :=
  VecWindow.put x ![512 * n, 0] S512x128.size w

/-- A load of the rows at an offset 512 n is `rows n` of what the view reads. -/
theorem readAt_rows {e : EltTy} (v : View sig .tc .vmem S4096x128 e) (f : v.ty.Contents (Elt F)) {off : Fin 2 → ℕ}
    (inb : ∀ a, off a + S512x128.size a ≤ S4096x128.size a) (n : ℕ) (h : off = ![512 * n, 0]) :
    v.readAt (Elt F) (Rect.unit (s := S4096x128) off S512x128.size inb).toLoadRect f = rows n (v.read (Elt F) f) := by
  subst h
  funext y
  refine congrArg (v.read (Elt F) f) (funext fun a => Fin.ext ?_)
  have h0 := inb 0
  change 512 * n + 512 ≤ 4096 at h0
  have hy0 : (y 0).val < 512 := (y 0).isLt
  match a with
  | 0 =>
    show 512 * n + 1 * (y 0).val = (512 * n + (y 0).val) % 4096
    omega
  | 1 =>
    show 0 + 1 * (y 1).val = (y 1).val
    omega

/-- The running gradients of one key block: of its keys, values and gates, and of all the rows' queries and gates. -/
structure Acc (F : FTy → Type) [FloatOps F] where
  dk : FVec F S512x128 .f32
  dv : FVec F S512x128 .f32
  dck : FVec F S1x512 .f32
  dq : Vec F S4096x128 .f32
  dcq : Vec F S4096x128 .f32

/-- What a key block reads: its keys, values and gates, and all the rows' arrays. -/
structure Ins (F : FTy → Type) [FloatOps F] where
  k : FVec F S512x128 .bf16
  v : FVec F S512x128 .bf16
  ck : FVec F S1x512 .f32
  q : Vec F S4096x128 .bf16
  dO : Vec F S4096x128 .bf16
  lse : Vec F S4096x128 .f32
  dl : Vec F S4096x128 .f32
  cq : Vec F S4096x128 .f32

/-- The row block `n`, below the diagonal. -/
def step (I : Ins F) (n : ℕ) (a : Acc F) : Acc F :=
  let ds := k0_pay15 I.k I.v I.ck (rows n I.q) (rows n I.dO) (rows n I.lse) (rows n I.dl) (rows n I.cq)
  { dk := k0_pay18 I.k I.v I.ck a.dk (rows n I.q) (rows n I.dO) (rows n I.lse) (rows n I.dl) (rows n I.cq)
    dv := k0_pay17 I.k I.ck a.dv (rows n I.q) (rows n I.dO) (rows n I.lse) (rows n I.cq)
    dck := k0_pay5 a.dck ds
    dq := putRows n a.dq (k0_pay3 I.k (k0_pay16 I.k I.v I.ck (rows n I.q) (rows n I.dO) (rows n I.lse) (rows n I.dl) (rows n I.cq)) (rows n a.dq))
    dcq := putRows n a.dcq (k0_pay4 ds (rows n a.dcq)) }

/-- The row block on the diagonal, of key block `i 1`, over what the key blocks before left in the rows' gradients. -/
def diag (I : Ins F) (i : grid0.Coords) (dq dcq : Vec F S4096x128 .f32) : Acc F :=
  let n := (i 1).val
  let arg1 : BitVec 32 := BitVec.ofNat 32 (i 1).val
  let q := k0_pay35 (rows n I.q)
  let dO := k0_pay36 (rows n I.dO)
  let lse := k0_pay37 (rows n I.lse)
  let dl := k0_pay38 (rows n I.dl)
  let cq := rows n I.cq
  let col := k0_pay31 i
  let row : IVec S512x512 32 := iota .tc S512x512 32 [0] iota_S512x512_d0_w32
  { dk := k0_pay43 arg1 I.k I.v I.ck col row k0_pay32 q dO lse dl cq
    dv := k0_pay42 arg1 I.k I.ck col row k0_pay33 q dO lse cq
    dck := k0_pay2 k0_pay34 (k0_pay40 arg1 I.k I.v I.ck col row q dO lse dl cq)
    dq := putRows n dq (k0_pay44 arg1 I.k I.v I.ck col row q dO lse dl cq (rows n dq))
    dcq := putRows n dcq (k0_pay1 (k0_pay45 (rows n dcq)) (k0_pay46 arg1 I.k I.v I.ck col row q dO lse dl cq)) }

/-- The diagonal block and the `k` row blocks after it. -/
def run (I : Ins F) (i : grid0.Coords) (dq dcq : Vec F S4096x128 .f32) : ℕ → Acc F
  | 0 => diag I i dq dcq
  | k + 1 => step I ((i 1).val + 1 + k) (run I i dq dcq k)

/-- What a key block ends with: its diagonal block and every row block after it. -/
def endOf (I : Ins F) (i : grid0.Coords) (dq dcq : Vec F S4096x128 .f32) : Acc F := run I i dq dcq (7 - (i 1).val)

theorem trips1 : ∀ i : grid0.Coords, (k0_t1_loop i).trips = 7 - (i 1).val := by decide +kernel
theorem trips2 : ∀ i : grid0.Coords, (k0_t2_loop i).trips = 0 := by decide +kernel

theorem off2_rows (i : grid0.Coords) (k : Fin (k0_t1_loop i).trips) : k0_off2 i k = ![512 * ((i 1).val + 1 + k.val), 0] := by
  rw [k0_off2_eq]
  congr 1
  omega

section Loop

variable (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x1x1x512 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x1x512 .f32) (harg14 : arg14.IsWhole) (v4 : FVec F S512x128 .bf16) (v6 : FVec F S512x128 .bf16) (v8 : FVec F S1x512 .f32) (v17 : BitVec 32) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg8 : BufTy.Contents (Elt F) arg8.view.ty)

/-- What the loop reads, of the contents of its memrefs. -/
def insOf : Ins F := ⟨v4, v6, v8, arg2.view.read (Elt F) X_arg2, arg3.view.read (Elt F) X_arg3, arg6.view.read (Elt F) X_arg6, arg7.view.read (Elt F) X_arg7, arg8.view.read (Elt F) X_arg8⟩

variable (k : Fin (k0_t1_loop i).trips) (acc : FVec F S512x128 .f32 × FVec F S512x128 .f32 × FVec F S1x512 .f32) (f_arg10 : BufTy.Contents (Elt F) arg10.view.ty) (f_arg13 : BufTy.Contents (Elt F) arg13.view.ty)

/-- The rows a trip reads. -/
abbrev ld {e : EltTy} (r : Memref sig .tc .vmem S4096x128 e) (X : BufTy.Contents (Elt F) r.view.ty) : Vec F S512x128 e :=
  r.view.readAt (Elt F) (Rect.unit (s := S4096x128) (k0_off2 i k) S512x128.size (k0_off2_inb i k)).toLoadRect X

theorem ld_eq {e : EltTy} (r : Memref sig .tc .vmem S4096x128 e) (X : BufTy.Contents (Elt F) r.view.ty) :
    ld i k r X = rows ((i 1).val + 1 + k.val) (r.view.read (Elt F) X) :=
  readAt_rows r.view X _ _ (off2_rows i k)

theorem tripR_eq (a : Acc F) (ha : acc = (a.dk, a.dv, a.dck)) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 k acc f_arg10 f_arg13
      = (let b := step (insOf arg2 arg3 arg6 arg7 arg8 v4 v6 v8 X_arg2 X_arg3 X_arg6 X_arg7 X_arg8) ((i 1).val + 1 + k.val) a; (b.dk, b.dv, b.dck)) := by
  subst ha
  unfold tripR_k0_t1 trip_k0_t1
  dsimp only
  sl_unfold_words
  change (k0_pay18 v4 v6 v8 a.dk (ld i k arg2 X_arg2) (ld i k arg3 X_arg3) (ld i k arg6 X_arg6) (ld i k arg7 X_arg7) (ld i k arg8 X_arg8),
    k0_pay17 v4 v8 a.dv (ld i k arg2 X_arg2) (ld i k arg3 X_arg3) (ld i k arg6 X_arg6) (ld i k arg8 X_arg8),
    k0_pay5 a.dck (k0_pay15 v4 v6 v8 (ld i k arg2 X_arg2) (ld i k arg3 X_arg3) (ld i k arg6 X_arg6) (ld i k arg7 X_arg7) (ld i k arg8 X_arg8))) = _
  simp only [ld_eq]
  rfl

theorem tripL_dq (a : Acc F) (ha : arg10.view.read (Elt F) f_arg10 = a.dq) :
    arg10.view.read (Elt F) (arg10.view.writes (Elt F) f_arg10 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 k acc f_arg10 f_arg13).1)
      = (step (insOf arg2 arg3 arg6 arg7 arg8 v4 v6 v8 X_arg2 X_arg3 X_arg6 X_arg7 X_arg8) ((i 1).val + 1 + k.val) a).dq := by
  unfold tripL_k0_t1 trip_k0_t1
  dsimp only
  sl_unfold_words
  refine (View.read_writes_cons_put arg10.view f_arg10 (k0_off2_inb i k) _ [] (off2_rows i k)).trans ?_
  change putRows _ (arg10.view.read (Elt F) f_arg10) (k0_pay3 v4 (k0_pay16 v4 v6 v8 (ld i k arg2 X_arg2) (ld i k arg3 X_arg3) (ld i k arg6 X_arg6) (ld i k arg7 X_arg7) (ld i k arg8 X_arg8)) (ld i k arg10 f_arg10)) = _
  simp only [ld_eq, ha]
  rfl

theorem tripL_dcq (a : Acc F) (ha : arg13.view.read (Elt F) f_arg13 = a.dcq) :
    arg13.view.read (Elt F) (arg13.view.writes (Elt F) f_arg13 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 k acc f_arg10 f_arg13).2)
      = (step (insOf arg2 arg3 arg6 arg7 arg8 v4 v6 v8 X_arg2 X_arg3 X_arg6 X_arg7 X_arg8) ((i 1).val + 1 + k.val) a).dcq := by
  unfold tripL_k0_t1 trip_k0_t1
  dsimp only
  sl_unfold_words
  refine (View.read_writes_cons_put arg13.view f_arg13 (k0_off2_inb i k) _ [] (off2_rows i k)).trans ?_
  change putRows _ (arg13.view.read (Elt F) f_arg13) (k0_pay4 (k0_pay15 v4 v6 v8 (ld i k arg2 X_arg2) (ld i k arg3 X_arg3) (ld i k arg6 X_arg6) (ld i k arg7 X_arg7) (ld i k arg8 X_arg8)) (ld i k arg13 f_arg13)) = _
  simp only [ld_eq, ha]
  rfl

/-- The loop's state before trip `k`: the recursion `run`, when the diagonal block is what the loop starts from. -/
theorem st_eq (dq dcq : Vec F S4096x128 .f32) (d : Acc F) (n : ℕ)
    (hd : diag (insOf arg2 arg3 arg6 arg7 arg8 v4 v6 v8 X_arg2 X_arg3 X_arg6 X_arg7 X_arg8) i dq dcq = d)
    (h10 : arg10.view.read (Elt F) f_arg10 = d.dq) (h13 : arg13.view.read (Elt F) f_arg13 = d.dcq) (hn : n ≤ (k0_t1_loop i).trips) :
    let st := st_k0_t1 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 f_arg10 f_arg13 (d.dk, d.dv, d.dck) n
    let r := run (insOf arg2 arg3 arg6 arg7 arg8 v4 v6 v8 X_arg2 X_arg3 X_arg6 X_arg7 X_arg8) i dq dcq n
    st.1 = (r.dk, r.dv, r.dck) ∧ arg10.view.read (Elt F) (arg10.view.writes (Elt F) f_arg10 st.2.1) = r.dq
      ∧ arg13.view.read (Elt F) (arg13.view.writes (Elt F) f_arg13 st.2.2) = r.dcq := by
  induction n with
  | zero =>
    subst hd
    exact ⟨rfl, h10, h13⟩
  | succ n ih =>
    obtain ⟨h1, h2, h3⟩ := ih (by omega)
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 f_arg10 f_arg13 (d.dk, d.dv, d.dck) ⟨n, hn⟩
    dsimp only at e ⊢
    rw [e]
    refine ⟨tripR_eq 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 ⟨n, hn⟩ _ _ _ _ h1, ?_, ?_⟩
    · rw [View.writes_append]
      exact tripL_dq 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 ⟨n, hn⟩ _ _ _ _ h2
    · rw [View.writes_append]
      exact tripL_dcq 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 ⟨n, hn⟩ _ _ _ _ h3

/-- Both loops, one after the other: the second, over the trips the first leaves, makes none. -/
theorem loops_eq (v92 : BitVec 32) (I : Ins F) (dq dcq : Vec F S4096x128 .f32) (S T : (FVec F S512x128 .f32 × FVec F S512x128 .f32 × FVec F S1x512 .f32) × List (View.Piece (Elt F) S4096x128 .f32) × List (View.Piece (Elt F) S4096x128 .f32))
    (hS : st_k0_t1 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 f_arg10 f_arg13 acc (Scf.trips (k0_t1_loop i).lb (k0_t1_loop i).ub (k0_t1_loop i).st) = S)
    (hT : st_k0_t2 𝒱 c bd i arg2 harg2 arg3 harg3 arg4 harg4 arg5 harg5 arg6 harg6 arg7 harg7 arg8 harg8 arg9 harg9 arg10 harg10 arg11 harg11 arg12 harg12 arg13 harg13 arg14 harg14 v4 v6 v8 v92 X_arg2 X_arg3 X_arg6 X_arg7 X_arg8 (arg10.view.writes (Elt F) f_arg10 S.2.1) (arg13.view.writes (Elt F) f_arg13 S.2.2) (S.1.1, S.1.2.1, S.1.2.2)
      (Scf.trips (k0_t2_loop i).lb (k0_t2_loop i).ub (k0_t2_loop i).st) = T)
    (hI : (insOf arg2 arg3 arg6 arg7 arg8 v4 v6 v8 X_arg2 X_arg3 X_arg6 X_arg7 X_arg8) = I)
    (hacc : acc = ((diag I i dq dcq).dk, (diag I i dq dcq).dv, (diag I i dq dcq).dck))
    (h10 : arg10.view.read (Elt F) f_arg10 = (diag I i dq dcq).dq) (h13 : arg13.view.read (Elt F) f_arg13 = (diag I i dq dcq).dcq) :
    T.1 = ((endOf I i dq dcq).dk, (endOf I i dq dcq).dv, (endOf I i dq dcq).dck)
      ∧ arg10.view.read (Elt F) (arg10.view.writes (Elt F) (arg10.view.writes (Elt F) f_arg10 S.2.1) T.2.1) = (endOf I i dq dcq).dq
      ∧ arg13.view.read (Elt F) (arg13.view.writes (Elt F) (arg13.view.writes (Elt F) f_arg13 S.2.2) T.2.2) = (endOf I i dq dcq).dcq := by
  subst hI hacc
  have h := st_eq 𝒱 c bd i arg2 harg2 arg3 harg3 arg4 harg4 arg5 harg5 arg6 harg6 arg7 harg7 arg8 harg8 arg9 harg9 arg10 harg10 arg11 harg11 arg12 harg12 arg13 harg13 arg14 harg14 v4 v6 v8 v17 X_arg2 X_arg3 X_arg6 X_arg7 X_arg8 f_arg10 f_arg13 dq dcq _ (k0_t1_loop i).trips rfl h10 h13 le_rfl
  have h2 : Scf.trips (k0_t2_loop i).lb (k0_t2_loop i).ub (k0_t2_loop i).st = 0 := trips2 i
  have h1 : Scf.trips (k0_t1_loop i).lb (k0_t1_loop i).ub (k0_t1_loop i).st = 7 - (i 1).val := trips1 i
  rw [h2] at hT
  rw [h1] at hS
  rw [trips1 i] at h
  dsimp only at h
  rw [hS] at h
  have hT' : T = ((S.1.1, S.1.2.1, S.1.2.2), [], []) := hT.symm
  subst hT'
  exact h

/-- The rows the diagonal block reads. -/
abbrev ld1 {e : EltTy} (r : Memref sig .tc .vmem S4096x128 e) (X : BufTy.Contents (Elt F) r.view.ty) : Vec F S512x128 e :=
  r.view.readAt (Elt F) (Rect.unit (s := S4096x128) (k0_off1 i) S512x128.size (k0_off1_inb i)).toLoadRect X

theorem ld1_eq {e : EltTy} (r : Memref sig .tc .vmem S4096x128 e) (X : BufTy.Contents (Elt F) r.view.ty) :
    ld1 i r X = rows (i 1).val (r.view.read (Elt F) X) :=
  readAt_rows r.view X _ _ (k0_off1_eq i)

theorem diag_acc (I : Ins F) (hI : insOf arg2 arg3 arg6 arg7 arg8 v4 v6 v8 X_arg2 X_arg3 X_arg6 X_arg7 X_arg8 = I) (dq dcq : Vec F S4096x128 .f32) :
    (k0_pay43 (BitVec.ofNat 32 (i 1).val) v4 v6 v8 (k0_pay31 i) (iota .tc S512x512 32 [0] iota_S512x512_d0_w32) k0_pay32 (k0_pay35 (ld1 i arg2 X_arg2)) (k0_pay36 (ld1 i arg3 X_arg3)) (k0_pay37 (ld1 i arg6 X_arg6)) (k0_pay38 (ld1 i arg7 X_arg7)) (ld1 i arg8 X_arg8),
      k0_pay42 (BitVec.ofNat 32 (i 1).val) v4 v8 (k0_pay31 i) (iota .tc S512x512 32 [0] iota_S512x512_d0_w32) k0_pay33 (k0_pay35 (ld1 i arg2 X_arg2)) (k0_pay36 (ld1 i arg3 X_arg3)) (k0_pay37 (ld1 i arg6 X_arg6)) (ld1 i arg8 X_arg8),
      k0_pay2 k0_pay34 (k0_pay40 (BitVec.ofNat 32 (i 1).val) v4 v6 v8 (k0_pay31 i) (iota .tc S512x512 32 [0] iota_S512x512_d0_w32) (k0_pay35 (ld1 i arg2 X_arg2)) (k0_pay36 (ld1 i arg3 X_arg3)) (k0_pay37 (ld1 i arg6 X_arg6)) (k0_pay38 (ld1 i arg7 X_arg7)) (ld1 i arg8 X_arg8)))
      = ((diag I i dq dcq).dk, (diag I i dq dcq).dv, (diag I i dq dcq).dck) := by
  subst hI
  simp only [ld1_eq]
  rfl

theorem diag_dq (I : Ins F) (hI : insOf arg2 arg3 arg6 arg7 arg8 v4 v6 v8 X_arg2 X_arg3 X_arg6 X_arg7 X_arg8 = I) (dq dcq : Vec F S4096x128 .f32) (f : BufTy.Contents (Elt F) arg10.view.ty) (L : List (View.Piece (Elt F) S4096x128 .f32))
    (h : arg10.view.read (Elt F) (arg10.view.writes (Elt F) f L) = dq) (x : Vec F S512x128 .f32) (hx : x = rows (i 1).val dq) :
    arg10.view.read (Elt F) (arg10.view.writes (Elt F) f (⟨Rect.unit (s := S4096x128) (k0_off1 i) S512x128.size (k0_off1_inb i),
      k0_pay44 (BitVec.ofNat 32 (i 1).val) v4 v6 v8 (k0_pay31 i) (iota .tc S512x512 32 [0] iota_S512x512_d0_w32) (k0_pay35 (ld1 i arg2 X_arg2)) (k0_pay36 (ld1 i arg3 X_arg3)) (k0_pay37 (ld1 i arg6 X_arg6)) (k0_pay38 (ld1 i arg7 X_arg7)) (ld1 i arg8 X_arg8) x⟩ :: L)) = (diag I i dq dcq).dq := by
  rw [View.read_writes_cons_put _ _ _ _ _ (k0_off1_eq i), h, hx]
  subst hI
  simp only [ld1_eq]
  rfl

theorem diag_dcq (I : Ins F) (hI : insOf arg2 arg3 arg6 arg7 arg8 v4 v6 v8 X_arg2 X_arg3 X_arg6 X_arg7 X_arg8 = I) (dq dcq : Vec F S4096x128 .f32) (f : BufTy.Contents (Elt F) arg13.view.ty) (L : List (View.Piece (Elt F) S4096x128 .f32))
    (h : arg13.view.read (Elt F) (arg13.view.writes (Elt F) f L) = dcq) (x : Vec F S512x128 .f32) (hx : x = rows (i 1).val dcq) :
    arg13.view.read (Elt F) (arg13.view.writes (Elt F) f (⟨Rect.unit (s := S4096x128) (k0_off1 i) S512x128.size (k0_off1_inb i),
      k0_pay1 (k0_pay45 x) (k0_pay46 (BitVec.ofNat 32 (i 1).val) v4 v6 v8 (k0_pay31 i) (iota .tc S512x512 32 [0] iota_S512x512_d0_w32) (k0_pay35 (ld1 i arg2 X_arg2)) (k0_pay36 (ld1 i arg3 X_arg3)) (k0_pay37 (ld1 i arg6 X_arg6)) (k0_pay38 (ld1 i arg7 X_arg7)) (ld1 i arg8 X_arg8))⟩ :: L)) = (diag I i dq dcq).dcq := by
  rw [View.read_writes_cons_put _ _ _ _ _ (k0_off1_eq i), h, hx]
  subst hI
  simp only [ld1_eq]
  rfl

end Loop

end Cert.KernelIdeal.Att

end
-- ==== Proof.Att.Body.lean ====
/- The kernel's body, run: from the contents of its blocks it ends with the gradients `endOf` names. -/
module

public import proofs.«01_k».proof.Proof.Att.Step
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a key block reads, of the contents of the blocks. -/
def insBlk (x0 : Vec F S4096x128 .bf16) (x1 : Vec F S4096x128 .bf16) (x2 : Vec F S512x128 .bf16) (x3 : Vec F S512x128 .bf16) (x4 : Vec F S4096x128 .f32) (x5 : Vec F S4096x128 .f32) (x6 : Vec F S4096x128 .f32) (x7 : Vec F S1x1x1x512 .f32) : Ins F :=
  ⟨k0_pay28 x2, k0_pay29 x3, k0_pay30 x7, x0, x1, x4, x5, x6⟩

theorem insOf_blk (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x1x1x512 .f32) (harg9 : arg9.IsWhole) (x0 : Vec F S4096x128 .bf16) (x1 : Vec F S4096x128 .bf16) (x2 : Vec F S512x128 .bf16) (x3 : Vec F S512x128 .bf16) (x4 : Vec F S4096x128 .f32) (x5 : Vec F S4096x128 .f32) (x6 : Vec F S4096x128 .f32) (x7 : Vec F S1x1x1x512 .f32) :
    insOf arg2 arg3 arg6 arg7 arg8
      (k0_pay28 (arg4.view.readAt (Elt F) (Rect.unit ![0, 0] S512x128.size inb_S512x128_S512x128_0_0).toLoadRect (harg4.unread x2)))
      (k0_pay29 (arg5.view.readAt (Elt F) (Rect.unit ![0, 0] S512x128.size inb_S512x128_S512x128_0_0).toLoadRect (harg5.unread x3)))
      (k0_pay30 (arg9.view.readAt (Elt F) (Rect.unit ![0, 0, 0, 0] S1x1x1x512.size inb_S1x1x1x512_S1x1x1x512_0_0_0_0).toLoadRect (harg9.unread x7)))
      (harg2.unread x0) (harg3.unread x1) (harg6.unread x4) (harg7.unread x5) (harg8.unread x6)
      = insBlk x0 x1 x2 x3 x4 x5 x6 x7 := by
  unfold insOf insBlk
  rw [View.readAt_full, View.readAt_full, View.readAt_full, harg2.read_unread, harg3.read_unread, harg4.read_unread, harg5.read_unread,
    harg6.read_unread, harg7.read_unread, harg8.read_unread, harg9.read_unread]

set_option maxHeartbeats 1000000 in
/-- A key block after the head's first: it adds to what the rows' gradients hold. -/
theorem run_next (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x1x1x512 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x1x512 .f32) (harg14 : arg14.IsWhole)
    (x0 : Vec F S4096x128 .bf16) (x1 : Vec F S4096x128 .bf16) (x2 : Vec F S512x128 .bf16) (x3 : Vec F S512x128 .bf16) (x4 : Vec F S4096x128 .f32) (x5 : Vec F S4096x128 .f32) (x6 : Vec F S4096x128 .f32) (x7 : Vec F S1x1x1x512 .f32)
    (hc0 : ¬ (Scalar.cmpi .ne (Scalar.extui (Scalar.cmpi .eq (BitVec.ofNat 32 (i 1).val) 0#32)) 0#32) = 1#1) (dq dcq : Vec F S4096x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare dq ∗ (∃ d, owns (c : Thread nD τ) arg11 fullShare d) ∗ (∃ d, owns (c : Thread nD τ) arg12 fullShare d) ∗ owns (c : Thread nD τ) arg13 fullShare dcq ∗ (∃ d, owns (c : Thread nD τ) arg14 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (endOf (insBlk x0 x1 x2 x3 x4 x5 x6 x7) i dq dcq).dq ∗ owns (c : Thread nD τ) arg11 fullShare (k0_pay9 (endOf (insBlk x0 x1 x2 x3 x4 x5 x6 x7) i dq dcq).dk) ∗ owns (c : Thread nD τ) arg12 fullShare (k0_pay10 (endOf (insBlk x0 x1 x2 x3 x4 x5 x6 x7) i dq dcq).dv) ∗ owns (c : Thread nD τ) arg13 fullShare (endOf (insBlk x0 x1 x2 x3 x4 x5 x6 x7) i dq dcq).dcq ∗ owns (c : Thread nD τ) arg14 fullShare (k0_pay11 (endOf (insBlk x0 x1 x2 x3 x4 x5 x6 x7) i dq dcq).dck)) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ dq dcq S T hS hT hI (diag_acc (hI := hI) ..) (diag_dq (hI := hI) (L := []) (h := hf8) (hx := (ld1_eq i arg10 _).trans (congrArg _ hf8)) ..) (diag_dcq (hI := hI) (L := []) (h := hf11) (hx := (ld1_eq i arg13 _).trans (congrArg _ hf11)) ..)
    exact E.2.1
  isplitl [H9]
  · iexists _; isplitr; swap; · iexact H9
    ipureintro
    refine (View.read_writes_full ..).trans ?_
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ dq dcq S T hS hT hI (diag_acc (hI := hI) ..) (diag_dq (hI := hI) (L := []) (h := hf8) (hx := (ld1_eq i arg10 _).trans (congrArg _ hf8)) ..) (diag_dcq (hI := hI) (L := []) (h := hf11) (hx := (ld1_eq i arg13 _).trans (congrArg _ hf11)) ..)
    exact congrArg k0_pay9 (congrArg Prod.fst E.1)
  isplitl [H10]
  · iexists _; isplitr; swap; · iexact H10
    ipureintro
    refine (View.read_writes_full ..).trans ?_
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ dq dcq S T hS hT hI (diag_acc (hI := hI) ..) (diag_dq (hI := hI) (L := []) (h := hf8) (hx := (ld1_eq i arg10 _).trans (congrArg _ hf8)) ..) (diag_dcq (hI := hI) (L := []) (h := hf11) (hx := (ld1_eq i arg13 _).trans (congrArg _ hf11)) ..)
    exact congrArg k0_pay10 (congrArg (fun x => x.2.1) E.1)
  isplitl [H11]
  · iexists _; isplitr; swap; · iexact H11
    ipureintro
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ dq dcq S T hS hT hI (diag_acc (hI := hI) ..) (diag_dq (hI := hI) (L := []) (h := hf8) (hx := (ld1_eq i arg10 _).trans (congrArg _ hf8)) ..) (diag_dcq (hI := hI) (L := []) (h := hf11) (hx := (ld1_eq i arg13 _).trans (congrArg _ hf11)) ..)
    exact E.2.2
  iexists _; isplitr; swap; · iexact H12
  ipureintro
  refine (View.read_writes_full ..).trans ?_
  simp only [View.writes_append]
  generalize hS : st_k0_t1 (F := F) _ _ _ _ _ _ _ _ _ _ _ _ _ _ _ _ _ _ _ _ _ _ _ _ _ _ _ _ _ _ _ _ _ _ _ _ _ _ _ _ _ _ _ = S
  generalize hT : st_k0_t2 (F := F) _ _ _ _ _ _ _ _ _ _ _ _ _ _ _ _ _ _ _ _ _ _ _ _ _ _ _ _ _ _ _ _ _ _ _ _ _ _ _ _ _ _ _ = T
  have hI := insOf_blk arg2 harg2 arg3 harg3 arg4 harg4 arg5 harg5 arg6 harg6 arg7 harg7 arg8 harg8 arg9 harg9 x0 x1 x2 x3 x4 x5 x6 x7
  have E := loops_eq _ _ _ _ _ _ _ _ _ _ _ _ _ _ _ _ _ _ _ _ _ _ _ _ _ _ _ _ _ _ _ _ _ _ _ _ _ _ _ _ _ _ _ _ dq dcq S T hS hT hI (diag_acc (hI := hI) ..) (diag_dq (hI := hI) (L := []) (h := hf8) (hx := (ld1_eq i arg10 _).trans (congrArg _ hf8)) ..) (diag_dcq (hI := hI) (L := []) (h := hf11) (hx := (ld1_eq i arg13 _).trans (congrArg _ hf11)) ..)
  exact congrArg k0_pay11 (congrArg (fun x => x.2.2) E.1)

end Cert.KernelIdeal.Att

end
-- ==== Proof.Att.BodyFirst.lean ====
/- The kernel's body at a head's first key block: it zeroes the rows' gradients before it adds to them. -/
module

public import proofs.«01_k».proof.Proof.Att.Body
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A key block that is the head's first: it starts the rows' gradients from zero. -/
theorem run_first (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x1x1x512 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .bf16) (harg12 : arg12.IsWhole) (arg13 : Memref sig .tc .vmem S4096x128 .f32) (harg13 : arg13.IsWhole) (arg14 : Memref sig .tc .vmem S1x1x1x512 .f32) (harg14 : arg14.IsWhole)
    (x0 : Vec F S4096x128 .bf16) (x1 : Vec F S4096x128 .bf16) (x2 : Vec F S512x128 .bf16) (x3 : Vec F S512x128 .bf16) (x4 : Vec F S4096x128 .f32) (x5 : Vec F S4096x128 .f32) (x6 : Vec F S4096x128 .f32) (x7 : Vec F S1x1x1x512 .f32)
    (hc0 : (Scalar.cmpi .ne (Scalar.extui (Scalar.cmpi .eq (BitVec.ofNat 32 (i 1).val) 0#32)) 0#32) = 1#1) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (endOf (insBlk x0 x1 x2 x3 x4 x5 x6 x7) i k0_pay26 k0_pay27).dq ∗ owns (c : Thread nD τ) arg11 fullShare (k0_pay9 (endOf (insBlk x0 x1 x2 x3 x4 x5 x6 x7) i k0_pay26 k0_pay27).dk) ∗ owns (c : Thread nD τ) arg12 fullShare (k0_pay10 (endOf (insBlk x0 x1 x2 x3 x4 x5 x6 x7) i k0_pay26 k0_pay27).dv) ∗ owns (c : Thread nD τ) arg13 fullShare (endOf (insBlk x0 x1 x2 x3 x4 x5 x6 x7) i k0_pay26 k0_pay27).dcq ∗ owns (c : Thread nD τ) arg14 fullShare (k0_pay11 (endOf (insBlk x0 x1 x2 x3 x4 x5 x6 x7) i k0_pay26 k0_pay27).dck)) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ k0_pay26 k0_pay27 S T hS hT hI (diag_acc (hI := hI) ..) (diag_dq (hI := hI) (L := _) (h := (View.read_writes_full ..)) (hx := (ld1_eq i arg10 _).trans (congrArg _ (View.read_writes_full ..))) ..) (diag_dcq (hI := hI) (L := _) (h := (View.read_writes_full ..)) (hx := (ld1_eq i arg13 _).trans (congrArg _ (View.read_writes_full ..))) ..)
    exact E.2.1
  isplitl [H9]
  · iexists _; isplitr; swap; · iexact H9
    ipureintro
    refine (View.read_writes_full ..).trans ?_
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ k0_pay26 k0_pay27 S T hS hT hI (diag_acc (hI := hI) ..) (diag_dq (hI := hI) (L := _) (h := (View.read_writes_full ..)) (hx := (ld1_eq i arg10 _).trans (congrArg _ (View.read_writes_full ..))) ..) (diag_dcq (hI := hI) (L := _) (h := (View.read_writes_full ..)) (hx := (ld1_eq i arg13 _).trans (congrArg _ (View.read_writes_full ..))) ..)
    exact congrArg k0_pay9 (congrArg Prod.fst E.1)
  isplitl [H10]
  · iexists _; isplitr; swap; · iexact H10
    ipureintro
    refine (View.read_writes_full ..).trans ?_
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ k0_pay26 k0_pay27 S T hS hT hI (diag_acc (hI := hI) ..) (diag_dq (hI := hI) (L := _) (h := (View.read_writes_full ..)) (hx := (ld1_eq i arg10 _).trans (congrArg _ (View.read_writes_full ..))) ..) (diag_dcq (hI := hI) (L := _) (h := (View.read_writes_full ..)) (hx := (ld1_eq i arg13 _).trans (congrArg _ (View.read_writes_full ..))) ..)
    exact congrArg k0_pay10 (congrArg (fun x => x.2.1) E.1)
  isplitl [H11]
  · iexists _; isplitr; swap; · iexact H11
    ipureintro
    simp only [View.writes_append]
    generalize hS : st_k0_t1 (F := F) _ _ _ _ _ _ _ _ _ _ _ _ _ _ _ _ _ _ _ _ _ _ _ _ _ _ _ _ _ _ _ _ _ _ _ _ _ _ _ _ _ _ _ = S
    generalize hT : st_k0_t2 (F := F) _ _ _ _ _ _ _ _ _ _ _ _ _ _ _ _ _ _ _ _ _ _ _ _ _ _ _ _ _ _ _ _ _ _ _ _ _ _ _ _ _ _ _ = T
    have hI := insOf_blk arg2 harg2 arg3 harg3 arg4 harg4 arg5 harg5 arg6 harg6 arg7 harg7 arg8 harg8 arg9 harg9 x0 x1 x2 x3 x4 x5 x6 x7
    have E := loops_eq _ _ _ _ _ _ _ _ _ _ _ _ _ _ _ _ _ _ _ _ _ _ _ _ _ _ _ _ _ _ _ _ _ _ _ _ _ _ _ _ _ _ _ _ k0_pay26 k0_pay27 S T hS hT hI (diag_acc (hI := hI) ..) (diag_dq (hI := hI) (L := _) (h := (View.read_writes_full ..)) (hx := (ld1_eq i arg10 _).trans (congrArg _ (View.read_writes_full ..))) ..) (diag_dcq (hI := hI) (L := _) (h := (View.read_writes_full ..)) (hx := (ld1_eq i arg13 _).trans (congrArg _ (View.read_writes_full ..))) ..)
    exact E.2.2
  iexists _; isplitr; swap; · iexact H12
  ipureintro
  refine (View.read_writes_full ..).trans ?_
  simp only [View.writes_append]
  generalize hS : st_k0_t1 (F := F) _ _ _ _ _ _ _ _ _ _ _ _ _ _ _ _ _ _ _ _ _ _ _ _ _ _ _ _ _ _ _ _ _ _ _ _ _ _ _ _ _ _ _ = S
  generalize hT : st_k0_t2 (F := F) _ _ _ _ _ _ _ _ _ _ _ _ _ _ _ _ _ _ _ _ _ _ _ _ _ _ _ _ _ _ _ _ _ _ _ _ _ _ _ _ _ _ _ = T
  have hI := insOf_blk arg2 harg2 arg3 harg3 arg4 harg4 arg5 harg5 arg6 harg6 arg7 harg7 arg8 harg8 arg9 harg9 x0 x1 x2 x3 x4 x5 x6 x7
  have E := loops_eq _ _ _ _ _ _ _ _ _ _ _ _ _ _ _ _ _ _ _ _ _ _ _ _ _ _ _ _ _ _ _ _ _ _ _ _ _ _ _ _ _ _ _ _ k0_pay26 k0_pay27 S T hS hT hI (diag_acc (hI := hI) ..) (diag_dq (hI := hI) (L := _) (h := (View.read_writes_full ..)) (hx := (ld1_eq i arg10 _).trans (congrArg _ (View.read_writes_full ..))) ..) (diag_dcq (hI := hI) (L := _) (h := (View.read_writes_full ..)) (hx := (ld1_eq i arg13 _).trans (congrArg _ (View.read_writes_full ..))) ..)
  exact congrArg k0_pay11 (congrArg (fun x => x.2.2) E.1)

end Cert.KernelIdeal.Att

end
-- ==== Proof.Att.Dats.lean ====
/- What the pipeline's buffers hold point by point, the body's obligation, and the run of the kernel. -/
module

public import proofs.«01_k».proof.Proof.Att.BodyFirst
public import proofs.«01_k».proof.Proof.Gen.KernelIdeal.Frame
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's branch holds at a head's first key block. -/
theorem first_iff : ∀ t : Fin cfg0.N, (Scalar.cmpi .ne (Scalar.extui (Scalar.cmpi .eq (BitVec.ofNat 32 (grid0.coords t 1).val) 0#32)) 0#32) = 1#1 ↔ t.val % 8 = 0 :=
  (fun t => by
    have ht : t.val < 128 := Nat.lt_of_lt_of_eq t.isLt N_0
    have e1 : (grid0.coords t 1).val = t.val / 1 % 8 := Pipeline.Grid.coords_val t 1 (by decide) rfl
    simp only [e1]
    word_cmp
   : ∀ t : Fin grid0.N, (Scalar.cmpi .ne (Scalar.extui (Scalar.cmpi .eq (BitVec.ofNat 32 (grid0.coords t 1).val) 0#32)) 0#32) = 1#1 ↔ t.val % 8 = 0)

/-- What the key block of point `t` reads. -/
def insAt (c : Dev nD) (t : Fin cfg0.N) : Ins F :=
  insBlk (iblk m c 0 t) (iblk m c 1 t) (iblk m c 2 t) (iblk m c 3 t) (iblk m c 4 t) (iblk m c 5 t) (iblk m c 6 t) (iblk m c 7 t)

/-- The gradients the body leaves at point `n`: a head's first key block starts the rows' gradients from zero, each later one
    from what the one before left. -/
def accAt (c : Dev nD) : (n : ℕ) → n < cfg0.N → Acc F
  | 0, h => endOf (insAt m c ⟨0, h⟩) (grid0.coords ⟨0, h⟩) k0_pay26 k0_pay27
  | n + 1, h =>
    if (n + 1) % 8 = 0 then endOf (insAt m c ⟨n + 1, h⟩) (grid0.coords ⟨n + 1, h⟩) k0_pay26 k0_pay27
    else endOf (insAt m c ⟨n + 1, h⟩) (grid0.coords ⟨n + 1, h⟩) (accAt c n (Nat.lt_of_succ_lt h)).dq (accAt c n (Nat.lt_of_succ_lt h)).dcq

theorem accAt_first (c : Dev nD) (t : Fin cfg0.N) (h : t.val % 8 = 0) :
    accAt m c t.val t.isLt = endOf (insAt m c t) (grid0.coords t) k0_pay26 k0_pay27 := by
  obtain ⟨n, hn⟩ := t
  cases n with
  | zero => rfl
  | succ n => exact if_pos h

theorem accAt_next (c : Dev nD) (t : Fin cfg0.N) (h : t.val % 8 ≠ 0) :
    accAt m c t.val t.isLt = endOf (insAt m c t) (grid0.coords t)
      (accAt m c (t.val - 1) (Nat.lt_of_le_of_lt (Nat.sub_le _ _) t.isLt)).dq (accAt m c (t.val - 1) (Nat.lt_of_le_of_lt (Nat.sub_le _ _) t.isLt)).dcq := by
  obtain ⟨n, hn⟩ := t
  cases n with
  | zero => exact absurd rfl h
  | succ n => exact if_neg h

/-- The pipeline's data: the arrays as the region finds them, every input's buffer at its block, every output's at the
    gradient the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (accAt m c t.val t.isLt).dq
    | ⟨9, _⟩ => k0_pay9 (accAt m c t.val t.isLt).dk
    | ⟨10, _⟩ => k0_pay10 (accAt m c t.val t.isLt).dv
    | ⟨11, _⟩ => (accAt m c t.val t.isLt).dcq
    | ⟨12, _⟩ => k0_pay11 (accAt m c t.val t.isLt).dck
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (accAt m c t.val t.isLt).dq := by dsimp only [dats]
theorem after_9 (c : Dev nD) (t : Fin cfg0.N) : (dats m 0 c).after 9 t = k0_pay9 (accAt m c t.val t.isLt).dk := by dsimp only [dats]
theorem after_10 (c : Dev nD) (t : Fin cfg0.N) : (dats m 0 c).after 10 t = k0_pay10 (accAt m c t.val t.isLt).dv := by dsimp only [dats]
theorem after_11 (c : Dev nD) (t : Fin cfg0.N) : (dats m 0 c).after 11 t = (accAt m c t.val t.isLt).dcq := by dsimp only [dats]
theorem after_12 (c : Dev nD) (t : Fin cfg0.N) : (dats m 0 c).after 12 t = k0_pay11 (accAt m c t.val t.isLt).dck := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- After the head's first key block the buffer holds what the point before left. -/
theorem before_8 (c : Dev nD) (t : Fin cfg0.N) (h : t.val % 8 ≠ 0) (d) :
    (dats m 0 c).before 8 t d = (accAt m c (t.val - 1) (Nat.lt_of_le_of_lt (Nat.sub_le _ _) t.isLt)).dq := by
  have hN : t.val < 128 := Nat.lt_of_lt_of_eq t.isLt N_0
  rw [(dats m 0 c).before_out_kept 8 rfl t (fun h0 => h (by rw [h0])) (by
    rw [Bool.eq_false_iff]; intro hf
    have := (flush0_8 _).mp hf
    dsimp only at this
    omega) (fun _ => rfl) (fun _ _ => rfl) d, after_8]

/-- After the head's first key block the buffer holds what the point before left. -/
theorem before_11 (c : Dev nD) (t : Fin cfg0.N) (h : t.val % 8 ≠ 0) (d) :
    (dats m 0 c).before 11 t d = (accAt m c (t.val - 1) (Nat.lt_of_le_of_lt (Nat.sub_le _ _) t.isLt)).dcq := by
  have hN : t.val < 128 := Nat.lt_of_lt_of_eq t.isLt N_0
  rw [(dats m 0 c).before_out_kept 11 rfl t (fun h0 => h (by rw [h0])) (by
    rw [Bool.eq_false_iff]; intro hf
    have := (flush0_11 _).mp hf
    dsimp only at this
    omega) (fun _ => rfl) (fun _ _ => rfl) d, after_11]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  by_cases h0 : t.val % 8 = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_first c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [before_8 m c t h0, before_11 m c t h0]
    rw [accAt_next m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_next c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch's implicit arguments are found by unifying its conclusion with this one
set_option backward.isDefEq.respectTransparency.types false in
/-- The kernel's run: every array ends at what the data above says, every other buffer as the region finds it, every
    counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.KernelIdeal.Att

end
-- ==== Proof.Att.Frames.lean ====
/- The reference's frame, and that the idealization changed the kernel by naming one constant only. -/
module

public import proofs.«01_k».proof.Defs
public import proofs.«01_k».proof.Proof.Gen.ReferenceIdeal.Run
public import Idealize.ShloMosaic.Lib.Claim
public import Idealize.ShloMosaic.Lib.Quiescent

@[expose] public section

set_option maxRecDepth 16384

noncomputable section

namespace Cert.ReferenceIdeal.Att

open Cert.ReferenceIdeal Cert.ReferenceIdeal.Gen Idealize.ShloMosaic Idealize.ShloMosaic.TcCoe Idealize.SL.Sem

/-- The reference declares no semaphore, so its frame is its run's. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (Value.run m ρ) fun r h => ⟨fun c => (h c).2.2.2.2.2, sem_eq_zero_of_no_sems (by decide) _⟩

theorem preserves : Cert.preserves_Kernel_KernelIdeal :=
  IdealRules.named_const.statement Cert.KernelIdeal.κ "mask" .f32 0xF149F2CA#32 ⊥ rfl

end Cert.ReferenceIdeal.Att

end
-- ==== Proof.Att.Real.lean ====
/- The attention and its gradient over the real numbers, and the steps from extended reals down to them. -/
module

public import Idealize.ShloMosaic.PureOps.Ideal
public import Idealize.ShloMosaic.Lib.Pointwise
public import Idealize.ShloMosaic.Lib.WordCmp

@[expose] public section

noncomputable section

namespace Cert.Att

open Idealize.ShloMosaic

/-- The scale's value. -/
def scale : ℝ := (Ideal.ofBits .f32 0x3DB504F3#32).toReal

theorem scale_coe : Ideal.ofBits .f32 0x3DB504F3#32 = (scale : EReal) := by
  have h : ∃ r : ℝ, Ideal.ofBits .f32 0x3DB504F3#32 = (r : EReal) := by
    change ∃ r : ℝ, Ideal.ieee 8 23 0x3DB504F3#32 = (r : EReal)
    unfold Ideal.ieee
    dsimp only
    rw [if_neg (by decide), if_neg (by decide)]
    exact ⟨_, rfl⟩
  obtain ⟨r, hr⟩ := h
  rw [scale, hr, EReal.toReal_coe]

theorem ninf : Ideal.ofBits .f32 0xFF800000#32 = ⊥ := by
  change Ideal.ieee 8 23 0xFF800000#32 = ⊥
  unfold Ideal.ieee
  dsimp only
  rw [if_pos (by decide), if_pos (by decide), if_pos (by decide)]

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe (x : ℝ) {y : ℝ} (h : y ≠ 0) : Ideal.div (x : EReal) (y : EReal) = ((x / y : ℝ) : EReal) := by
  rw [Ideal.div_coe h, ← EReal.coe_mul, mul_one_div]

theorem exp_sub (x y : ℝ) : Ideal.exp ((x : EReal) - (y : EReal)) = ((Real.exp (x - y) : ℝ) : EReal) := by
  rw [← EReal.coe_sub, Ideal.exp_coe]

theorem log_coe {x : ℝ} (h : 0 < x) : Ideal.log (x : EReal) = ((Real.log x : ℝ) : EReal) := by
  rw [Ideal.log_coe, if_neg (not_le.mpr h)]

theorem select_le {α : Type} (a b : ℕ) (ha : a < 4096) (hb : b < 4096) (x y : α) :
    Scalar.select (IntOp.cmpi .sle (BitVec.ofNat 32 a) (BitVec.ofNat 32 b)) x y = if a ≤ b then x else y := by
  rw [WordCmp.cmpi_sle_ofNat (by omega) (by omega), Scalar.select_ofBool]
  simp

/-- The largest of a row's entries, none of them ⊤ and one of them above ⊥, is a real number. -/
theorem fold_coe {n : ℕ} (f : Fin n → EReal) (h : ∀ i, f i < ⊤) (i : Fin n) (hi : ⊥ < f i) :
    Finset.univ.fold max ⊥ f = ((Finset.univ.fold max ⊥ f).toReal : EReal) := by
  refine (EReal.coe_toReal (ne_of_lt ?_) (ne_of_gt ?_)).symm
  · exact (Finset.fold_max_lt _).mpr ⟨bot_lt_top, fun x _ => h x⟩
  · exact (Finset.lt_fold_max _).mpr (Or.inr ⟨i, Finset.mem_univ _, hi⟩)

/-- The largest of equal entries. -/
theorem fold_const {n : ℕ} (x : EReal) : Finset.univ.fold max ⊥ (fun _ : Fin (n + 1) => x) = x := by
  rw [Finset.fold_const (h := by simp), if_neg (Finset.univ_nonempty.ne_empty)]
  simp

/-- The reduction by the largest along the last axis. -/
theorem rowMax {n0 n1 n2 : ℕ} {s : Shape} (f : EReal → EReal → EReal) (hf : f = max) (x : (⟨3, ![n0, n1, n2]⟩ : Shape).Idx → EReal)
    (init : s.Idx → EReal) (hi : ∀ i, init i = ⊥) (h : (⟨3, ![n0, n1, n2]⟩ : Shape).ReducesTo [2] ⟨2, ![n0, n1]⟩) (hu : 0 < s.numel)
    (a : Fin n0) (t : Fin n1) (g : Fin n2 → EReal) (hg : ∀ u, x (ix3 a t u) = g u) :
    Host.reduce f x init h hu (ix2 a t) = Finset.univ.fold max ⊥ g := by
  subst hf
  refine (Host.reduce_eq_fold _ x init h hu _).trans ((Shape.ReducesTo.fold_fiber_r3_a2 h (ix2 a t) max _ x).trans ?_)
  rw [hi]
  exact congrArg (fun g' => Finset.univ.fold max (⊥ : EReal) g') (funext hg)

/-- Column `x` of head `h`. -/
def col (h : Fin 16) (x : Fin 128) : Fin 2048 := ⟨h.val * 128 + x.val, by omega⟩

/-- The head a column is of. -/
def head (x : Fin 2048) : Fin 16 := ⟨x.val / 128, by omega⟩

/-- The arguments: queries, keys, values, the gradient of the attention's result, and the running gates. -/
structure Args where
  q : Fin 4096 → Fin 2048 → ℝ
  k : Fin 4096 → Fin 2048 → ℝ
  v : Fin 4096 → Fin 2048 → ℝ
  d : Fin 4096 → Fin 2048 → ℝ
  c : Fin 4096 → Fin 16 → ℝ

namespace Args

variable (a : Args) (h : Fin 16) (t u : Fin 4096)

/-- The logit of row `t` and key `u`. -/
def score : ℝ := (∑ x, a.q t (col h x) * a.k u (col h x)) * scale + (a.c t h - a.c u h)

/-- The logit, −∞ above the diagonal. -/
def logit : EReal := if u.val ≤ t.val then (a.score h t u : EReal) else ⊥

/-- The largest logit of a row. -/
def peak : ℝ := (Finset.univ.fold max ⊥ (fun u => a.logit h t u)).toReal

/-- The exponential of a logit's distance below the row's largest. -/
def expo : ℝ := if u.val ≤ t.val then Real.exp (a.score h t u - a.peak h t) else 0

def total : ℝ := ∑ u, a.expo h t u

/-- The attention's weight. -/
def prob : ℝ := a.expo h t u / a.total h t

/-- The gradient of the weight. -/
def dot : ℝ := ∑ x, a.d t (col h x) * a.v u (col h x)

def mean : ℝ := ∑ u, a.prob h t u * a.dot h t u

/-- The gradient of the logit. -/
def grad : ℝ := a.prob h t u * (a.dot h t u - a.mean h t)

theorem peak_coe : Finset.univ.fold max ⊥ (fun u => a.logit h t u) = (a.peak h t : EReal) := by
  refine fold_coe _ (fun u => ?_) t ?_
  · unfold logit
    split
    · exact EReal.coe_lt_top _
    · exact bot_lt_top
  · unfold logit
    rw [if_pos le_rfl]
    exact EReal.bot_lt_coe _

theorem expo_nonneg : 0 ≤ a.expo h t u := by
  unfold expo
  split
  · exact (Real.exp_pos _).le
  · exact le_rfl

theorem total_pos : 0 < a.total h t := by
  refine Finset.sum_pos' (fun u _ => a.expo_nonneg h t u) ⟨t, Finset.mem_univ _, ?_⟩
  unfold expo
  rw [if_pos le_rfl]
  exact Real.exp_pos _

theorem total_ne : a.total h t ≠ 0 := (a.total_pos h t).ne'

theorem expo_coe : Ideal.exp (a.logit h t u - (a.peak h t : EReal)) = (a.expo h t u : EReal) := by
  unfold logit expo
  split
  · exact exp_sub _ _
  · rw [EReal.bot_sub, Ideal.exp_bot, EReal.coe_zero]

/-- The weight, from the logarithm of the row's sum. -/
theorem prob_eq (hu : u.val ≤ t.val) :
    Real.exp (a.score h t u - (a.peak h t + Real.log (a.total h t))) = a.prob h t u := by
  unfold prob expo
  rw [if_pos hu, ← sub_sub, Real.exp_sub, Real.exp_log (a.total_pos h t)]

theorem prob_zero (hu : ¬u.val ≤ t.val) : a.prob h t u = 0 := by
  unfold prob expo
  rw [if_neg hu, zero_div]

theorem grad_zero (hu : ¬u.val ≤ t.val) : a.grad h t u = 0 := by
  unfold grad
  rw [a.prob_zero h t u hu, zero_mul]

/-- The row's mean is also the product of the attention's result and its gradient. -/
theorem mean_eq : ∑ x, a.d t (col h x) * (∑ u, a.v u (col h x) * a.prob h t u) = a.mean h t := by
  unfold mean dot
  simp only [Finset.mul_sum]
  rw [Finset.sum_comm]
  refine Finset.sum_congr rfl fun u _ => Finset.sum_congr rfl fun x _ => ?_
  ring

/-- The five gradients, a column of the whole arrays each. -/
def dq (x : Fin 2048) : ℝ := ∑ u, a.grad (head x) t u * scale * a.k u x
def dk (x : Fin 2048) : ℝ := ∑ t, a.grad (head x) t u * scale * a.q t x
def dv (x : Fin 2048) : ℝ := ∑ t, a.d t x * a.prob (head x) t u
def dcq : ℝ := ∑ u, a.grad h t u
def dck : ℝ := ∑ t, -a.grad h t u

end Args

end Cert.Att
-- ==== Proof.Att.Finite.lean ====
/- The precondition's stated facts, and what the precondition says: every argument's elements are real numbers. -/
module

public import proofs.«01_k».proof.Pre_finite_inputs
public import proofs.«01_k».proof.Proof.Att.Real

@[expose] public section

set_option maxRecDepth 16384

noncomputable section

namespace Cert.Pre_finite_inputs.Att

open Cert.Pre_finite_inputs Idealize.ShloMosaic Cert.Att

theorem everywhere : S_.BroadcastsInDim S4096x2048 (![] : Fin 0 → Fin S4096x2048.rank) := by decide
theorem everywhere_gate : S_.BroadcastsInDim S4096x16 (![] : Fin 0 → Fin S4096x16.rank) := by decide
theorem along_lanes : S4096x16.BroadcastsInDim S4096x16x128 (![0, 1] : Fin 2 → Fin S4096x16x128.rank) := by decide
theorem joins_heads : S4096x16x128.ShapeCasts S4096x2048 := by decide

instance facts : Facts where
  bcast_S_S4096x2048 := everywhere
  bcast_S_S4096x16 := everywhere_gate
  bcast_S4096x16_S4096x16x128_0_1 := along_lanes
  shapeCasts_S4096x16x128_S4096x2048 := joins_heads

theorem pinf : Ideal.ofBits .f32 0x7F800000#32 = (⊤ : EReal) := by
  change Ideal.ieee 8 23 0x7F800000#32 = ⊤
  unfold Ideal.ieee
  dsimp only
  rw [if_pos (by decide), if_pos (by decide), if_neg (by decide)]

/-- An element whose magnitude is below ∞ is a real number. -/
theorem real_of (x : Ideal .f32) (h : FloatOps.absf x < Ideal.ofBits .f32 0x7F800000#32) : ((x : EReal).toReal : EReal) = x := by
  rw [pinf] at h
  have h' : max (x : EReal) (-x) < ⊤ := h
  obtain ⟨h1, h2⟩ := max_lt_iff.1 h'
  refine EReal.coe_toReal h1.ne ?_
  rintro rfl
  exact absurd h2 (by simp)

theorem both (p q : BitVec 1) : IntOp.andi p q = 1#1 → p = 1#1 ∧ q = 1#1 := by
  revert p q
  decide

theorem holds_of (p : Prop) [Decidable p] (h : BitVec.ofBool (decide p) = 1#1) : p := by
  by_contra n
  rw [decide_eq_false n] at h
  exact absurd h (by decide)

/-- The five arguments' elements where the precondition holds. -/
theorem real_at (q k v d : FVec Ideal S4096x2048 .f32) (c : FVec Ideal S4096x16 .f32) (t : Fin 4096) (x : Fin 2048)
    (e : fn q k v c d (ix2 t x) = 1#1) :
    ((q (ix2 t x) : EReal).toReal : EReal) = q (ix2 t x) ∧ ((k (ix2 t x) : EReal).toReal : EReal) = k (ix2 t x)
      ∧ ((v (ix2 t x) : EReal).toReal : EReal) = v (ix2 t x) ∧ ((d (ix2 t x) : EReal).toReal : EReal) = d (ix2 t x)
      ∧ ((c (ix2 t ⟨x.val / 128, by omega⟩) : EReal).toReal : EReal) = c (ix2 t ⟨x.val / 128, by omega⟩) := by
  pointwise [fn, fn_part1] at e
  obtain ⟨e, e4⟩ := both _ _ e
  obtain ⟨e, e3⟩ := both _ _ e
  obtain ⟨e, e2⟩ := both _ _ e
  obtain ⟨e0, e1⟩ := both _ _ e
  exact ⟨real_of _ (holds_of _ e0), real_of _ (holds_of _ e1), real_of _ (holds_of _ e2), real_of _ (holds_of _ e3),
    real_of _ (holds_of _ e4)⟩

/-- The real numbers that five arguments hold. -/
def args (q k v d : FVec Ideal S4096x2048 .f32) (c : FVec Ideal S4096x16 .f32) : Args where
  q t x := (q (ix2 t x) : EReal).toReal
  k t x := (k (ix2 t x) : EReal).toReal
  v t x := (v (ix2 t x) : EReal).toReal
  d t x := (d (ix2 t x) : EReal).toReal
  c t h := (c (ix2 t h) : EReal).toReal

variable {q k v d : FVec Ideal S4096x2048 .f32} {c : FVec Ideal S4096x16 .f32}

theorem args_eq (e : ∀ y, fn q k v c d y = 1#1) :
    (∀ t x, q (ix2 t x) = ((args q k v d c).q t x : EReal)) ∧ (∀ t x, k (ix2 t x) = ((args q k v d c).k t x : EReal))
      ∧ (∀ t x, v (ix2 t x) = ((args q k v d c).v t x : EReal)) ∧ (∀ t x, d (ix2 t x) = ((args q k v d c).d t x : EReal))
      ∧ (∀ t h, c (ix2 t h) = ((args q k v d c).c t h : EReal)) := by
  have r := fun t x => real_at q k v d c t x (e _)
  refine ⟨fun t x => (r t x).1.symm, fun t x => (r t x).2.1.symm, fun t x => (r t x).2.2.1.symm, fun t x => (r t x).2.2.2.1.symm,
    fun t h => ?_⟩
  have := (r t ⟨h.val * 128, by omega⟩).2.2.2.2
  rw [show (⟨(⟨h.val * 128, by omega⟩ : Fin 2048).val / 128, by omega⟩ : Fin 16) = h from Fin.ext (by show h.val * 128 / 128 = _; omega)] at this
  exact this.symm

end Cert.Pre_finite_inputs.Att

end
-- ==== Proof.Att.Payload.lean ====
/- One row block of one key block, when everything read is a real number: the kernel's weights and logit gradients are the
   attention's own, and each of the five running gradients grows by its part. -/
module

public import proofs.«01_k».proof.Proof.Att.Step
public import proofs.«01_k».proof.Proof.Att.Real

@[expose] public section

set_option maxRecDepth 16384

noncomputable section

namespace Cert.KernelIdeal.Att

open Cert.KernelIdeal Cert.KernelIdeal.Gen Idealize.ShloMosaic Idealize.ShloMosaic.TcCoe Cert.Att

/-- Place `r` of block `n`. -/
def pos (n : ℕ) (r : Fin 512) : Fin 4096 := ⟨(512 * n + r.val) % 4096, Nat.mod_lt _ (by decide)⟩

theorem pos_val {n : ℕ} (hn : n < 8) (r : Fin 512) : (pos n r).val = 512 * n + r.val :=
  Nat.mod_eq_of_lt (by omega)

/-- What key block `j` of head `h` reads: the arguments, each row's logarithm of its sum and each row's mean. -/
structure Reads (I : Ins Ideal) (a : Args) (h : Fin 16) (j : ℕ) : Prop where
  k : ∀ u x, I.k (ix2 u x) = (a.k (pos j u) (col h x) : EReal)
  v : ∀ u x, I.v (ix2 u x) = (a.v (pos j u) (col h x) : EReal)
  ck : ∀ u, I.ck (ix2 0 u) = (a.c (pos j u) h : EReal)
  q : ∀ t x, I.q (ix2 t x) = (a.q t (col h x) : EReal)
  dO : ∀ t x, I.dO (ix2 t x) = (a.d t (col h x) : EReal)
  lse : ∀ t x, I.lse (ix2 t x) = ((a.peak h t + Real.log (a.total h t) : ℝ) : EReal)
  dl : ∀ t x, I.dl (ix2 t x) = (a.mean h t : EReal)
  cq : ∀ t x, I.cq (ix2 t x) = (a.c t h : EReal)

theorem rows_at {α : Type} (n : ℕ) (x : S4096x128.Idx → α) (r : Fin 512) (y : Fin 128) :
    rows n x (ix2 r y) = x (ix2 (pos n r) y) := rfl

/-- The largest of a row's equal entries. -/
theorem fold_eq (f : Fin 128 → EReal) (x : EReal) (h : ∀ i, f i = x) :
    Finset.fold max (Ideal.ofBits FTy.f32 0xFF800000#32) f Finset.univ = x := by
  rw [ninf, funext h]
  exact fold_const x

theorem word_at (j u : ℕ) :
    IntOp.addi (Scalar.muli (BitVec.ofNat 32 j) 512#32) (BitVec.ofNat 32 u) = BitVec.ofNat 32 (j * 512 + u) := by
  rw [BitVec.ofNat_add, BitVec.ofNat_mul]
  rfl

theorem mask_named : (Named.named κ "mask" 0xF149F2CA#32 : Ideal .f32) = (⊥ : EReal) := rfl

variable {I : Ins Ideal} {a : Args} {h : Fin 16} {j : ℕ} (R : Reads I a h j)

include R

/-- The exponent of the kernel's weight. -/
theorem exponent (n : ℕ) (r u : Fin 512) :
    (∑ x, rows n I.q (ix2 r x) * I.k (ix2 u x)) * Ideal.ofBits .f32 0x3DB504F3#32
        + (((a.c (pos n r) h : ℝ) : EReal) - ((a.peak h (pos n r) + Real.log (a.total h (pos n r)) : ℝ) : EReal) - I.ck (ix2 0 u))
      = ((a.score h (pos n r) (pos j u) - (a.peak h (pos n r) + Real.log (a.total h (pos n r))) : ℝ) : EReal) := by
  simp only [rows_at, R.q, R.k, R.ck, scale_coe, ← EReal.coe_mul, coe_sum, ← EReal.coe_sub, ← EReal.coe_add]
  congr 1
  unfold Args.score
  ring

/-- A block's weights, below the diagonal. -/
theorem weight_at {n : ℕ} (hj : j < n) (hn : n < 8) (r u : Fin 512) :
    k0_pay14 I.k I.ck (rows n I.q) (rows n I.lse) (rows n I.cq) (ix2 r u) = (a.prob h (pos n r) (pos j u) : EReal) := by
  pointwise [k0_pay14, k0_pay12]
  rw [fold_eq _ _ fun x => (rows_at n I.cq r x).trans (R.cq _ x), fold_eq _ _ fun x => (rows_at n I.lse r x).trans (R.lse _ x),
    exponent R, Ideal.exp_coe, a.prob_eq h _ _ (by rw [pos_val hn, pos_val (by omega)]; omega)]

/-- A block's logit gradients, below the diagonal. -/
theorem grad_at {n : ℕ} (hj : j < n) (hn : n < 8) (r u : Fin 512) :
    k0_pay15 I.k I.v I.ck (rows n I.q) (rows n I.dO) (rows n I.lse) (rows n I.dl) (rows n I.cq) (ix2 r u)
      = (a.grad h (pos n r) (pos j u) : EReal) := by
  pointwise [k0_pay15, k0_pay13]
  rw [weight_at R hj hn, fold_eq _ _ fun x => (rows_at n I.dl r x).trans (R.dl _ x)]
  simp only [rows_at, R.dO, R.v, ← EReal.coe_mul, coe_sum, ← EReal.coe_sub]
  rfl

/-- The diagonal block's weights: the entries above the diagonal are masked. -/
theorem diag_weight_at (i : grid0.Coords) (hi : (i 1).val = j) (hj : j < 8) (r u : Fin 512) :
    k0_pay39 (BitVec.ofNat 32 (i 1).val) I.k I.ck (k0_pay31 i) (iota .tc S512x512 32 [0] iota_S512x512_d0_w32) (k0_pay35 (rows j I.q))
      (k0_pay37 (rows j I.lse)) (rows j I.cq) (ix2 r u) = (a.prob h (pos j r) (pos j u) : EReal) := by
  pointwise [k0_pay39, k0_pay31, k0_pay37, k0_pay35]
  rw [fold_eq _ _ fun x => (rows_at j I.cq r x).trans (R.cq _ x), fold_eq _ _ fun x => (rows_at j I.lse r x).trans (R.lse _ x),
    exponent R, word_at, word_at, hi, select_le _ _ (by omega) (by omega), mask_named]
  split
  · rw [Ideal.exp_coe, a.prob_eq h _ _ (by rw [pos_val hj, pos_val hj]; omega)]
  · rw [Ideal.exp_bot, a.prob_zero h _ _ (by rw [pos_val hj, pos_val hj]; omega)]
    rfl

theorem diag_grad_at (i : grid0.Coords) (hi : (i 1).val = j) (hj : j < 8) (r u : Fin 512) :
    k0_pay40 (BitVec.ofNat 32 (i 1).val) I.k I.v I.ck (k0_pay31 i) (iota .tc S512x512 32 [0] iota_S512x512_d0_w32) (k0_pay35 (rows j I.q))
      (k0_pay36 (rows j I.dO)) (k0_pay37 (rows j I.lse)) (k0_pay38 (rows j I.dl)) (rows j I.cq) (ix2 r u)
      = (a.grad h (pos j r) (pos j u) : EReal) := by
  pointwise [k0_pay40, k0_pay36, k0_pay38]
  rw [diag_weight_at R i hi hj, fold_eq _ _ fun x => (rows_at j I.dl r x).trans (R.dl _ x)]
  simp only [rows_at, R.dO, R.v, ← EReal.coe_mul, coe_sum, ← EReal.coe_sub]
  rfl

end Cert.KernelIdeal.Att

end
-- ==== Proof.Att.Run.lean ====
/- A whole key block, when everything read is a real number: its diagonal block and the row blocks after it add up to the sums
   over all the rows, since the weights above the diagonal are zero. -/
module

public import proofs.«01_k».proof.Proof.Att.Payload

@[expose] public section

set_option maxRecDepth 16384

noncomputable section

namespace Cert.KernelIdeal.Att

open Cert.KernelIdeal Cert.KernelIdeal.Gen Idealize.ShloMosaic Idealize.ShloMosaic.TcCoe Cert.Att

/-- The rows of a replaced block are the new ones. -/
theorem putRows_at {n : ℕ} (hn : n < 8) (x : S4096x128.Idx → EReal) (w : S512x128.Idx → EReal) (f g : Fin 4096 → Fin 128 → ℝ)
    (hx : ∀ t y, x (ix2 t y) = (f t y : EReal)) (hw : ∀ r y, w (ix2 r y) = (g (pos n r) y : EReal)) (t : Fin 4096) (y : Fin 128) :
    putRows n x w (ix2 t y) = ((if t.val / 512 = n then g t y else f t y : ℝ) : EReal) := by
  unfold putRows VecWindow.put
  split
  · rename_i h
    have h0 : 512 * n ≤ t.val ∧ t.val < 512 * n + 512 := h 0
    rw [if_pos (by omega)]
    have e : pos n ⟨t.val - 512 * n, by omega⟩ = t := Fin.ext (by rw [pos_val hn]; dsimp only; omega)
    refine Eq.trans (congrArg w (funext fun a => Fin.ext ?_)) ((hw ⟨t.val - 512 * n, by omega⟩ y).trans (by rw [e]))
    match a with
    | 0 => rfl
    | 1 => rfl
  · rename_i h
    rw [if_neg, hx]
    intro e
    refine h fun b => ?_
    match b with
    | 0 =>
      show 512 * n ≤ t.val ∧ t.val < 512 * n + 512
      omega
    | 1 =>
      show 0 ≤ y.val ∧ y.val < 0 + 128
      omega

/-- The sum over all the rows, when the rows before block `j` add nothing. -/
theorem sum_rows (f : Fin 4096 → ℝ) {j : ℕ} (hj : j < 8) (h0 : ∀ t : Fin 4096, t.val < 512 * j → f t = 0) :
    ∑ n ∈ Finset.range (8 - j), ∑ r, f (pos (j + n) r) = ∑ t, f t := by
  have e : ∑ t, f t = ∑ n ∈ Finset.range 8, ∑ r, f (pos n r) := by
    rw [Finset.sum_range, ← Fintype.sum_prod_type' (f := fun (n : Fin 8) (r : Fin 512) => f (pos n.val r))]
    refine (Fintype.sum_equiv (finProdFinEquiv (m := 8) (n := 512)) _ _ fun p => congrArg f (Fin.ext ?_)).symm
    rw [pos_val p.1.isLt]
    show _ = p.2.val + 512 * p.1.val
    omega
  rw [e, ← Finset.sum_range_add_sum_Ico _ hj.le, Finset.sum_Ico_eq_sum_range, Finset.sum_eq_zero (s := Finset.range j), zero_add]
  intro n hn
  have hn := Finset.mem_range.mp hn
  exact Finset.sum_eq_zero fun r _ => h0 _ (by rw [pos_val (by omega)]; omega)

/-- The running gradients are these real numbers. -/
structure Is (A : Acc Ideal) (dk dv : Fin 512 → Fin 128 → ℝ) (dck : Fin 512 → ℝ) (dq dcq : Fin 4096 → Fin 128 → ℝ) : Prop where
  dk : ∀ u x, A.dk (ix2 u x) = (dk u x : EReal)
  dv : ∀ u x, A.dv (ix2 u x) = (dv u x : EReal)
  dck : ∀ u, A.dck (ix2 0 u) = (dck u : EReal)
  dq : ∀ t x, A.dq (ix2 t x) = (dq t x : EReal)
  dcq : ∀ t x, A.dcq (ix2 t x) = (dcq t x : EReal)

theorem Is.to {A : Acc Ideal} {dk dv dk' dv' : Fin 512 → Fin 128 → ℝ} {dck dck' : Fin 512 → ℝ} {dq dcq dq' dcq' : Fin 4096 → Fin 128 → ℝ}
    (H : Is A dk dv dck dq dcq) (h1 : ∀ u x, dk u x = dk' u x) (h2 : ∀ u x, dv u x = dv' u x) (h3 : ∀ u, dck u = dck' u)
    (h4 : ∀ t x, dq t x = dq' t x) (h5 : ∀ t x, dcq t x = dcq' t x) : Is A dk' dv' dck' dq' dcq' where
  dk u x := by rw [H.dk, h1]
  dv u x := by rw [H.dv, h2]
  dck u := by rw [H.dck, h3]
  dq t x := by rw [H.dq, h4]
  dcq t x := by rw [H.dcq, h5]

/-- What row block `n` adds to the gradients of key block `j`, and what key block `j` adds to those of row `t`. -/
def addK (a : Args) (h : Fin 16) (j n : ℕ) (u : Fin 512) (x : Fin 128) : ℝ := ∑ r, a.grad h (pos n r) (pos j u) * a.q (pos n r) (col h x)
def addV (a : Args) (h : Fin 16) (j n : ℕ) (u : Fin 512) (x : Fin 128) : ℝ := ∑ r, a.prob h (pos n r) (pos j u) * a.d (pos n r) (col h x)
def addC (a : Args) (h : Fin 16) (j n : ℕ) (u : Fin 512) : ℝ := ∑ r, a.grad h (pos n r) (pos j u)
def addQ (a : Args) (h : Fin 16) (j : ℕ) (t : Fin 4096) (x : Fin 128) : ℝ := (∑ u, a.grad h t (pos j u) * a.k (pos j u) (col h x)) * scale
def addR (a : Args) (h : Fin 16) (j : ℕ) (t : Fin 4096) : ℝ := ∑ u, a.grad h t (pos j u)

variable {I : Ins Ideal} {a : Args} {h : Fin 16} {j : ℕ} (R : Reads I a h j)

include R

theorem step_is {A : Acc Ideal} {dk dv : Fin 512 → Fin 128 → ℝ} {dck : Fin 512 → ℝ} {dq dcq : Fin 4096 → Fin 128 → ℝ}
    (H : Is A dk dv dck dq dcq) {n : ℕ} (hj : j < n) (hn : n < 8) :
    Is (step I n A) (fun u x => dk u x + addK a h j n u x) (fun u x => dv u x + addV a h j n u x) (fun u => dck u - addC a h j n u)
      (fun t x => if t.val / 512 = n then dq t x + addQ a h j t x else dq t x)
      (fun t x => if t.val / 512 = n then dcq t x + addR a h j t else dcq t x) where
  dk u x := by
    pointwise [step, k0_pay18, k0_pay12, k0_pay16]
    simp only [grad_at R hj hn, rows_at, R.q, H.dk, ← EReal.coe_mul, coe_sum, ← EReal.coe_add]
    rfl
  dv u x := by
    pointwise [step, k0_pay17, k0_pay13]
    simp only [weight_at R hj hn, rows_at, R.dO, H.dv, ← EReal.coe_mul, coe_sum, ← EReal.coe_add]
    rfl
  dck u := by
    pointwise [step, k0_pay5]
    simp only [grad_at R hj hn, H.dck, coe_sum, ← EReal.coe_sub]
    rfl
  dq := putRows_at hn _ _ _ (fun t x => dq t x + addQ a h j t x) H.dq fun r x => by
    pointwise [k0_pay3, k0_pay16]
    simp only [grad_at R hj hn, rows_at, R.k, H.dq, scale_coe, ← EReal.coe_mul, coe_sum, ← EReal.coe_add]
    rfl
  dcq := putRows_at hn _ _ _ (fun t x => dcq t x + addR a h j t) H.dcq fun r x => by
    pointwise [k0_pay4]
    simp only [grad_at R hj hn, rows_at, H.dcq, coe_sum, ← EReal.coe_add]
    rfl

theorem diag_is {dq dcq : Vec Ideal S4096x128 .f32} {fq fc : Fin 4096 → Fin 128 → ℝ} (hq : ∀ t x, dq (ix2 t x) = (fq t x : EReal))
    (hc : ∀ t x, dcq (ix2 t x) = (fc t x : EReal)) (i : grid0.Coords) (hi : (i 1).val = j) (hj : j < 8) :
    Is (diag I i dq dcq) (addK a h j j) (addV a h j j) (fun u => -addC a h j j u)
      (fun t x => if t.val / 512 = j then fq t x + addQ a h j t x else fq t x)
      (fun t x => if t.val / 512 = j then fc t x + addR a h j t else fc t x) := by
  have hg := diag_grad_at R i hi hj
  have hw := diag_weight_at R i hi hj
  subst hi
  exact {
    dk := fun u x => by
      pointwise [diag, k0_pay43, k0_pay41, k0_pay32]
      simp only [hg, coe_sum, ← EReal.coe_mul]
      pointwise [k0_pay35]
      simp only [rows_at, R.q, ← EReal.coe_mul, coe_sum]
      rfl
    dv := fun u x => by
      pointwise [diag, k0_pay42, k0_pay33]
      simp only [hw]
      pointwise [k0_pay36]
      simp only [rows_at, R.dO, ← EReal.coe_mul, coe_sum]
      rfl
    dck := fun u => by
      pointwise [diag, k0_pay2, k0_pay34]
      simp only [hg, coe_sum]
      rw [← EReal.coe_zero, ← EReal.coe_sub, zero_sub]
      rfl
    dq := putRows_at hj _ _ _ (fun t x => fq t x + addQ a h _ t x) hq fun r x => by
      pointwise [k0_pay44, k0_pay41]
      simp only [hg, rows_at, R.k, hq, scale_coe, ← EReal.coe_mul, coe_sum, ← EReal.coe_add]
      rfl
    dcq := putRows_at hj _ _ _ (fun t x => fc t x + addR a h _ t) hc fun r x => by
      pointwise [k0_pay1, k0_pay45, k0_pay46]
      simp only [hg, rows_at, hc, coe_sum, ← EReal.coe_add]
      rfl }

variable {dq dcq : Vec Ideal S4096x128 .f32} {fq fc : Fin 4096 → Fin 128 → ℝ} (hq : ∀ t x, dq (ix2 t x) = (fq t x : EReal))
    (hc : ∀ t x, dcq (ix2 t x) = (fc t x : EReal)) (i : grid0.Coords) (hi : (i 1).val = j)

include hq hc hi

theorem run_is (k : ℕ) (hk : j + k < 8) :
    Is (run I i dq dcq k) (fun u x => ∑ n ∈ Finset.range (k + 1), addK a h j (j + n) u x) (fun u x => ∑ n ∈ Finset.range (k + 1), addV a h j (j + n) u x)
      (fun u => -∑ n ∈ Finset.range (k + 1), addC a h j (j + n) u)
      (fun t x => if j ≤ t.val / 512 ∧ t.val / 512 ≤ j + k then fq t x + addQ a h j t x else fq t x)
      (fun t x => if j ≤ t.val / 512 ∧ t.val / 512 ≤ j + k then fc t x + addR a h j t else fc t x) := by
  induction k with
  | zero =>
    refine (diag_is R hq hc i hi hk).to (fun u x => ?_) (fun u x => ?_) (fun u => ?_) (fun t x => ?_) (fun t x => ?_)
    · rw [Finset.sum_range_one, Nat.add_zero]
    · rw [Finset.sum_range_one, Nat.add_zero]
    · rw [Finset.sum_range_one, Nat.add_zero]
    · exact if_congr (by omega) rfl rfl
    · exact if_congr (by omega) rfl rfl
  | succ k ih =>
    have H := step_is R (ih (by omega)) (n := j + (k + 1)) (by omega) hk
    rw [show j + (k + 1) = (i 1).val + 1 + k by omega] at H
    refine H.to (fun u x => ?_) (fun u x => ?_) (fun u => ?_) (fun t x => ?_) (fun t x => ?_)
    · rw [Finset.sum_range_succ _ (k + 1), show j + (k + 1) = (i 1).val + 1 + k by omega]
    · rw [Finset.sum_range_succ _ (k + 1), show j + (k + 1) = (i 1).val + 1 + k by omega]
    · rw [Finset.sum_range_succ _ (k + 1), show j + (k + 1) = (i 1).val + 1 + k by omega]
      ring
    · split_ifs <;> first | rfl | omega
    · split_ifs <;> first | rfl | omega

/-- The key block's own gradients are sums over all the rows, and each row's gradients grow by the key block's part. -/
theorem end_is (hj : j < 8) :
    Is (endOf I i dq dcq) (fun u x => ∑ t, a.grad h t (pos j u) * a.q t (col h x)) (fun u x => ∑ t, a.prob h t (pos j u) * a.d t (col h x))
      (fun u => -∑ t, a.grad h t (pos j u)) (fun t x => fq t x + addQ a h j t x) (fun t x => fc t x + addR a h j t) := by
  have H := run_is R hq hc i hi (7 - j) (by omega)
  have above : ∀ (t : Fin 4096) (u : Fin 512), t.val < 512 * j → ¬(pos j u).val ≤ t.val := fun t u ht => by
    rw [pos_val hj]
    omega
  unfold endOf
  rw [hi]
  rw [show 7 - j + 1 = 8 - j by omega] at H
  refine H.to (fun u x => ?_) (fun u x => ?_) (fun u => ?_) (fun t x => ?_) (fun t x => ?_)
  · exact sum_rows (fun t => a.grad h t (pos j u) * a.q t (col h x)) hj fun t ht => by rw [a.grad_zero h t _ (above t u ht), zero_mul]
  · exact sum_rows (fun t => a.prob h t (pos j u) * a.d t (col h x)) hj fun t ht => by rw [a.prob_zero h t _ (above t u ht), zero_mul]
  · exact congrArg Neg.neg (sum_rows (fun t => a.grad h t (pos j u)) hj fun t ht => a.grad_zero h t _ (above t u ht))
  · split_ifs with ht
    · rfl
    · rw [addQ, Finset.sum_eq_zero fun u _ => by rw [a.grad_zero h t _ (above t u (by omega)), zero_mul], zero_mul, add_zero]
  · split_ifs with ht
    · rfl
    · rw [addR, Finset.sum_eq_zero fun u _ => a.grad_zero h t _ (above t u (by omega)), add_zero]

end Cert.KernelIdeal.Att

end
-- ==== Proof.Att.Host.lean ====
/- What the kernel's arrays hold before the launch: the arguments, each row's logarithm of its sum and mean, and the gates, as
   the host operations' terms of the arguments. -/
module

public import proofs.«01_k».proof.Proof.Gen.KernelIdeal.Frame

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F]

namespace Host

def qh (q : FVec F S4096x2048 .f32) : FVec F S4096x16x128 .f32 :=
  shapeCast S4096x16x128 q shapeCasts_S4096x2048_S4096x16x128

def kh (k : FVec F S4096x2048 .f32) : FVec F S4096x16x128 .f32 :=
  shapeCast S4096x16x128 k shapeCasts_S4096x2048_S4096x16x128

def vh (v : FVec F S4096x2048 .f32) : FVec F S4096x16x128 .f32 :=
  shapeCast S4096x16x128 v shapeCasts_S4096x2048_S4096x16x128

def logits (q : FVec F S4096x2048 .f32) (k : FVec F S4096x2048 .f32) (c : FVec F S4096x16 .f32) : FVec F S16x4096x4096 .f32 :=
  select (broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Idealize.ShloMosaic.Host.dotGeneral dot_S4096x16x128_S4096x16x128_S16x4096x4096_2_2_0_0_1_1 none (qh q) (kh k)) (broadcastInDim S16x4096x4096 ![] bcast_S_S16x4096x4096 (constant S_ .f32 0x3DB504F3#32))) (subf (broadcastInDim S16x4096x4096 ![0, 1, 2] bcast_S16x4096x1_S16x4096x4096_0_1_2 (broadcastInDim S16x4096x1 ![0, 1] bcast_S16x4096_S16x4096x1_0_1 (transpose S16x4096 [1, 0] c transposes_S4096x16_S16x4096_1_0))) (broadcastInDim S16x4096x4096 ![0, 1, 2] bcast_S16x1x4096_S16x4096x4096_0_1_2 (broadcastInDim S16x1x4096 ![0, 2] bcast_S16x4096_S16x1x4096_0_2 (transpose S16x4096 [1, 0] c transposes_S4096x16_S16x4096_1_0))))) (broadcastInDim S16x4096x4096 ![] bcast_S_S16x4096x4096 (constant S_ .f32 0xFF800000#32))

def top (q : FVec F S4096x2048 .f32) (k : FVec F S4096x2048 .f32) (c : FVec F S4096x16 .f32) : FVec F S16x4096 .f32 :=
  Idealize.ShloMosaic.Host.reduce FloatOps.maximumf (logits q k c) (constant S_ .f32 0xFF800000#32) reducesTo_S16x4096x4096_S16x4096_d2 h_S_

def expo (q : FVec F S4096x2048 .f32) (k : FVec F S4096x2048 .f32) (c : FVec F S4096x16 .f32) : FVec F S16x4096x4096 .f32 :=
  Idealize.ShloMosaic.Host.exp (subf (logits q k c) (broadcastInDim S16x4096x4096 ![0, 1, 2] bcast_S16x4096x1_S16x4096x4096_0_1_2 (broadcastInDim S16x4096x1 ![0, 1] bcast_S16x4096_S16x4096x1_0_1 (top q k c))))

def total (q : FVec F S4096x2048 .f32) (k : FVec F S4096x2048 .f32) (c : FVec F S4096x16 .f32) : FVec F S16x4096 .f32 :=
  Idealize.ShloMosaic.Host.reduceAdd (expo q k c) (constant S_ .f32 0x00000000#32) reducesTo_S16x4096x4096_S16x4096_d2 h_S_

def probs (q : FVec F S4096x2048 .f32) (k : FVec F S4096x2048 .f32) (c : FVec F S4096x16 .f32) : FVec F S16x4096x4096 .f32 :=
  Idealize.ShloMosaic.Host.divf (expo q k c) (broadcastInDim S16x4096x4096 ![0, 1, 2] bcast_S16x4096x1_S16x4096x4096_0_1_2 (broadcastInDim S16x4096x1 ![0, 1] bcast_S16x4096_S16x4096x1_0_1 (total q k c)))

def ctx (q : FVec F S4096x2048 .f32) (k : FVec F S4096x2048 .f32) (v : FVec F S4096x2048 .f32) (c : FVec F S4096x16 .f32) : FVec F S4096x16x128 .f32 :=
  transpose S4096x16x128 [2, 0, 1] (Idealize.ShloMosaic.Host.dotGeneral dot_S4096x16x128_S16x4096x4096_S16x128x4096_0_2_2_1_1_0 none (vh v) (probs q k c)) transposes_S16x128x4096_S4096x16x128_2_0_1

def lse (q : FVec F S4096x2048 .f32) (k : FVec F S4096x2048 .f32) (c : FVec F S4096x16 .f32) : FVec F S4096x2048 .f32 :=
  shapeCast S4096x2048 (broadcastInDim S4096x16x128 ![0, 1] bcast_S4096x16_S4096x16x128_0_1 (transpose S4096x16 [1, 0] (addf (top q k c) (Idealize.ShloMosaic.Host.log (total q k c))) transposes_S16x4096_S4096x16_1_0)) shapeCasts_S4096x16x128_S4096x2048

def delta (q : FVec F S4096x2048 .f32) (k : FVec F S4096x2048 .f32) (v : FVec F S4096x2048 .f32) (c : FVec F S4096x16 .f32) (d : FVec F S4096x2048 .f32) : FVec F S4096x2048 .f32 :=
  shapeCast S4096x2048 (broadcastInDim S4096x16x128 ![0, 1] bcast_S4096x16_S4096x16x128_0_1 (Idealize.ShloMosaic.Host.reduceAdd (mulf (shapeCast S4096x16x128 d shapeCasts_S4096x2048_S4096x16x128) (ctx q k v c)) (constant S_ .f32 0x00000000#32) reducesTo_S4096x16x128_S4096x16_d2 h_S_)) shapeCasts_S4096x16x128_S4096x2048

def cqRep (c : FVec F S4096x16 .f32) : FVec F S4096x2048 .f32 :=
  shapeCast S4096x2048 (broadcastInDim S4096x16x128 ![0, 1] bcast_S4096x16_S4096x16x128_0_1 c) shapeCasts_S4096x16x128_S4096x2048

def ckRep (c : FVec F S4096x16 .f32) : FVec F S16x8x1x512 .f32 :=
  shapeCast S16x8x1x512 (transpose S16x4096 [1, 0] c transposes_S4096x16_S16x4096_1_0) shapeCasts_S16x4096_S16x8x1x512

end Host

variable [Named F] (m : (ℓ : Loc nD τ sig) → Buf (Elt F) ℓ) (c : Dev nD)

/-- What an array holds when the kernel is launched. -/
def arr (b : Ref sig .tc) : Buf (Elt F) ((c : Thread nD τ).loc b) := V m c b

set_option maxHeartbeats 8000000 in
theorem arr_lse : arr m c main_v44 = Host.lse (m (c.tc.loc main_arg0)) (m (c.tc.loc main_arg1)) (m (c.tc.loc main_arg3)) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp
  rfl

set_option maxHeartbeats 8000000 in
theorem arr_delta : arr m c main_v46 = Host.delta (m (c.tc.loc main_arg0)) (m (c.tc.loc main_arg1)) (m (c.tc.loc main_arg2)) (m (c.tc.loc main_arg3)) (m (c.tc.loc main_arg4)) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp
  rfl

set_option maxHeartbeats 8000000 in
theorem arr_cq : arr m c main_v48 = Host.cqRep (m (c.tc.loc main_arg3)) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp
  rfl

set_option maxHeartbeats 8000000 in
theorem arr_ck : arr m c main_v50 = Host.ckRep (m (c.tc.loc main_arg3)) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp
  rfl

set_option maxHeartbeats 8000000 in
theorem arr_q : arr m c main_v51 = (truncf .bf16 (m (c.tc.loc main_arg0)) bitsLt_bf16_f32 : FVec F S4096x2048 .bf16) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp

set_option maxHeartbeats 8000000 in
theorem arr_k : arr m c main_v52 = (truncf .bf16 (m (c.tc.loc main_arg1)) bitsLt_bf16_f32 : FVec F S4096x2048 .bf16) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp

set_option maxHeartbeats 8000000 in
theorem arr_v : arr m c main_v53 = (truncf .bf16 (m (c.tc.loc main_arg2)) bitsLt_bf16_f32 : FVec F S4096x2048 .bf16) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp

set_option maxHeartbeats 8000000 in
theorem arr_dO : arr m c main_v54 = (truncf .bf16 (m (c.tc.loc main_arg4)) bitsLt_bf16_f32 : FVec F S4096x2048 .bf16) := by
  simp only [arr, V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp

end Cert.KernelIdeal.Att

end
-- ==== Proof.Att.Ref.lean ====
/- The reference's operations in stages: the logits, the softmax's parts, and the gradient by each argument. -/
module

public import proofs.«01_k».proof.Proof.Gen.ReferenceIdeal.Run

@[expose] public section

set_option maxRecDepth 16384

noncomputable section

namespace Cert.ReferenceIdeal.Att

open Cert.ReferenceIdeal Cert.ReferenceIdeal.Gen Idealize.ShloMosaic Idealize.ShloMosaic.TcCoe

variable {F : FTy → Type} [FloatOps F]

def qh (q : FVec F S4096x2048 .f32) : FVec F S4096x16x128 .f32 :=
  shapeCast S4096x16x128 q shapeCasts_S4096x2048_S4096x16x128

def kh (k : FVec F S4096x2048 .f32) : FVec F S4096x16x128 .f32 :=
  shapeCast S4096x16x128 k shapeCasts_S4096x2048_S4096x16x128

def vh (v : FVec F S4096x2048 .f32) : FVec F S4096x16x128 .f32 :=
  shapeCast S4096x16x128 v shapeCasts_S4096x2048_S4096x16x128

def mask  : IVec S16x4096x4096 1 :=
  broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

def logits (q : FVec F S4096x2048 .f32) (k : FVec F S4096x2048 .f32) (c : FVec F S4096x16 .f32) : FVec F S16x4096x4096 .f32 :=
  select mask (addf (mulf (Host.dotGeneral dot_S4096x16x128_S4096x16x128_S16x4096x4096_2_2_0_0_1_1 none (qh q) (kh k)) (broadcastInDim S16x4096x4096 ![] bcast_S_S16x4096x4096 (constant S_ .f32 0x3DB504F3#32))) (subf (broadcastInDim S16x4096x4096 ![0, 1, 2] bcast_S16x4096x1_S16x4096x4096_0_1_2 (broadcastInDim S16x4096x1 ![0, 1] bcast_S16x4096_S16x4096x1_0_1 (transpose S16x4096 [1, 0] c transposes_S4096x16_S16x4096_1_0))) (broadcastInDim S16x4096x4096 ![0, 1, 2] bcast_S16x1x4096_S16x4096x4096_0_1_2 (broadcastInDim S16x1x4096 ![0, 2] bcast_S16x4096_S16x1x4096_0_2 (transpose S16x4096 [1, 0] c transposes_S4096x16_S16x4096_1_0))))) (broadcastInDim S16x4096x4096 ![] bcast_S_S16x4096x4096 ((constant S_ .f32 0xFF800000#32)))

def top (q : FVec F S4096x2048 .f32) (k : FVec F S4096x2048 .f32) (c : FVec F S4096x16 .f32) : FVec F S16x4096 .f32 :=
  maximumf (broadcastInDim S16x4096 ![] bcast_S_S16x4096 (constant S_ .f32 0xFF800000#32)) (Host.reduce FloatOps.maximumf (logits q k c) (constant S_ .f32 0xFF800000#32) reducesTo_S16x4096x4096_S16x4096_d2 h_S_)

def expo (q : FVec F S4096x2048 .f32) (k : FVec F S4096x2048 .f32) (c : FVec F S4096x16 .f32) : FVec F S16x4096x4096 .f32 :=
  Host.exp (subf (logits q k c) (broadcastInDim S16x4096x4096 ![0, 1, 2] bcast_S16x4096x1_S16x4096x4096_0_1_2 (broadcastInDim S16x4096x1 ![0, 1] bcast_S16x4096_S16x4096x1_0_1 (top q k c))))

def total (q : FVec F S4096x2048 .f32) (k : FVec F S4096x2048 .f32) (c : FVec F S4096x16 .f32) : FVec F S16x4096 .f32 :=
  Host.reduceAdd (expo q k c) (constant S_ .f32 0x00000000#32) reducesTo_S16x4096x4096_S16x4096_d2 h_S_

def probs (q : FVec F S4096x2048 .f32) (k : FVec F S4096x2048 .f32) (c : FVec F S4096x16 .f32) : FVec F S16x4096x4096 .f32 :=
  Host.divf (expo q k c) (broadcastInDim S16x4096x4096 ![0, 1, 2] bcast_S16x4096x1_S16x4096x4096_0_1_2 (broadcastInDim S16x4096x1 ![0, 1] bcast_S16x4096_S16x4096x1_0_1 (total q k c)))

def doT (d : FVec F S4096x2048 .f32) : FVec F S16x128x4096 .f32 :=
  transpose S16x128x4096 [1, 2, 0] (shapeCast S4096x16x128 d shapeCasts_S4096x2048_S4096x16x128) transposes_S4096x16x128_S16x128x4096_1_2_0

def dots (v : FVec F S4096x2048 .f32) (d : FVec F S4096x2048 .f32) : FVec F S16x4096x4096 .f32 :=
  Host.dotGeneral dot_S16x128x4096_S4096x16x128_S16x4096x4096_1_2_2_0_0_1 none (doT d) (vh v)

def invSq (q : FVec F S4096x2048 .f32) (k : FVec F S4096x2048 .f32) (c : FVec F S4096x16 .f32) : FVec F S16x4096x1 .f32 :=
  Host.divf (broadcastInDim S16x4096x1 ![] bcast_S_S16x4096x1 (constant S_ .f32 0x3F800000#32)) (mulf (broadcastInDim S16x4096x1 ![0, 1] bcast_S16x4096_S16x4096x1_0_1 (total q k c)) (broadcastInDim S16x4096x1 ![0, 1] bcast_S16x4096_S16x4096x1_0_1 (total q k c)))

def inner (q : FVec F S4096x2048 .f32) (k : FVec F S4096x2048 .f32) (v : FVec F S4096x2048 .f32) (c : FVec F S4096x16 .f32) (d : FVec F S4096x2048 .f32) : FVec F S16x4096 .f32 :=
  Host.reduceAdd (mulf (mulf (dots v d) (broadcastInDim S16x4096x4096 ![0, 1, 2] bcast_S16x4096x1_S16x4096x4096_0_1_2 (invSq q k c))) (expo q k c)) (constant S_ .f32 0x00000000#32) reducesTo_S16x4096x4096_S16x4096_d2 h_S_

def minner (q : FVec F S4096x2048 .f32) (k : FVec F S4096x2048 .f32) (v : FVec F S4096x2048 .f32) (c : FVec F S4096x16 .f32) (d : FVec F S4096x2048 .f32) : FVec F S16x4096 .f32 :=
  Host.reduceAdd (Host.negf (shapeCast S16x4096x1 (inner q k v c d) shapeCasts_S16x4096_S16x4096x1)) (constant S_ .f32 0x00000000#32) reducesTo_S16x4096x1_S16x4096_d2 h_S_

def grad (q : FVec F S4096x2048 .f32) (k : FVec F S4096x2048 .f32) (v : FVec F S4096x2048 .f32) (c : FVec F S4096x16 .f32) (d : FVec F S4096x2048 .f32) : FVec F S16x4096x4096 .f32 :=
  select mask (mulf (addf (Host.divf (dots v d) (broadcastInDim S16x4096x4096 ![0, 1, 2] bcast_S16x4096x1_S16x4096x4096_0_1_2 (broadcastInDim S16x4096x1 ![0, 1] bcast_S16x4096_S16x4096x1_0_1 (total q k c)))) (broadcastInDim S16x4096x4096 ![0, 1] bcast_S16x4096_S16x4096x4096_0_1 (minner q k v c d))) (expo q k c)) (broadcastInDim S16x4096x4096 ![] bcast_S_S16x4096x4096 (constant S_ .f32 0x00000000#32))

def dq (q : FVec F S4096x2048 .f32) (k : FVec F S4096x2048 .f32) (v : FVec F S4096x2048 .f32) (c : FVec F S4096x16 .f32) (d : FVec F S4096x2048 .f32) : FVec F S4096x2048 .f32 :=
  shapeCast S4096x2048 (transpose S4096x16x128 [1, 0, 2] (Host.dotGeneral dot_S16x4096x4096_S4096x16x128_S16x4096x128_2_0_1_2_0_1 none (mulf (grad q k v c d) (broadcastInDim S16x4096x4096 ![] bcast_S_S16x4096x4096 (constant S_ .f32 0x3DB504F3#32))) (kh k)) transposes_S16x4096x128_S4096x16x128_1_0_2) shapeCasts_S4096x16x128_S4096x2048

def dk (q : FVec F S4096x2048 .f32) (k : FVec F S4096x2048 .f32) (v : FVec F S4096x2048 .f32) (c : FVec F S4096x16 .f32) (d : FVec F S4096x2048 .f32) : FVec F S4096x2048 .f32 :=
  shapeCast S4096x2048 (transpose S4096x16x128 [1, 0, 2] (Host.dotGeneral dot_S16x4096x4096_S4096x16x128_S16x4096x128_1_0_2_2_0_1 none (mulf (grad q k v c d) (broadcastInDim S16x4096x4096 ![] bcast_S_S16x4096x4096 (constant S_ .f32 0x3DB504F3#32))) (qh q)) transposes_S16x4096x128_S4096x16x128_1_0_2) shapeCasts_S4096x16x128_S4096x2048

def dv (q : FVec F S4096x2048 .f32) (k : FVec F S4096x2048 .f32) (c : FVec F S4096x16 .f32) (d : FVec F S4096x2048 .f32) : FVec F S4096x2048 .bf16 :=
  truncf .bf16 (shapeCast S4096x2048 (transpose S4096x16x128 [2, 0, 1] (Host.dotGeneral dot_S16x128x4096_S16x4096x4096_S16x128x4096_2_1_1_2_0_0 none (doT d) (probs q k c)) transposes_S16x128x4096_S4096x16x128_2_0_1) shapeCasts_S4096x16x128_S4096x2048) bitsLt_bf16_f32

def dcq (q : FVec F S4096x2048 .f32) (k : FVec F S4096x2048 .f32) (v : FVec F S4096x2048 .f32) (c : FVec F S4096x16 .f32) (d : FVec F S4096x2048 .f32) : FVec F S4096x2048 .f32 :=
  shapeCast S4096x2048 (broadcastInDim S4096x16x128 ![0, 1] bcast_S4096x16_S4096x16x128_0_1 (transpose S4096x16 [1, 0] (Host.reduceAdd (shapeCast S16x4096x1 (Host.reduceAdd (grad q k v c d) (constant S_ .f32 0x00000000#32) reducesTo_S16x4096x4096_S16x4096_d2 h_S_) shapeCasts_S16x4096_S16x4096x1) (constant S_ .f32 0x00000000#32) reducesTo_S16x4096x1_S16x4096_d2 h_S_) transposes_S16x4096_S4096x16_1_0)) shapeCasts_S4096x16x128_S4096x2048

def dck (q : FVec F S4096x2048 .f32) (k : FVec F S4096x2048 .f32) (v : FVec F S4096x2048 .f32) (c : FVec F S4096x16 .f32) (d : FVec F S4096x2048 .f32) : FVec F S16x8x1x512 .f32 :=
  shapeCast S16x8x1x512 (transpose S16x4096 [1, 0] (transpose S4096x16 [1, 0] (Host.reduceAdd (shapeCast S16x1x4096 (Host.reduceAdd (Host.negf (grad q k v c d)) (constant S_ .f32 0x00000000#32) reducesTo_S16x4096x4096_S16x4096_d1 h_S_) shapeCasts_S16x4096_S16x1x4096) (constant S_ .f32 0x00000000#32) reducesTo_S16x1x4096_S16x4096_d1 h_S_) transposes_S16x4096_S4096x16_1_0) transposes_S4096x16_S16x4096_1_0) shapeCasts_S16x4096_S16x8x1x512

variable (m : (ℓ : Loc nD τ sig) → Buf (Elt F) ℓ) (c : Dev nD)

theorem out0_eq : Value.res_out0 m c = dq (m (c.tc.loc main_arg0)) (m (c.tc.loc main_arg1)) (m (c.tc.loc main_arg2)) (m (c.tc.loc main_arg3)) (m (c.tc.loc main_arg4)) := by
  unfold Value.res_out0 Value.res_main_v88
  rfl

theorem out1_eq : Value.res_out1 m c = dk (m (c.tc.loc main_arg0)) (m (c.tc.loc main_arg1)) (m (c.tc.loc main_arg2)) (m (c.tc.loc main_arg3)) (m (c.tc.loc main_arg4)) := by
  unfold Value.res_out1 Value.res_main_v87
  rfl

theorem out2_eq : Value.res_out2 m c = dv (m (c.tc.loc main_arg0)) (m (c.tc.loc main_arg1)) (m (c.tc.loc main_arg3)) (m (c.tc.loc main_arg4)) := by
  unfold Value.res_out2 Value.res_main_v89
  rfl

theorem out3_eq : Value.res_out3 m c = dcq (m (c.tc.loc main_arg0)) (m (c.tc.loc main_arg1)) (m (c.tc.loc main_arg2)) (m (c.tc.loc main_arg3)) (m (c.tc.loc main_arg4)) := by
  unfold Value.res_out3 Value.res_main_v91
  rfl

theorem out4_eq : Value.res_out4 m c = dck (m (c.tc.loc main_arg0)) (m (c.tc.loc main_arg1)) (m (c.tc.loc main_arg2)) (m (c.tc.loc main_arg3)) (m (c.tc.loc main_arg4)) := by
  unfold Value.res_out4 Value.res_main_v93
  rfl

end Cert.ReferenceIdeal.Att
-- ==== Proof.Att.RefValue.lean ====
/- The reference's stages at arguments that are real numbers: each is the attention's own quantity. -/
module

public import proofs.«01_k».proof.Proof.Att.Ref
public import proofs.«01_k».proof.Proof.Att.Real

@[expose] public section

set_option maxRecDepth 16384

noncomputable section

namespace Cert.ReferenceIdeal.Att

open Cert.ReferenceIdeal Cert.ReferenceIdeal.Gen Idealize.ShloMosaic Idealize.ShloMosaic.TcCoe Cert.Att

variable {q k v d : FVec Ideal S4096x2048 .f32} {c : FVec Ideal S4096x16 .f32} {a : Args}

theorem logits_at (hq : ∀ t x, q (ix2 t x) = (a.q t x : EReal)) (hk : ∀ t x, k (ix2 t x) = (a.k t x : EReal))
    (hc : ∀ t h, c (ix2 t h) = (a.c t h : EReal)) (h : Fin 16) (t u : Fin 4096) :
    logits q k c (ix3 h t u) = a.logit h t u := by
  pointwise [logits, mask, qh, kh]
  rw [select_le _ _ u.isLt t.isLt, ninf, scale_coe]
  unfold Args.logit Args.score
  simp only [hq, hk, hc, ← EReal.coe_mul, coe_sum, ← EReal.coe_sub, ← EReal.coe_add]
  rfl

theorem largest_at (hq : ∀ t x, q (ix2 t x) = (a.q t x : EReal)) (hk : ∀ t x, k (ix2 t x) = (a.k t x : EReal))
    (hc : ∀ t h, c (ix2 t h) = (a.c t h : EReal)) (h : Fin 16) (t : Fin 4096) :
    Host.reduce FloatOps.maximumf (logits q k c) (constant S_ .f32 0xFF800000#32) reducesTo_S16x4096x4096_S16x4096_d2 h_S_ (ix2 h t)
      = Finset.univ.fold max ⊥ (fun u => a.logit h t u) :=
  rowMax (FloatOps.maximumf (F := Ideal) (φ := .f32)) rfl (logits q k c) (constant S_ .f32 0xFF800000#32 : FVec Ideal S_ .f32)
    (fun _ => ninf) reducesTo_S16x4096x4096_S16x4096_d2 h_S_ h t _ (logits_at hq hk hc h t)

theorem max_ninf (R : FVec Ideal S16x4096 .f32) (h : Fin 16) (t : Fin 4096) :
    (maximumf (broadcastInDim S16x4096 ![] bcast_S_S16x4096 (constant S_ .f32 0xFF800000#32)) R) (ix2 h t) = R (ix2 h t) := by
  pointwise
  rw [ninf]
  exact max_eq_right bot_le

theorem top_at (hq : ∀ t x, q (ix2 t x) = (a.q t x : EReal)) (hk : ∀ t x, k (ix2 t x) = (a.k t x : EReal))
    (hc : ∀ t h, c (ix2 t h) = (a.c t h : EReal)) (h : Fin 16) (t : Fin 4096) :
    top q k c (ix2 h t) = (a.peak h t : EReal) := by
  refine Eq.trans ?_ ((largest_at hq hk hc h t).trans (a.peak_coe h t))
  unfold top
  exact max_ninf _ h t

theorem expo_at (hq : ∀ t x, q (ix2 t x) = (a.q t x : EReal)) (hk : ∀ t x, k (ix2 t x) = (a.k t x : EReal))
    (hc : ∀ t h, c (ix2 t h) = (a.c t h : EReal)) (h : Fin 16) (t u : Fin 4096) :
    expo q k c (ix3 h t u) = (a.expo h t u : EReal) := by
  pointwise [expo]
  rw [logits_at hq hk hc, top_at hq hk hc, a.expo_coe]

theorem total_at (hq : ∀ t x, q (ix2 t x) = (a.q t x : EReal)) (hk : ∀ t x, k (ix2 t x) = (a.k t x : EReal))
    (hc : ∀ t h, c (ix2 t h) = (a.c t h : EReal)) (h : Fin 16) (t : Fin 4096) :
    total q k c (ix2 h t) = (a.total h t : EReal) := by
  pointwise [total]
  simp only [expo_at hq hk hc, coe_sum]
  rfl

theorem probs_at (hq : ∀ t x, q (ix2 t x) = (a.q t x : EReal)) (hk : ∀ t x, k (ix2 t x) = (a.k t x : EReal))
    (hc : ∀ t h, c (ix2 t h) = (a.c t h : EReal)) (h : Fin 16) (t u : Fin 4096) :
    probs q k c (ix3 h t u) = (a.prob h t u : EReal) := by
  pointwise [probs]
  rw [expo_at hq hk hc, total_at hq hk hc, div_coe _ (a.total_ne h t)]
  rfl

theorem dots_at (hv : ∀ t x, v (ix2 t x) = (a.v t x : EReal)) (hd : ∀ t x, d (ix2 t x) = (a.d t x : EReal))
    (h : Fin 16) (t u : Fin 4096) : dots v d (ix3 h t u) = (a.dot h t u : EReal) := by
  pointwise [dots, doT, vh]
  simp only [hv, hd, ← EReal.coe_mul, coe_sum]
  rfl

theorem minner_at (hq : ∀ t x, q (ix2 t x) = (a.q t x : EReal)) (hk : ∀ t x, k (ix2 t x) = (a.k t x : EReal))
    (hc : ∀ t h, c (ix2 t h) = (a.c t h : EReal)) (hv : ∀ t x, v (ix2 t x) = (a.v t x : EReal)) (hd : ∀ t x, d (ix2 t x) = (a.d t x : EReal))
    (h : Fin 16) (t : Fin 4096) :
    minner q k v c d (ix2 h t) = ((-(a.mean h t / a.total h t) : ℝ) : EReal) := by
  have hl := a.total_ne h t
  pointwise [minner, inner, invSq]
  simp only [dots_at hv hd, expo_at hq hk hc, total_at hq hk hc, ← EReal.coe_mul]
  rw [show (1 : EReal) = ((1 : ℝ) : EReal) from rfl, div_coe _ (mul_ne_zero hl hl)]
  simp only [← EReal.coe_mul, coe_sum, ← EReal.coe_neg]
  congr 1
  rw [Fin.sum_univ_one, neg_inj]
  unfold Args.mean Args.prob
  rw [Finset.sum_div]
  refine Finset.sum_congr rfl fun u _ => ?_
  field_simp

theorem grad_at (hq : ∀ t x, q (ix2 t x) = (a.q t x : EReal)) (hk : ∀ t x, k (ix2 t x) = (a.k t x : EReal))
    (hc : ∀ t h, c (ix2 t h) = (a.c t h : EReal)) (hv : ∀ t x, v (ix2 t x) = (a.v t x : EReal)) (hd : ∀ t x, d (ix2 t x) = (a.d t x : EReal))
    (h : Fin 16) (t u : Fin 4096) : grad q k v c d (ix3 h t u) = (a.grad h t u : EReal) := by
  have hl := a.total_ne h t
  pointwise [grad, mask]
  rw [select_le _ _ u.isLt t.isLt, dots_at hv hd, expo_at hq hk hc, total_at hq hk hc, minner_at hq hk hc hv hd, div_coe _ hl,
    ← EReal.coe_add, ← EReal.coe_mul]
  split
  · congr 1
    unfold Args.grad Args.prob
    field_simp
    ring
  · rename_i hu
    rw [a.grad_zero h t u hu]
    rfl

variable (hq : ∀ t x, q (ix2 t x) = (a.q t x : EReal)) (hk : ∀ t x, k (ix2 t x) = (a.k t x : EReal))
  (hc : ∀ t h, c (ix2 t h) = (a.c t h : EReal)) (hv : ∀ t x, v (ix2 t x) = (a.v t x : EReal)) (hd : ∀ t x, d (ix2 t x) = (a.d t x : EReal))

include hq hk hc hv hd

theorem dq_at (t : Fin 4096) (x : Fin 2048) : dq q k v c d (ix2 t x) = (a.dq t x : EReal) := by
  pointwise [dq, kh]
  simp only [grad_at hq hk hc hv hd, hk, scale_coe, ← EReal.coe_mul, coe_sum]
  rfl

theorem dk_at (u : Fin 4096) (x : Fin 2048) : dk q k v c d (ix2 u x) = (a.dk u x : EReal) := by
  pointwise [dk, qh]
  simp only [grad_at hq hk hc hv hd, hq, scale_coe, ← EReal.coe_mul, coe_sum]
  rfl

theorem dcq_at (t : Fin 4096) (x : Fin 2048) : dcq q k v c d (ix2 t x) = (a.dcq (head x) t : EReal) := by
  pointwise [dcq]
  simp only [grad_at hq hk hc hv hd, coe_sum]
  rw [Fin.sum_univ_one]
  rfl

theorem dck_at (h : Fin 16) (b : Fin 8) (x : Fin 512) :
    dck q k v c d (ix4 h b 0 x) = (a.dck h ⟨b.val * 512 + x.val, by omega⟩ : EReal) := by
  pointwise [dck]
  simp only [grad_at hq hk hc hv hd, ← EReal.coe_neg, coe_sum]
  rw [Fin.sum_univ_one]
  rfl

omit hv in
theorem dv_at (u : Fin 4096) (x : Fin 2048) : dv q k c d (ix2 u x) = (a.dv u x : EReal) := by
  pointwise [dv, doT]
  simp only [probs_at hq hk hc, hd, ← EReal.coe_mul, coe_sum]
  rfl

end Cert.ReferenceIdeal.Att
-- ==== Proof.Att.HostValue.lean ====
/- The arrays the kernel is launched on, at arguments that are real numbers. -/
module

public import proofs.«01_k».proof.Proof.Att.Host
public import proofs.«01_k».proof.Proof.Att.RefValue

@[expose] public section

set_option maxRecDepth 16384

noncomputable section

namespace Cert.KernelIdeal.Att.Host

open Cert.KernelIdeal Cert.KernelIdeal.Gen Idealize.ShloMosaic Idealize.ShloMosaic.TcCoe Cert.Att

variable {q k v d : FVec Ideal S4096x2048 .f32} {c : FVec Ideal S4096x16 .f32} {a : Args}

/-- The logits are the reference's. -/
theorem logits_eq : logits q k c = Cert.ReferenceIdeal.Att.logits q k c := rfl

theorem cqRep_at (hc : ∀ t h, c (ix2 t h) = (a.c t h : EReal)) (t : Fin 4096) (y : Fin 2048) :
    cqRep c (ix2 t y) = (a.c t (head y) : EReal) := by
  pointwise [cqRep]
  exact hc _ _

theorem ckRep_at (hc : ∀ t h, c (ix2 t h) = (a.c t h : EReal)) (h : Fin 16) (b : Fin 8) (x : Fin 512) :
    ckRep c (ix4 h b 0 x) = (a.c ⟨b.val * 512 + x.val, by omega⟩ h : EReal) := by
  pointwise [ckRep]
  exact hc _ _

theorem lse_of (T L : FVec Ideal S16x4096 .f32) (t : Fin 4096) (y : Fin 2048) :
    shapeCast S4096x2048 (broadcastInDim S4096x16x128 ![0, 1] bcast_S4096x16_S4096x16x128_0_1 (transpose S4096x16 [1, 0] (addf T (Idealize.ShloMosaic.Host.log L)) transposes_S16x4096_S4096x16_1_0)) shapeCasts_S4096x16x128_S4096x2048 (ix2 t y)
      = T (ix2 (head y) t) + Ideal.log (L (ix2 (head y) t)) := by
  pointwise
  rfl

variable (hq : ∀ t x, q (ix2 t x) = (a.q t x : EReal)) (hk : ∀ t x, k (ix2 t x) = (a.k t x : EReal))
  (hc : ∀ t h, c (ix2 t h) = (a.c t h : EReal))

include hq hk hc

theorem top_at (h : Fin 16) (t : Fin 4096) : top q k c (ix2 h t) = (a.peak h t : EReal) := by
  unfold top
  rw [logits_eq]
  exact (Cert.ReferenceIdeal.Att.largest_at hq hk hc h t).trans (a.peak_coe h t)

theorem expo_at (h : Fin 16) (t u : Fin 4096) : expo q k c (ix3 h t u) = (a.expo h t u : EReal) := by
  pointwise [expo]
  rw [logits_eq, Cert.ReferenceIdeal.Att.logits_at hq hk hc, top_at hq hk hc, a.expo_coe]

theorem total_at (h : Fin 16) (t : Fin 4096) : total q k c (ix2 h t) = (a.total h t : EReal) := by
  pointwise [total]
  simp only [expo_at hq hk hc, coe_sum]
  rfl

theorem probs_at (h : Fin 16) (t u : Fin 4096) : probs q k c (ix3 h t u) = (a.prob h t u : EReal) := by
  pointwise [probs]
  rw [expo_at hq hk hc, total_at hq hk hc, div_coe _ (a.total_ne h t)]
  rfl

theorem lse_at (t : Fin 4096) (y : Fin 2048) :
    lse q k c (ix2 t y) = ((a.peak (head y) t + Real.log (a.total (head y) t) : ℝ) : EReal) := by
  unfold lse
  refine (lse_of _ _ t y).trans ?_
  rw [top_at hq hk hc, total_at hq hk hc, log_coe (a.total_pos _ t), ← EReal.coe_add]

variable (hv : ∀ t x, v (ix2 t x) = (a.v t x : EReal)) (hd : ∀ t x, d (ix2 t x) = (a.d t x : EReal))

include hv

theorem ctx_at (t : Fin 4096) (h : Fin 16) (x : Fin 128) :
    ctx q k v c (ix3 t h x) = ((∑ u, a.v u (col h x) * a.prob h t u : ℝ) : EReal) := by
  pointwise [ctx, vh]
  simp only [probs_at hq hk hc, hv, ← EReal.coe_mul, coe_sum]
  rfl

include hd

theorem delta_at (t : Fin 4096) (y : Fin 2048) : delta q k v c d (ix2 t y) = (a.mean (head y) t : EReal) := by
  pointwise [delta]
  simp only [hd, ctx_at hq hk hc hv, ← EReal.coe_mul, coe_sum]
  exact congrArg Real.toEReal (a.mean_eq (head y) t)

end Cert.KernelIdeal.Att.Host

end
-- ==== Proof.Att.Arrays.lean ====
/- The blocks a point reads, and the arrays the points' blocks make up. -/
module

public import proofs.«01_k».proof.Proof.Att.Dats
public import proofs.«01_k».proof.Proof.Att.Run
public import proofs.«01_k».proof.Proof.Att.HostValue
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.ShloMosaic.Pipeline Cert.Att

theorem whole_idx : ∀ t : Fin cfg0.N, win0_0.index t = ![0, t.val / 8] ∧ win0_1.index t = ![0, t.val / 8] ∧ win0_4.index t = ![0, t.val / 8]
    ∧ win0_5.index t = ![0, t.val / 8] ∧ win0_6.index t = ![0, t.val / 8] ∧ win0_8.index t = ![0, t.val / 8] ∧ win0_11.index t = ![0, t.val / 8] :=
  (by decide +kernel : ∀ t : Fin grid0.N, _)

theorem blk_idx : ∀ t : Fin cfg0.N, win0_2.index t = ![t.val % 8, t.val / 8] ∧ win0_3.index t = ![t.val % 8, t.val / 8]
    ∧ win0_9.index t = ![t.val % 8, t.val / 8] ∧ win0_10.index t = ![t.val % 8, t.val / 8] :=
  (by decide +kernel : ∀ t : Fin grid0.N, _)

theorem gate_idx : ∀ t : Fin cfg0.N, win0_7.index t = ![t.val / 8, t.val % 8, 0, 0] ∧ win0_12.index t = ![t.val / 8, t.val % 8, 0, 0] :=
  (by decide +kernel : ∀ t : Fin grid0.N, _)

/-- The head of a point. -/
def hd (t : Fin cfg0.N) : Fin 16 := ⟨t.val / 8, by have := Nat.lt_of_lt_of_eq t.isLt N_0; omega⟩

variable (m : (ℓ : Loc nD τ sig) → Buf (Elt Ideal) ℓ) (c : Dev nD)

theorem blk_q (f : Buf (Elt Ideal) ((c : Thread nD τ).loc main_v51)) (t : Fin cfg0.N) (r : Fin 4096) (x : Fin 128) :
    ((cfg0.win 0).blk t).view.read (Elt Ideal) f (ix2 r x) = f (ix2 r (col (hd t) x)) := by
  have e := (whole_idx t).1
  blk_ext [e, hd, col]

theorem blk_dO (f : Buf (Elt Ideal) ((c : Thread nD τ).loc main_v54)) (t : Fin cfg0.N) (r : Fin 4096) (x : Fin 128) :
    ((cfg0.win 1).blk t).view.read (Elt Ideal) f (ix2 r x) = f (ix2 r (col (hd t) x)) := by
  have e := (whole_idx t).2.1
  blk_ext [e, hd, col]

theorem blk_lse (f : Buf (Elt Ideal) ((c : Thread nD τ).loc main_v44)) (t : Fin cfg0.N) (r : Fin 4096) (x : Fin 128) :
    ((cfg0.win 4).blk t).view.read (Elt Ideal) f (ix2 r x) = f (ix2 r (col (hd t) x)) := by
  have e := (whole_idx t).2.2.1
  blk_ext [e, hd, col]

theorem blk_dl (f : Buf (Elt Ideal) ((c : Thread nD τ).loc main_v46)) (t : Fin cfg0.N) (r : Fin 4096) (x : Fin 128) :
    ((cfg0.win 5).blk t).view.read (Elt Ideal) f (ix2 r x) = f (ix2 r (col (hd t) x)) := by
  have e := (whole_idx t).2.2.2.1
  blk_ext [e, hd, col]

theorem blk_cq (f : Buf (Elt Ideal) ((c : Thread nD τ).loc main_v48)) (t : Fin cfg0.N) (r : Fin 4096) (x : Fin 128) :
    ((cfg0.win 6).blk t).view.read (Elt Ideal) f (ix2 r x) = f (ix2 r (col (hd t) x)) := by
  have e := (whole_idx t).2.2.2.2.1
  blk_ext [e, hd, col]

theorem blk_k (f : Buf (Elt Ideal) ((c : Thread nD τ).loc main_v52)) (t : Fin cfg0.N) (r : Fin 512) (x : Fin 128) :
    ((cfg0.win 2).blk t).view.read (Elt Ideal) f (ix2 r x) = f (ix2 (pos (t.val % 8) r) (col (hd t) x)) := by
  have e := (blk_idx t).1
  blk_ext [e, hd, col, pos]

theorem blk_v (f : Buf (Elt Ideal) ((c : Thread nD τ).loc main_v53)) (t : Fin cfg0.N) (r : Fin 512) (x : Fin 128) :
    ((cfg0.win 3).blk t).view.read (Elt Ideal) f (ix2 r x) = f (ix2 (pos (t.val % 8) r) (col (hd t) x)) := by
  have e := (blk_idx t).2.1
  blk_ext [e, hd, col, pos]

theorem blk_ck (f : Buf (Elt Ideal) ((c : Thread nD τ).loc main_v50)) (t : Fin cfg0.N) (r : Fin 512) :
    ((cfg0.win 7).blk t).view.read (Elt Ideal) f (ix4 0 0 0 r) = f (ix4 (hd t) ⟨t.val % 8, Nat.mod_lt _ (by decide)⟩ 0 r) := by
  have e := (gate_idx t).1
  blk_ext [e, hd]

theorem head_col (h : Fin 16) (x : Fin 128) : head (col h x) = h :=
  Fin.ext (by show (h.val * 128 + x.val) / 128 = h.val; omega)

theorem reads_of {a : Args} {h : Fin 16} {j : ℕ} (x0 x1 : Vec Ideal S4096x128 .bf16) (x2 x3 : Vec Ideal S512x128 .bf16)
    (x4 x5 x6 : Vec Ideal S4096x128 .f32) (x7 : Vec Ideal S1x1x1x512 .f32)
    (hk : ∀ u x, x2 (ix2 u x) = (a.k (pos j u) (col h x) : EReal)) (hv : ∀ u x, x3 (ix2 u x) = (a.v (pos j u) (col h x) : EReal))
    (hck : ∀ u, x7 (ix4 0 0 0 u) = (a.c (pos j u) h : EReal)) (hq : ∀ t x, x0 (ix2 t x) = (a.q t (col h x) : EReal))
    (hd : ∀ t x, x1 (ix2 t x) = (a.d t (col h x) : EReal))
    (hl : ∀ t x, x4 (ix2 t x) = ((a.peak h t + Real.log (a.total h t) : ℝ) : EReal)) (hm : ∀ t x, x5 (ix2 t x) = (a.mean h t : EReal))
    (hc : ∀ t x, x6 (ix2 t x) = (a.c t h : EReal)) : Reads (insBlk x0 x1 x2 x3 x4 x5 x6 x7) a h j where
  k u x := by
    pointwise [insBlk, k0_pay28]
    exact hk u x
  v u x := by
    pointwise [insBlk, k0_pay29]
    exact hv u x
  ck u := by
    pointwise [insBlk, k0_pay30]
    exact hck u
  q := hq
  dO := hd
  lse := hl
  dl := hm
  cq := hc

/-- The arguments are these real numbers. -/
structure RealArgs (a : Args) : Prop where
  q : ∀ t x, m (c.tc.loc main_arg0) (ix2 t x) = (a.q t x : EReal)
  k : ∀ t x, m (c.tc.loc main_arg1) (ix2 t x) = (a.k t x : EReal)
  v : ∀ t x, m (c.tc.loc main_arg2) (ix2 t x) = (a.v t x : EReal)
  gate : ∀ t h, m (c.tc.loc main_arg3) (ix2 t h) = (a.c t h : EReal)
  d : ∀ t x, m (c.tc.loc main_arg4) (ix2 t x) = (a.d t x : EReal)

variable {m c} {a : Args} (Q : RealArgs m c a)

include Q

omit Q in
theorem iblk_arr (w : Fin cfg0.W) (t : Fin cfg0.N) :
    iblk m c w t = ((cfg0.win w).blk t).view.read (Elt Ideal) (arr m c (Pipeline.arrRef spec0 w)) := rfl

theorem in_k (t : Fin cfg0.N) (u : Fin 512) (x : Fin 128) : iblk m c 2 t (ix2 u x) = (a.k (pos (t.val % 8) u) (col (hd t) x) : EReal) := by
  rw [iblk_arr]
  exact (blk_k c (arr m c main_v52) t u x).trans ((congrFun (arr_k m c) _).trans (Q.k _ _))

theorem in_v (t : Fin cfg0.N) (u : Fin 512) (x : Fin 128) : iblk m c 3 t (ix2 u x) = (a.v (pos (t.val % 8) u) (col (hd t) x) : EReal) := by
  rw [iblk_arr]
  exact (blk_v c (arr m c main_v53) t u x).trans ((congrFun (arr_v m c) _).trans (Q.v _ _))

theorem in_q (t : Fin cfg0.N) (t' : Fin 4096) (x : Fin 128) : iblk m c 0 t (ix2 t' x) = (a.q t' (col (hd t) x) : EReal) := by
  rw [iblk_arr]
  exact (blk_q c (arr m c main_v51) t t' x).trans ((congrFun (arr_q m c) _).trans (Q.q _ _))

theorem in_dO (t : Fin cfg0.N) (t' : Fin 4096) (x : Fin 128) : iblk m c 1 t (ix2 t' x) = (a.d t' (col (hd t) x) : EReal) := by
  rw [iblk_arr]
  exact (blk_dO c (arr m c main_v54) t t' x).trans ((congrFun (arr_dO m c) _).trans (Q.d _ _))

theorem in_lse (t : Fin cfg0.N) (t' : Fin 4096) (x : Fin 128) : iblk m c 4 t (ix2 t' x) = ((a.peak (hd t) t' + Real.log (a.total (hd t) t') : ℝ) : EReal) := by
  rw [iblk_arr]
  exact (blk_lse c (arr m c main_v44) t t' x).trans ((congrFun (arr_lse m c) _).trans ((Host.lse_at Q.q Q.k Q.gate _ _).trans (by rw [head_col])))

theorem in_dl (t : Fin cfg0.N) (t' : Fin 4096) (x : Fin 128) : iblk m c 5 t (ix2 t' x) = (a.mean (hd t) t' : EReal) := by
  rw [iblk_arr]
  exact (blk_dl c (arr m c main_v46) t t' x).trans ((congrFun (arr_delta m c) _).trans ((Host.delta_at Q.q Q.k Q.gate Q.v Q.d _ _).trans (by rw [head_col])))

theorem in_cq (t : Fin cfg0.N) (t' : Fin 4096) (x : Fin 128) : iblk m c 6 t (ix2 t' x) = (a.c t' (hd t) : EReal) := by
  rw [iblk_arr]
  exact (blk_cq c (arr m c main_v48) t t' x).trans ((congrFun (arr_cq m c) _).trans ((Host.cqRep_at Q.gate _ _).trans (by rw [head_col])))

theorem in_ck (t : Fin cfg0.N) (u : Fin 512) : iblk m c 7 t (ix4 0 0 0 u) = (a.c (pos (t.val % 8) u) (hd t) : EReal) := by
  rw [iblk_arr]
  refine (blk_ck c (arr m c main_v50) t u).trans ((congrFun (arr_ck m c) _).trans ((Host.ckRep_at Q.gate _ _ _).trans ?_))
  refine congrArg (fun r => ((a.c r (hd t) : ℝ) : EReal)) (Fin.ext ?_)
  rw [pos_val (Nat.mod_lt _ (by decide))]
  show t.val % 8 * 512 + u.val = _
  omega

theorem reads (t : Fin cfg0.N) : Reads (insAt m c t) a (hd t) (t.val % 8) :=
  reads_of _ _ _ _ _ _ _ _ (in_k Q t) (in_v Q t) (in_ck Q t) (in_q Q t) (in_dO Q t) (in_lse Q t) (in_dl Q t) (in_cq Q t)

omit Q in
theorem block_coord (t : Fin cfg0.N) : (grid0.coords t 1).val = t.val % 8 :=
  (Pipeline.Grid.coords_val t 1 (by decide) rfl : (grid0.coords t 1).val = t.val / 1 % 8).trans (by rw [Nat.div_one])

/-- The gradients a point leaves: its key block's, whole, and each row's part from the head's key blocks so far. -/
def Left (a : Args) (A : Acc Ideal) (h : Fin 16) (j : ℕ) : Prop :=
  Is A (fun u x => ∑ t, a.grad h t (pos j u) * a.q t (col h x)) (fun u x => ∑ t, a.prob h t (pos j u) * a.d t (col h x))
    (fun u => -∑ t, a.grad h t (pos j u)) (fun r x => ∑ i ∈ Finset.range (j + 1), addQ a h i r x) (fun r _ => ∑ i ∈ Finset.range (j + 1), addR a h i r)

theorem left_first (t : Fin cfg0.N) (h : t.val % 8 = 0) : Left a (accAt m c t.val t.isLt) (hd t) (t.val % 8) := by
  rw [accAt_first m c t h]
  refine (end_is (reads Q t) (fq := fun _ _ => 0) (fc := fun _ _ => 0) (fun t x => ?_) (fun t x => ?_) _ (block_coord t) (Nat.mod_lt _ (by decide))).to
    (fun u x => rfl) (fun u x => rfl) (fun u => rfl) (fun t' x => ?_) (fun t' x => ?_)
  · pointwise [k0_pay26]
    rfl
  · pointwise [k0_pay27]
    rfl
  · rw [zero_add, h, zero_add, Finset.sum_range_one]
  · rw [zero_add, h, zero_add, Finset.sum_range_one]

theorem left_at (n : ℕ) (hn : n < cfg0.N) : Left a (accAt m c n hn) (hd ⟨n, hn⟩) (n % 8) := by
  induction n with
  | zero => exact left_first Q ⟨0, hn⟩ rfl
  | succ n ih =>
    by_cases h : (n + 1) % 8 = 0
    · exact left_first Q ⟨n + 1, hn⟩ h
    · have H := ih (Nat.lt_of_succ_lt hn)
      have eh : hd ⟨n, Nat.lt_of_succ_lt hn⟩ = hd ⟨n + 1, hn⟩ := Fin.ext (by show n / 8 = (n + 1) / 8; omega)
      have e1 : n % 8 + 1 = (n + 1) % 8 := by omega
      unfold Left at H
      rw [eh, e1] at H
      rw [accAt_next m c ⟨n + 1, hn⟩ h]
      refine (end_is (reads Q ⟨n + 1, hn⟩) H.dq H.dcq _ (block_coord _) (Nat.mod_lt _ (by decide))).to
        (fun u x => rfl) (fun u x => rfl) (fun u => rfl) (fun t x => ?_) (fun t x => ?_)
      · exact (Finset.sum_range_succ _ _).symm
      · exact (Finset.sum_range_succ _ _).symm

omit Q in
/-- The sum over a head's key blocks is the sum over all the keys. -/
theorem sum_keys (f : Fin 4096 → ℝ) : ∑ j ∈ Finset.range 8, ∑ u, f (pos j u) = ∑ u, f u := by
  have e := sum_rows f (j := 0) (by decide) (fun t ht => absurd ht (by omega))
  simpa only [Nat.zero_add, Nat.sub_zero] using e

end Cert.KernelIdeal.Att

end
-- ==== Proof.Att.Results.lean ====
/- The five arrays the kernel leaves: the attention's gradients. -/
module

public import proofs.«01_k».proof.Proof.Att.Arrays

@[expose] public section

set_option maxRecDepth 16384

noncomputable section

namespace Cert.KernelIdeal.Att

open Cert.KernelIdeal Cert.KernelIdeal.Gen Idealize.ShloMosaic Idealize.ShloMosaic.TcCoe Idealize.ShloMosaic.Pipeline Cert.Att

variable {m : (ℓ : Loc nD τ sig) → Buf (Elt Ideal) ℓ} {c : Dev nD} {a : Args} (Q : RealArgs m c a)

/-- The gradients as whole arrays. -/
def outQ (a : Args) : S4096x2048.Idx → EReal := fun y => (a.dq (y 0) (y 1) : EReal)
def outK (a : Args) : S4096x2048.Idx → EReal := fun y => (a.dk (y 0) (y 1) : EReal)
def outV (a : Args) : S4096x2048.Idx → EReal := fun y => (a.dv (y 0) (y 1) : EReal)
def outR (a : Args) : S4096x2048.Idx → EReal := fun y => (a.dcq (head (y 1)) (y 0) : EReal)
def outC (a : Args) : S16x8x1x512.Idx → EReal := fun y => (a.dck (y 0) (pos (y 1).val (y 3)) : EReal)

theorem dq_sum (h : Fin 16) (t : Fin 4096) (x : Fin 128) : ∑ i ∈ Finset.range 8, addQ a h i t x = a.dq t (col h x) := by
  unfold addQ Args.dq
  rw [head_col, ← Finset.sum_mul, sum_keys (fun u => a.grad h t u * a.k u (col h x)), Finset.sum_mul]
  exact Finset.sum_congr rfl fun u _ => by ring

theorem dcq_sum (h : Fin 16) (t : Fin 4096) : ∑ i ∈ Finset.range 8, addR a h i t = a.dcq h t :=
  sum_keys (fun u => a.grad h t u)

theorem dk_sum (h : Fin 16) (u : Fin 4096) (x : Fin 128) : (∑ t, a.grad h t u * a.q t (col h x)) * scale = a.dk u (col h x) := by
  unfold Args.dk
  rw [head_col, Finset.sum_mul]
  exact Finset.sum_congr rfl fun u _ => by ring

theorem dv_sum (h : Fin 16) (u : Fin 4096) (x : Fin 128) : ∑ t, a.prob h t u * a.d t (col h x) = a.dv u (col h x) := by
  unfold Args.dv
  rw [head_col]
  exact Finset.sum_congr rfl fun u _ => by ring

omit Q in
theorem scaled_at (A : FVec Ideal S512x128 .f32) (u : Fin 512) (x : Fin 128) : k0_pay9 A (ix2 u x) = A (ix2 u x) * (scale : EReal) := by
  pointwise [k0_pay9]
  rw [scale_coe]

omit Q in
theorem cast_at (A : FVec Ideal S512x128 .f32) (u : Fin 512) (x : Fin 128) : k0_pay10 A (ix2 u x) = A (ix2 u x) := by
  pointwise [k0_pay10]

omit Q in
theorem reshaped_at (A : FVec Ideal S1x512 .f32) (u : Fin 512) : k0_pay11 A (ix4 0 0 0 u) = A (ix2 0 u) := by
  pointwise [k0_pay11]

include Q

theorem arr_dq : (dats m 0 c).arrAt 8 cfg0.N = outQ a := by
  refine (dats m 0 c).arrAt_eq_of_covers 8 (outQ a) (by decide +kernel) fun t hf y => ?_
  have e := (whole_idx t).2.2.2.2.2.1
  have h7 := (flush0_8 t).mp hf
  have L := (left_at Q t.val t.isLt).dq
  rw [after_8]
  obtain ⟨r, x, rfl⟩ : ∃ (r : Fin 4096) (x : Fin 128), y = ix2 r x := ⟨y 0, y 1, eq_ix2 y⟩
  have eb : ((cfg0.win 8).blk t).view.emb (ix2 r x) = ix2 r (col (hd t) x) := by blk_ext [e, hd, col]
  rw [eb]
  refine (L r x).trans ?_
  rw [h7]
  exact congrArg Real.toEReal (dq_sum _ _ _)

theorem arr_dcq : (dats m 0 c).arrAt 11 cfg0.N = outR a := by
  refine (dats m 0 c).arrAt_eq_of_covers 11 (outR a) (by decide +kernel) fun t hf y => ?_
  have e := (whole_idx t).2.2.2.2.2.2
  have h7 := (flush0_11 t).mp hf
  have L := (left_at Q t.val t.isLt).dcq
  rw [after_11]
  obtain ⟨r, x, rfl⟩ : ∃ (r : Fin 4096) (x : Fin 128), y = ix2 r x := ⟨y 0, y 1, eq_ix2 y⟩
  have eb : ((cfg0.win 11).blk t).view.emb (ix2 r x) = ix2 r (col (hd t) x) := by blk_ext [e, hd, col]
  rw [eb]
  refine (L r x).trans ?_
  rw [h7]
  refine (congrArg Real.toEReal (dcq_sum _ _)).trans ?_
  show _ = ((a.dcq (head (col (hd t) x)) r : ℝ) : EReal)
  rw [head_col]

theorem arr_dk : (dats m 0 c).arrAt 9 cfg0.N = outK a := by
  refine (dats m 0 c).arrAt_eq_of_covers 9 (outK a) (by decide +kernel) fun t hf y => ?_
  have e := (blk_idx t).2.2.1
  have L := (left_at Q t.val t.isLt).dk
  rw [after_9]
  obtain ⟨r, x, rfl⟩ : ∃ (r : Fin 512) (x : Fin 128), y = ix2 r x := ⟨y 0, y 1, eq_ix2 y⟩
  have eb : ((cfg0.win 9).blk t).view.emb (ix2 r x) = ix2 (pos (t.val % 8) r) (col (hd t) x) := by blk_ext [e, hd, col, pos]
  rw [eb]
  refine (scaled_at _ r x).trans ?_
  rw [L, ← EReal.coe_mul]
  exact congrArg Real.toEReal (dk_sum _ _ _)

theorem arr_dv : (dats m 0 c).arrAt 10 cfg0.N = outV a := by
  refine (dats m 0 c).arrAt_eq_of_covers 10 (outV a) (by decide +kernel) fun t hf y => ?_
  have e := (blk_idx t).2.2.2
  have L := (left_at Q t.val t.isLt).dv
  rw [after_10]
  obtain ⟨r, x, rfl⟩ : ∃ (r : Fin 512) (x : Fin 128), y = ix2 r x := ⟨y 0, y 1, eq_ix2 y⟩
  have eb : ((cfg0.win 10).blk t).view.emb (ix2 r x) = ix2 (pos (t.val % 8) r) (col (hd t) x) := by blk_ext [e, hd, col, pos]
  rw [eb]
  refine (cast_at _ r x).trans ((L r x).trans ?_)
  exact congrArg Real.toEReal (dv_sum _ _ _)

theorem arr_dck : (dats m 0 c).arrAt 12 cfg0.N = outC a := by
  refine (dats m 0 c).arrAt_eq_of_covers 12 (outC a) (by decide +kernel) fun t hf y => ?_
  have e := (gate_idx t).2
  have L := (left_at Q t.val t.isLt).dck
  rw [after_12]
  obtain ⟨r, rfl⟩ : ∃ r : Fin 512, y = ix4 0 0 0 r := ⟨y 3, funext fun b => by
    match b with
    | 0 => exact Subsingleton.elim (α := Fin 1) _ _
    | 1 => exact Subsingleton.elim (α := Fin 1) _ _
    | 2 => exact Subsingleton.elim (α := Fin 1) _ _
    | 3 => rfl⟩
  have eb : ((cfg0.win 12).blk t).view.emb (ix4 0 0 0 r) = ix4 (hd t) ⟨t.val % 8, Nat.mod_lt _ (by decide)⟩ 0 r := by blk_ext [e, hd]
  rw [eb]
  refine (reshaped_at _ r).trans ((L r).trans ?_)
  refine congrArg Real.toEReal ?_
  unfold Args.dck
  rw [Finset.sum_neg_distrib]
  rfl

end Cert.KernelIdeal.Att

end
-- ==== Proof.Att.Algebraic.lean ====
/- Kernel and reference leave the same five arrays: from finite arguments both leave the attention's gradients. -/
module

public import proofs.«01_k».proof.Proof.Att.Results
public import proofs.«01_k».proof.Proof.Att.RefValue
public import proofs.«01_k».proof.Proof.Att.Finite
public import proofs.«01_k».proof.Proof.Gen.ReferenceIdeal.Run
public import proofs.«01_k».proof.Defs
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.ShloMosaic.Pipeline Idealize.SL.Sem
  Cert.Att

/-- The arguments as real numbers. -/
def argsOf (m : (ℓ : Loc nD τ sig) → Buf (Elt Ideal) ℓ) (c : Dev nD) : Args :=
  Cert.Pre_finite_inputs.Att.args (m (c.tc.loc main_arg0)) (m (c.tc.loc main_arg1)) (m (c.tc.loc main_arg2)) (m (c.tc.loc main_arg4))
    (m (c.tc.loc main_arg3))

theorem real_args {m : (ℓ : Loc nD τ sig) → Buf (Elt Ideal) ℓ} (h : Cert.Pre_KernelIdeal_finite_inputs m) (c : Dev nD) :
    RealArgs m c (argsOf m c) :=
  have e := Cert.Pre_finite_inputs.Att.args_eq fun y => congrFun (h c) y
  ⟨e.1, e.2.1, e.2.2.1, e.2.2.2.2, e.2.2.2.1⟩

/-- The kernel's run from real arguments: each result array holds its gradient, the arguments are unchanged. -/
theorem run_real (m : (ℓ : Loc nD τ sig) → Buf (Elt Ideal) ℓ) (ρ : Dev nD → PrngReg) {a : Dev nD → Args} (Q : ∀ c, RealArgs m c (a c)) :
    θ_run defs (onTc (τ := τ) (main (F := Ideal))) ⟨m, fun _ => 0, ρ⟩ fun r => ∀ c : Dev nD,
      r.2.mem ((c.tc : Thread nD τ).loc main_v55_0) = outQ (a c)
      ∧ r.2.mem ((c.tc : Thread nD τ).loc main_v55_1) = outK (a c)
      ∧ r.2.mem ((c.tc : Thread nD τ).loc main_v55_2) = outV (a c)
      ∧ r.2.mem ((c.tc : Thread nD τ).loc main_v55_3) = outR (a c)
      ∧ r.2.mem ((c.tc : Thread nD τ).loc main_v55_4) = outC (a c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (frame m ρ)) fun _ h c =>
    have e := (h.1.1 c).1
    ⟨(e 8).trans (arr_dq (Q c)), (e 9).trans (arr_dk (Q c)), (e 10).trans (arr_dv (Q c)), (e 11).trans (arr_dcq (Q c)),
      (e 12).trans (arr_dck (Q c)), h.2.1 c⟩

end Cert.KernelIdeal.Att

namespace Cert.ReferenceIdeal.Att

open Cert.ReferenceIdeal Cert.ReferenceIdeal.Gen Idealize.ShloMosaic Idealize.ShloMosaic.TcCoe Cert.Att
open Cert.KernelIdeal.Att (outQ outK outV outR outC pos pos_val)

variable {q k v d : FVec Ideal S4096x2048 .f32} {c : FVec Ideal S4096x16 .f32} {a : Args}
  (hq : ∀ t x, q (ix2 t x) = (a.q t x : EReal)) (hk : ∀ t x, k (ix2 t x) = (a.k t x : EReal))
  (hc : ∀ t h, c (ix2 t h) = (a.c t h : EReal)) (hv : ∀ t x, v (ix2 t x) = (a.v t x : EReal))
  (hd : ∀ t x, d (ix2 t x) = (a.d t x : EReal))

include hq hk hc hv hd

theorem dq_eq : dq q k v c d = outQ a := funext fun y => by
  obtain ⟨t, x, rfl⟩ : ∃ (t : Fin 4096) (x : Fin 2048), y = ix2 t x := ⟨y 0, y 1, eq_ix2 y⟩
  exact dq_at hq hk hc hv hd t x

theorem dk_eq : dk q k v c d = outK a := funext fun y => by
  obtain ⟨t, x, rfl⟩ : ∃ (t : Fin 4096) (x : Fin 2048), y = ix2 t x := ⟨y 0, y 1, eq_ix2 y⟩
  exact dk_at hq hk hc hv hd t x

theorem dcq_eq : dcq q k v c d = outR a := funext fun y => by
  obtain ⟨t, x, rfl⟩ : ∃ (t : Fin 4096) (x : Fin 2048), y = ix2 t x := ⟨y 0, y 1, eq_ix2 y⟩
  exact dcq_at hq hk hc hv hd t x

theorem dck_eq : dck q k v c d = outC a := funext fun y => by
  obtain ⟨h, b, u, x, rfl⟩ : ∃ (h : Fin 16) (b : Fin 8) (u : Fin 1) (x : Fin 512), y = ix4 h b u x := ⟨y 0, y 1, y 2, y 3, eq_ix4 y⟩
  obtain rfl : u = 0 := Subsingleton.elim _ _
  refine (dck_at hq hk hc hv hd h b x).trans ?_
  show _ = ((a.dck h (pos b.val x) : ℝ) : EReal)
  rw [show (⟨b.val * 512 + x.val, by omega⟩ : Fin 4096) = pos b.val x from
    Fin.ext (by rw [pos_val b.isLt]; show b.val * 512 + x.val = _; omega)]

omit hv in
theorem dv_eq : dv q k c d = outV a := funext fun y => by
  obtain ⟨t, x, rfl⟩ : ∃ (t : Fin 4096) (x : Fin 2048), y = ix2 t x := ⟨y 0, y 1, eq_ix2 y⟩
  exact dv_at hq hk hc hd t x

end Cert.ReferenceIdeal.Att

namespace Cert.Att

open Idealize.ShloMosaic Idealize.ShloMosaic.TcCoe Idealize.SL.Sem
open Cert.KernelIdeal.Att (outQ outK outV outR outC argsOf real_args)
open Cert.ReferenceIdeal.Att

theorem algebraic : Cert.algebraic_KernelIdeal_ReferenceIdeal_pre_finite_inputs := by
  intro m g m' g' hpre hagree
  refine ⟨fun c => outQ (argsOf m c), fun c => outK (argsOf m c), fun c => outV (argsOf m c), fun c => outR (argsOf m c),
    fun c => outC (argsOf m c), Cert.KernelIdeal.Att.run_real m g (real_args hpre), ?_⟩
  refine θ_run_mono (Cert.ReferenceIdeal.Value.run m' g') fun r h c => ?_
  have Q := real_args hpre c
  obtain ⟨e0, e1, e2, e3, e4⟩ := hagree c
  have hq := fun t x => (congrFun e0 _).trans (Q.q t x)
  have hk := fun t x => (congrFun e1 _).trans (Q.k t x)
  have hv := fun t x => (congrFun e2 _).trans (Q.v t x)
  have hc := fun t x => (congrFun e3 _).trans (Q.gate t x)
  have hd := fun t x => (congrFun e4 _).trans (Q.d t x)
  obtain ⟨h0, h1, h2, h3, h4, hr⟩ := h c
  exact ⟨h0.trans ((out0_eq m' c).trans (dq_eq hq hk hc hv hd)), h1.trans ((out1_eq m' c).trans (dk_eq hq hk hc hv hd)),
    h2.trans ((out2_eq m' c).trans (dv_eq hq hk hc hd)), h3.trans ((out3_eq m' c).trans (dcq_eq hq hk hc hv hd)),
    h4.trans ((out4_eq m' c).trans (dck_eq hq hk hc hv hd)), hr⟩

end Cert.Att

end
-- ==== Proof.Ffn.UpDw.lean ====
/- The gradient by the up projection's weight: `nrmᵀ · dgu`, laid out in four column shards, each block summed over two blocks of tokens
   in a scratch and written out in `bf16` at the second. -/
module

public import proofs.«01_k».proof.Defs
public import proofs.«01_k».proof.Proof.Gen.UpDwIdeal.Value
public import proofs.«01_k».proof.Proof.Gen.UpDwRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.UpDwIdeal.Ffn

open Cert.UpDwIdeal Cert.UpDwIdeal.Gen

/-- Column `x` of shard `s`, among all columns. -/
def lane (s : Fin 4) (x : Fin 2816) : Fin 11264 := ⟨s.val * 2816 + x.val, by omega⟩

/-- The whole product of two arrays that share their first axis, its columns in four shards. -/
def product (x : S4096x2048.Idx → EReal) (d : S4096x11264.Idx → EReal) : S4x2048x2816.Idx → EReal :=
  fun y => ∑ k : Fin 4096, x (ix2 k (y 1)) * d (ix2 k (lane (y 0) (y 2)))

theorem idx : ∀ t : Fin cfg0.N, win0_0.index t = ![t.val % 2, t.val / 16] ∧ win0_1.index t = ![t.val % 2, t.val / 2 % 8]
    ∧ win0_2.index t = ![t.val / 2 % 8 / 2, t.val / 16, t.val / 2 % 2] :=
  (by decide +kernel : ∀ t : Fin grid0.N, _)

/-- The tokens, the rows and the columns of a point, and its columns' shard and places there. -/
def tok (t : Fin cfg0.N) (k : Fin 2048) : Fin 4096 := ⟨t.val % 2 * 2048 + k.val, by omega⟩
def row (t : Fin cfg0.N) (r : Fin 1024) : Fin 2048 := ⟨t.val / 16 * 1024 + r.val, by have := Nat.lt_of_lt_of_eq t.isLt N_0; omega⟩
def col (t : Fin cfg0.N) (x : Fin 1408) : Fin 11264 := ⟨t.val / 2 % 8 * 1408 + x.val, by omega⟩
def shard (t : Fin cfg0.N) : Fin 4 := ⟨t.val / 2 % 8 / 2, by omega⟩
def place (t : Fin cfg0.N) (x : Fin 1408) : Fin 2816 := ⟨t.val / 2 % 2 * 1408 + x.val, by omega⟩

theorem lane_place (t : Fin cfg0.N) (x : Fin 1408) : lane (shard t) (place t x) = col t x :=
  Fin.ext (by show t.val / 2 % 8 / 2 * 2816 + (t.val / 2 % 2 * 1408 + x.val) = t.val / 2 % 8 * 1408 + x.val; omega)

theorem dot_at (x0 : Vec Ideal S2048x1024 .bf16) (x1 : Vec Ideal S2048x1408 .bf16) (r : Fin 1024) (x : Fin 1408) :
    k0_pay1 x0 x1 (ix2 r x) = ∑ k : Fin 2048, x0 (ix2 k r) * x1 (ix2 k x) := by
  pointwise [k0_pay1]

variable (m : (ℓ : Loc nD τ sig) → Buf (Elt Ideal) ℓ) (c : Dev nD)

theorem blk_x (t : Fin cfg0.N) (k : Fin 2048) (r : Fin 1024) : iblk m c 0 t (ix2 k r) = m ((c : Thread nD τ).loc main_arg0) (ix2 (tok t k) (row t r)) := by
  have e := (idx t).1
  blk_ext [iblk, V, e, tok, row]

theorem blk_d (t : Fin cfg0.N) (k : Fin 2048) (x : Fin 1408) : iblk m c 1 t (ix2 k x) = m ((c : Thread nD τ).loc main_arg1) (ix2 (tok t k) (col t x)) := by
  have e := (idx t).2.1
  blk_ext [iblk, V, e, tok, col]

/-- What a point adds to its block. -/
def partOf (x : S4096x2048.Idx → EReal) (d : S4096x11264.Idx → EReal) (t : Fin cfg0.N) (j : S1024x1408.Idx) : EReal :=
  ∑ k : Fin 2048, x (ix2 (tok t k) (row t (j 0))) * d (ix2 (tok t k) (col t (j 1)))

def part (t : Fin cfg0.N) (j : S1024x1408.Idx) : EReal :=
  partOf (m ((c : Thread nD τ).loc main_arg0)) (m ((c : Thread nD τ).loc main_arg1)) t j

theorem part_at (t : Fin cfg0.N) (j : S1024x1408.Idx) : k0_pay1 (iblk m c 0 t) (iblk m c 1 t) j = part m c t j := by
  obtain ⟨r, x, rfl⟩ : ∃ (r : Fin 1024) (x : Fin 1408), j = ix2 r x := ⟨j 0, j 1, eq_ix2 j⟩
  refine (dot_at (iblk m c 0 t) (iblk m c 1 t) r x).trans ?_
  unfold part partOf
  refine Finset.sum_congr rfl fun k _ => ?_
  rw [blk_x, blk_d]
  rfl

theorem first (t : Fin cfg0.N) (h : t.val % 2 = 0) (j : S1024x1408.Idx) :
    (outsAt0 m c t.val t.isLt).2 j = 0 + part m c t j := by
  rw [outsAt0_A m c t h (by omega) (by omega)]
  frame_out
  rw [zero_add, ← part_at m c t j]
  pointwise [k0_pay2]

theorem next (t : Fin cfg0.N) (h : ¬t.val % 2 = 0) (j : S1024x1408.Idx) :
    (outsAt0 m c t.val t.isLt).2 j = (outsAt0 m c (t.val - 1) (Nat.lt_of_le_of_lt (Nat.sub_le _ _) t.isLt)).2 j + part m c t j := by
  rw [outsAt0_B m c t h (by omega) (by omega)]
  frame_out
  rw [← part_at m c t j]
  pointwise [k0_pay3]
  rw [read_unread_whole]

theorem written (t : Fin cfg0.N) (h : t.val % 2 = 1) (r : Fin 1024) (x : Fin 1408) :
    (outsAt0 m c t.val t.isLt).1 (ix3 0 r x) = (outsAt0 m c t.val t.isLt).2 (ix2 r x) := by
  rw [outsAt0_B m c t (by omega) h h]
  frame_out
  pointwise [k0_pay4]

/-- The array the kernel leaves is the whole product. -/
def out : S4x2048x2816.Idx → EReal := product (m ((c : Thread nD τ).loc main_arg0)) (m ((c : Thread nD τ).loc main_arg1))

theorem left_at (t : Fin cfg0.N) (h : t.val % 2 = 1) (r : Fin 1024) (x : Fin 1408) :
    (outsAt0 m c t.val t.isLt).1 (ix3 0 r x) = out m c (ix3 (shard t) (row t r) (place t x)) := by
  rw [written m c t h, eq_sum_fin_of_reset_step_apply_of_flush (fun n hn => (outsAt0 m c n hn).2) 2 (fun _ => (0 : EReal)) (part m c)
    (first m c) (next m c) t h (ix2 r x), zero_add]
  unfold part partOf out product
  refine Eq.trans ?_ (Fin.sum_mul_add_fin 2 2048 _)
  refine Finset.sum_congr rfl fun s _ => Finset.sum_congr rfl fun k _ => ?_
  show _ = _ * m ((c : Thread nD τ).loc main_arg1) (ix2 _ (lane (shard t) (place t x)))
  rw [lane_place]
  have hs : (2 * (t.val / 2) + s.val) % 2 = s.val := by omega
  have h16 : (2 * (t.val / 2) + s.val) / 16 = t.val / 16 := by omega
  have h2 : (2 * (t.val / 2) + s.val) / 2 = t.val / 2 := by omega
  simp only [tok, row, col, hs, h16, h2]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1408), y = ix3 0 r x := ⟨y 1, y 2, funext fun b => by
    match b with
    | 0 => exact Subsingleton.elim (α := Fin 1) _ _
    | 1 => rfl
    | 2 => rfl⟩
  have eb : ((cfg0.win 2).blk t).view.emb (ix3 0 r x) = ix3 (shard t) (row t r) (place t x) := by blk_ext [e, shard, row, place]
  rw [eb]
  have L := left_at m c t ((flush0_2 t).mp hf) r x
  generalize (outsAt0 m c t.val t.isLt).1 = f at L ⊢
  exact L

end Cert.UpDwIdeal.Ffn

namespace Cert.UpDwRefIdeal.Ffn

open Cert.UpDwRefIdeal Cert.UpDwRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.UpDwRefIdeal.Ffn

theorem Cert.UpDwIdeal.Ffn.algebraic : Cert.algebraic_UpDwIdeal_UpDwRefIdeal := by
  pair_intro
  · run_from Cert.UpDwIdeal.Value.run_blocks m g
  · run_from Cert.UpDwRefIdeal.Value.run m' g'
    rw [Cert.UpDwIdeal.Ffn.arr m c]
    funext y
    unfold Cert.UpDwIdeal.Ffn.out Cert.UpDwIdeal.Ffn.product
    pointwise
    exact Finset.sum_congr rfl fun k _ => mul_comm _ _

end
-- ==== Proof.Ffn.UpDx.lean ====
/- The gradient by the up projection's input: `dgu · wᵀ`, each block of the result summed in place over the four shards
   that hold the weight's columns. -/
module

public import proofs.«01_k».proof.Defs
public import proofs.«01_k».proof.Proof.Gen.UpDxIdeal.Value
public import proofs.«01_k».proof.Proof.Gen.UpDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.UpDxIdeal.Ffn

open Cert.UpDxIdeal Cert.UpDxIdeal.Gen

/-- Column `x` of shard `s`, among all columns. -/
def lane (s : Fin 4) (x : Fin 2816) : Fin 11264 := ⟨s.val * 2816 + x.val, by omega⟩

/-- The whole product of an array and one whose columns are in four shards, over those columns. -/
def product (d : S4096x11264.Idx → EReal) (w : S4x2048x2816.Idx → EReal) : S4096x2048.Idx → EReal :=
  fun y => ∑ k : Fin 11264, d (ix2 (y 0) k) * w (ix3 ⟨k.val / 2816, by omega⟩ (y 1) ⟨k.val % 2816, by omega⟩)

theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The rows, the columns and the shard of a point. -/
def row (t : Fin cfg0.N) (r : Fin 1024) : Fin 4096 := ⟨t.val / 8 * 1024 + r.val, by have := Nat.lt_of_lt_of_eq t.isLt N_0; omega⟩
def col (t : Fin cfg0.N) (x : Fin 1024) : Fin 2048 := ⟨t.val / 4 % 2 * 1024 + x.val, by omega⟩
def shard (t : Fin cfg0.N) : Fin 4 := ⟨t.val % 4, by omega⟩

theorem dot_at (x0 : Vec Ideal S1024x2816 .bf16) (x1 : Vec Ideal S1x1024x2816 .bf16) (r x : Fin 1024) :
    k0_pay1 x0 x1 (ix2 r x) = ∑ k : Fin 2816, x0 (ix2 r k) * x1 (ix3 0 x k) := by
  pointwise [k0_pay1]

variable (m : (ℓ : Loc nD τ sig) → Buf (Elt Ideal) ℓ) (c : Dev nD)

theorem blk_d (t : Fin cfg0.N) (r : Fin 1024) (k : Fin 2816) :
    iblk m c 0 t (ix2 r k) = m ((c : Thread nD τ).loc main_arg0) (ix2 (row t r) (lane (shard t) k)) := by
  have e := (idx t).1
  blk_ext [iblk, V, e, row, lane, shard]

theorem blk_w (t : Fin cfg0.N) (x : Fin 1024) (k : Fin 2816) :
    iblk m c 1 t (ix3 0 x k) = m ((c : Thread nD τ).loc main_arg1) (ix3 (shard t) (col t x) k) := by
  have e := (idx t).2.1
  blk_ext [iblk, V, e, shard, col]

/-- What a point adds to its block. -/
def partOf (d : S4096x11264.Idx → EReal) (w : S4x2048x2816.Idx → EReal) (t : Fin cfg0.N) (j : S1024x1024.Idx) : EReal :=
  ∑ k : Fin 2816, d (ix2 (row t (j 0)) (lane (shard t) k)) * w (ix3 (shard t) (col t (j 1)) k)

def part (t : Fin cfg0.N) (j : S1024x1024.Idx) : EReal :=
  partOf (m ((c : Thread nD τ).loc main_arg0)) (m ((c : Thread nD τ).loc main_arg1)) t j

theorem part_at (t : Fin cfg0.N) (j : S1024x1024.Idx) : k0_pay1 (iblk m c 0 t) (iblk m c 1 t) j = part m c t j := by
  obtain ⟨r, x, rfl⟩ : ∃ (r x : Fin 1024), j = ix2 r x := ⟨j 0, j 1, eq_ix2 j⟩
  refine (dot_at (iblk m c 0 t) (iblk m c 1 t) r x).trans ?_
  unfold part partOf
  refine Finset.sum_congr rfl fun k _ => ?_
  rw [blk_d, blk_w]
  rfl

theorem first (t : Fin cfg0.N) (h : t.val % 4 = 0) (j : S1024x1024.Idx) :
    outsAt0 m c t.val t.isLt j = 0 + part m c t j := by
  rw [outsAt0_A m c t h (by omega)]
  frame_out
  rw [zero_add, ← part_at m c t j]

theorem next (t : Fin cfg0.N) (h : ¬t.val % 4 = 0) (j : S1024x1024.Idx) :
    outsAt0 m c t.val t.isLt j = outsAt0 m c (t.val - 1) (Nat.lt_of_le_of_lt (Nat.sub_le _ _) t.isLt) j + part m c t j := by
  rw [outsAt0_B m c t h (by omega)]
  frame_out
  rw [← part_at m c t j]
  pointwise [k0_pay2]

/-- The array the kernel leaves is the whole product. -/
def out : S4096x2048.Idx → EReal := product (m ((c : Thread nD τ).loc main_arg0)) (m ((c : Thread nD τ).loc main_arg1))

theorem left_at (t : Fin cfg0.N) (h : t.val % 4 = 3) (r x : Fin 1024) :
    outsAt0 m c t.val t.isLt (ix2 r x) = out m c (ix2 (row t r) (col t x)) := by
  rw [eq_sum_fin_of_reset_step_apply_of_flush (fun n hn => outsAt0 m c n hn) 4 (fun _ => (0 : EReal)) (part m c)
    (first m c) (next m c) t h (ix2 r x), zero_add]
  unfold part partOf out product
  refine Eq.trans ?_ (Fin.sum_mul_add_fin 4 2816 _)
  refine Finset.sum_congr rfl fun s _ => Finset.sum_congr rfl fun k _ => ?_
  have hs : (4 * (t.val / 4) + s.val) % 4 = s.val := by omega
  have h8 : (4 * (t.val / 4) + s.val) / 8 = t.val / 8 := by omega
  have h4 : (4 * (t.val / 4) + s.val) / 4 = t.val / 4 := by omega
  have hd : (s.val * 2816 + k.val) / 2816 = s.val := by omega
  have hm : (s.val * 2816 + k.val) % 2816 = k.val := by omega
  simp only [row, col, shard, lane, hs, h8, h4, hd, hm]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize outsAt0 m c t.val t.isLt = f at L ⊢
  exact L

end Cert.UpDxIdeal.Ffn

namespace Cert.UpDxRefIdeal.Ffn

open Cert.UpDxRefIdeal Cert.UpDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.UpDxRefIdeal.Ffn

theorem Cert.UpDxIdeal.Ffn.algebraic : Cert.algebraic_UpDxIdeal_UpDxRefIdeal := by
  pair_intro
  · run_from Cert.UpDxIdeal.Value.run_blocks m g
  · run_from Cert.UpDxRefIdeal.Value.run m' g'
    rw [Cert.UpDxIdeal.Ffn.arr m c]
    funext y
    unfold Cert.UpDxIdeal.Ffn.out Cert.UpDxIdeal.Ffn.product
    pointwise

end
-- ==== Proof.Ffn.DownDw.lean ====
/- The gradient by the down projection's weight: `actᵀ · dh`, each block of the result summed over two blocks of tokens
   in a scratch and written out in `bf16` at the second. -/
module

public import proofs.«01_k».proof.Defs
public import proofs.«01_k».proof.Proof.Gen.DownDwIdeal.Value
public import proofs.«01_k».proof.Proof.Gen.DownDwRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.DownDwIdeal.Ffn

open Cert.DownDwIdeal Cert.DownDwIdeal.Gen

/-- The whole product of two arrays that share their first axis. -/
def product (x : S4096x5632.Idx → EReal) (d : S4096x2048.Idx → EReal) : S5632x2048.Idx → EReal :=
  fun y => ∑ k : Fin 4096, x (ix2 k (y 0)) * d (ix2 k (y 1))

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The tokens, the rows and the columns of a point. -/
def tok (t : Fin cfg0.N) (k : Fin 2048) : Fin 4096 := ⟨t.val % 2 * 2048 + k.val, by omega⟩
def row (t : Fin cfg0.N) (r : Fin 512) : Fin 5632 := ⟨t.val / 4 * 512 + r.val, by have := Nat.lt_of_lt_of_eq t.isLt N_0; omega⟩
def col (t : Fin cfg0.N) (x : Fin 1024) : Fin 2048 := ⟨t.val / 2 % 2 * 1024 + x.val, by omega⟩

theorem dot_at (x0 : Vec Ideal S2048x512 .bf16) (x1 : Vec Ideal S2048x1024 .bf16) (r : Fin 512) (x : Fin 1024) :
    k0_pay1 x0 x1 (ix2 r x) = ∑ k : Fin 2048, x0 (ix2 k r) * x1 (ix2 k x) := by
  pointwise [k0_pay1]

variable (m : (ℓ : Loc nD τ sig) → Buf (Elt Ideal) ℓ) (c : Dev nD)

theorem blk_x (t : Fin cfg0.N) (k : Fin 2048) (r : Fin 512) : iblk m c 0 t (ix2 k r) = m ((c : Thread nD τ).loc main_arg0) (ix2 (tok t k) (row t r)) := by
  have e := (idx t).1
  blk_ext [iblk, V, e, tok, row]

theorem blk_d (t : Fin cfg0.N) (k : Fin 2048) (x : Fin 1024) : iblk m c 1 t (ix2 k x) = m ((c : Thread nD τ).loc main_arg1) (ix2 (tok t k) (col t x)) := by
  have e := (idx t).2.1
  blk_ext [iblk, V, e, tok, col]

/-- What a point adds to its block. -/
def partOf (x : S4096x5632.Idx → EReal) (d : S4096x2048.Idx → EReal) (t : Fin cfg0.N) (j : S512x1024.Idx) : EReal :=
  ∑ k : Fin 2048, x (ix2 (tok t k) (row t (j 0))) * d (ix2 (tok t k) (col t (j 1)))

def part (t : Fin cfg0.N) (j : S512x1024.Idx) : EReal :=
  partOf (m ((c : Thread nD τ).loc main_arg0)) (m ((c : Thread nD τ).loc main_arg1)) t j

theorem part_at (t : Fin cfg0.N) (j : S512x1024.Idx) : k0_pay1 (iblk m c 0 t) (iblk m c 1 t) j = part m c t j := by
  obtain ⟨r, x, rfl⟩ : ∃ (r : Fin 512) (x : Fin 1024), j = ix2 r x := ⟨j 0, j 1, eq_ix2 j⟩
  refine (dot_at (iblk m c 0 t) (iblk m c 1 t) r x).trans ?_
  unfold part partOf
  refine Finset.sum_congr rfl fun k _ => ?_
  rw [blk_x, blk_d]
  rfl

theorem first (t : Fin cfg0.N) (h : t.val % 2 = 0) (j : S512x1024.Idx) :
    (outsAt0 m c t.val t.isLt).2 j = 0 + part m c t j := by
  rw [outsAt0_A m c t h (by omega) (by omega)]
  frame_out
  rw [zero_add, ← part_at m c t j]
  pointwise [k0_pay2]

theorem next (t : Fin cfg0.N) (h : ¬t.val % 2 = 0) (j : S512x1024.Idx) :
    (outsAt0 m c t.val t.isLt).2 j = (outsAt0 m c (t.val - 1) (Nat.lt_of_le_of_lt (Nat.sub_le _ _) t.isLt)).2 j + part m c t j := by
  rw [outsAt0_B m c t h (by omega) (by omega)]
  frame_out
  rw [← part_at m c t j]
  pointwise [k0_pay3]
  rw [read_unread_whole]

theorem written (t : Fin cfg0.N) (h : t.val % 2 = 1) (j : S512x1024.Idx) :
    (outsAt0 m c t.val t.isLt).1 j = (outsAt0 m c t.val t.isLt).2 j := by
  rw [outsAt0_B m c t (by omega) h h]
  frame_out
  pointwise [k0_pay4]

/-- The array the kernel leaves is the whole product. -/
def out : S5632x2048.Idx → EReal := product (m ((c : Thread nD τ).loc main_arg0)) (m ((c : Thread nD τ).loc main_arg1))

theorem left_at (t : Fin cfg0.N) (h : t.val % 2 = 1) (r : Fin 512) (x : Fin 1024) :
    (outsAt0 m c t.val t.isLt).1 (ix2 r x) = out m c (ix2 (row t r) (col t x)) := by
  rw [written m c t h, eq_sum_fin_of_reset_step_apply_of_flush (fun n hn => (outsAt0 m c n hn).2) 2 (fun _ => (0 : EReal)) (part m c)
    (first m c) (next m c) t h (ix2 r x), zero_add]
  unfold part partOf out product
  refine Eq.trans ?_ (Fin.sum_mul_add_fin 2 2048 _)
  refine Finset.sum_congr rfl fun s _ => Finset.sum_congr rfl fun k _ => ?_
  have hs : (2 * (t.val / 2) + s.val) % 2 = s.val := by omega
  have h4 : (2 * (t.val / 2) + s.val) / 4 = t.val / 4 := by omega
  have h2 : (2 * (t.val / 2) + s.val) / 2 = t.val / 2 := by omega
  simp only [tok, row, col, hs, h4, h2]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 512) (x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize (outsAt0 m c t.val t.isLt).1 = f at L ⊢
  exact L

end Cert.DownDwIdeal.Ffn

namespace Cert.DownDwRefIdeal.Ffn

open Cert.DownDwRefIdeal Cert.DownDwRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.DownDwRefIdeal.Ffn

theorem Cert.DownDwIdeal.Ffn.algebraic : Cert.algebraic_DownDwIdeal_DownDwRefIdeal := by
  pair_intro
  · run_from Cert.DownDwIdeal.Value.run_blocks m g
  · run_from Cert.DownDwRefIdeal.Value.run m' g'
    rw [Cert.DownDwIdeal.Ffn.arr m c]
    funext y
    unfold Cert.DownDwIdeal.Ffn.out Cert.DownDwIdeal.Ffn.product
    pointwise
    exact Finset.sum_congr rfl fun k _ => mul_comm _ _

end
-- ==== Proof.Ffn.DownDx.lean ====
/- The gradient by the down projection's input: `dh · wᵀ`, one block of the result per grid point. -/
module

public import proofs.«01_k».proof.Defs
public import proofs.«01_k».proof.Proof.Gen.DownDxIdeal.Value
public import proofs.«01_k».proof.Proof.Gen.DownDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.DownDxIdeal.Ffn

open Cert.DownDxIdeal Cert.DownDxIdeal.Gen

/-- The whole product of two arrays that share their second axis. -/
def product (d : S4096x2048.Idx → EReal) (w : S5632x2048.Idx → EReal) : S4096x5632.Idx → EReal :=
  fun y => ∑ k : Fin 2048, d (ix2 (y 0) k) * w (ix2 (y 1) k)

theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

theorem part (x0 : Vec Ideal S1024x2048 .bf16) (x1 : Vec Ideal S512x2048 .bf16) (r : Fin 1024) (x : Fin 512) :
    out0_2 x0 x1 (ix2 r x) = ∑ k : Fin 2048, x0 (ix2 r k) * x1 (ix2 x k) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 11 * 1024 + r.val, by have := Nat.lt_of_lt_of_eq t.isLt N_0; omega⟩
def col (t : Fin cfg0.N) (x : Fin 512) : Fin 5632 := ⟨t.val % 11 * 512 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (x : Fin 512) (k : Fin 2048) : iblk m c 1 t (ix2 x k) = m ((c : Thread nD τ).loc main_arg1) (ix2 (col t x) k) := by
  have e := (idx t).2.1
  blk_ext [iblk, V, e, col]

/-- The array the kernel leaves is the whole product. -/
def out : S4096x5632.Idx → EReal := product (m ((c : Thread nD τ).loc main_arg0)) (m ((c : Thread nD τ).loc main_arg1))

theorem left_at (t : Fin cfg0.N) (r : Fin 1024) (x : Fin 512) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 512), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.DownDxIdeal.Ffn

namespace Cert.DownDxRefIdeal.Ffn

open Cert.DownDxRefIdeal Cert.DownDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.DownDxRefIdeal.Ffn

theorem Cert.DownDxIdeal.Ffn.algebraic : Cert.algebraic_DownDxIdeal_DownDxRefIdeal := by
  pair_intro
  · run_from Cert.DownDxIdeal.Value.run_blocks m g
  · run_from Cert.DownDxRefIdeal.Value.run m' g'
    rw [Cert.DownDxIdeal.Ffn.arr m c]
    funext y
    unfold Cert.DownDxIdeal.Ffn.out Cert.DownDxIdeal.Ffn.product
    pointwise

end
-- ==== Proof.Ffn.Up.lean ====
/- The up projection: `nrm · w` with the columns of `w` in four shards, one block of the result per grid point. -/
module

public import proofs.«01_k».proof.Defs
public import proofs.«01_k».proof.Proof.Gen.UpIdeal.Value
public import proofs.«01_k».proof.Proof.Gen.UpRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.UpIdeal.Ffn

open Cert.UpIdeal Cert.UpIdeal.Gen

/-- The whole product of an array and one whose columns are in four shards. -/
def product (a : S4096x2048.Idx → EReal) (w : S4x2048x2816.Idx → EReal) : S4096x11264.Idx → EReal :=
  fun y => ∑ k : Fin 2048, a (ix2 (y 0) k) * w (ix3 ⟨(y 1).val / 2816, by have := (y 1).isLt; change (y 1).val < 11264 at this; omega⟩ k ⟨(y 1).val % 2816, by omega⟩)

theorem idx : ∀ t : Fin cfg0.N, win0_0.index t = ![t.val / 8, 0] ∧ win0_1.index t = ![t.val % 8 / 2, 0, t.val % 2]
    ∧ win0_2.index t = ![t.val / 8, t.val % 8] :=
  (by decide +kernel : ∀ t : Fin grid0.N, _)

/-- The rows and the columns of a point, and where the shards hold those columns. -/
def row (t : Fin cfg0.N) (r : Fin 1024) : Fin 4096 := ⟨t.val / 8 * 1024 + r.val, by have := Nat.lt_of_lt_of_eq t.isLt N_0; omega⟩
def col (t : Fin cfg0.N) (x : Fin 1408) : Fin 11264 := ⟨t.val % 8 * 1408 + x.val, by omega⟩
def shard (t : Fin cfg0.N) : Fin 4 := ⟨t.val % 8 / 2, by omega⟩
def lane (t : Fin cfg0.N) (x : Fin 1408) : Fin 2816 := ⟨t.val % 2 * 1408 + x.val, by omega⟩

theorem part (x0 : Vec Ideal S1024x2048 .bf16) (x1 : Vec Ideal S1x2048x1408 .bf16) (r : Fin 1024) (x : Fin 1408) :
    out0_2 x0 x1 (ix2 r x) = ∑ k : Fin 2048, x0 (ix2 r k) * x1 (ix3 0 k x) := by
  unfold out0_2
  rw [View.canon_unit_zero, View.ld_unit_zero, View.ld_unit_zero]
  · pointwise [k0_pay1]
  all_goals exact funext fun a => by fin_cases a <;> rfl

variable (m : (ℓ : Loc nD τ sig) → Buf (Elt Ideal) ℓ) (c : Dev nD)

theorem blk_a (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) (x : Fin 1408) :
    iblk m c 1 t (ix3 0 k x) = m ((c : Thread nD τ).loc main_arg1) (ix3 (shard t) k (lane t x)) := by
  have e := (idx t).2.1
  blk_ext [iblk, V, e, shard, lane]

/-- The array the kernel leaves is the whole product. -/
def out : S4096x11264.Idx → EReal := product (m ((c : Thread nD τ).loc main_arg0)) (m ((c : Thread nD τ).loc main_arg1))

theorem left_at (t : Fin cfg0.N) (r : Fin 1024) (x : Fin 1408) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_a, blk_w]
  have hs : (t.val % 8 * 1408 + x.val) / 2816 = t.val % 8 / 2 := by omega
  have hl : (t.val % 8 * 1408 + x.val) % 2816 = t.val % 2 * 1408 + x.val := by omega
  simp only [ix2_0, ix2_1, col, shard, lane, hs, hl]

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1408), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.UpIdeal.Ffn

namespace Cert.UpRefIdeal.Ffn

open Cert.UpRefIdeal Cert.UpRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.UpRefIdeal.Ffn

theorem Cert.UpIdeal.Ffn.algebraic : Cert.algebraic_UpIdeal_UpRefIdeal := by
  pair_intro
  · run_from Cert.UpIdeal.Value.run_blocks m g
  · run_from Cert.UpRefIdeal.Value.run m' g'
    rw [Cert.UpIdeal.Ffn.arr m c]
    funext y
    unfold Cert.UpIdeal.Ffn.out Cert.UpIdeal.Ffn.product
    pointwise

end
-- ==== Proof.Ffn.Down.lean ====
/- The down projection onto the residual: `h + act · w`, each block of the result summed in place over two halves of the
   contraction. -/
module

public import proofs.«01_k».proof.Defs
public import proofs.«01_k».proof.Proof.Gen.DownIdeal.Value
public import proofs.«01_k».proof.Proof.Gen.DownRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.DownIdeal.Ffn

open Cert.DownIdeal Cert.DownIdeal.Gen

/-- The whole product, on top of `h`. -/
def product (a : S4096x5632.Idx → EReal) (w : S5632x2048.Idx → EReal) (h : S4096x2048.Idx → EReal) : S4096x2048.Idx → EReal :=
  fun y => h y + ∑ k : Fin 5632, a (ix2 (y 0) k) * w (ix2 k (y 1))

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- The rows, the columns and the contraction's positions of a point. -/
def row (t : Fin cfg0.N) (r : Fin 1024) : Fin 4096 := ⟨t.val / 4 * 1024 + r.val, by have := Nat.lt_of_lt_of_eq t.isLt N_0; omega⟩
def col (t : Fin cfg0.N) (x : Fin 1024) : Fin 2048 := ⟨t.val / 2 % 2 * 1024 + x.val, by omega⟩
def place (t : Fin cfg0.N) (k : Fin 2816) : Fin 5632 := ⟨t.val % 2 * 2816 + k.val, by omega⟩

theorem dot_at (x0 : Vec Ideal S1024x2816 .bf16) (x1 : Vec Ideal S2816x1024 .bf16) (r x : Fin 1024) :
    k0_pay1 x0 x1 (ix2 r x) = ∑ k : Fin 2816, x0 (ix2 r k) * x1 (ix2 k x) := by
  pointwise [k0_pay1]

variable (m : (ℓ : Loc nD τ sig) → Buf (Elt Ideal) ℓ) (c : Dev nD)

theorem blk_a (t : Fin cfg0.N) (r : Fin 1024) (k : Fin 2816) :
    iblk m c 0 t (ix2 r k) = m ((c : Thread nD τ).loc main_arg0) (ix2 (row t r) (place t k)) := by
  have e := (idx t).1
  blk_ext [iblk, V, e, row, place]

theorem blk_w (t : Fin cfg0.N) (k : Fin 2816) (x : Fin 1024) :
    iblk m c 1 t (ix2 k x) = m ((c : Thread nD τ).loc main_arg1) (ix2 (place t k) (col t x)) := by
  have e := (idx t).2.1
  blk_ext [iblk, V, e, place, col]

theorem blk_h (t : Fin cfg0.N) (r x : Fin 1024) :
    iblk m c 2 t (ix2 r x) = m ((c : Thread nD τ).loc main_arg2) (ix2 (row t r) (col t x)) := by
  have e := (idx t).2.2.1
  blk_ext [iblk, V, e, row, col]

/-- What a point adds to its block. -/
def partOf (a : S4096x5632.Idx → EReal) (w : S5632x2048.Idx → EReal) (t : Fin cfg0.N) (r x : Fin 1024) : EReal :=
  ∑ k : Fin 2816, a (ix2 (row t r) (place t k)) * w (ix2 (place t k) (col t x))

def part (t : Fin cfg0.N) (r x : Fin 1024) : EReal :=
  partOf (m ((c : Thread nD τ).loc main_arg0)) (m ((c : Thread nD τ).loc main_arg1)) t r x

theorem part_at (t : Fin cfg0.N) (r x : Fin 1024) : k0_pay1 (iblk m c 0 t) (iblk m c 1 t) (ix2 r x) = part m c t r x := by
  refine (dot_at (iblk m c 0 t) (iblk m c 1 t) r x).trans ?_
  unfold part partOf
  refine Finset.sum_congr rfl fun k _ => ?_
  rw [blk_a, blk_w]

/-- The first point of a run starts from `h`'s block. -/
theorem first (t : Fin cfg0.N) (h : t.val % 2 = 0) (r x : Fin 1024) :
    outsAt0 m c t.val t.isLt (ix2 r x) = part m c t r x + iblk m c 2 t (ix2 r x) := by
  rw [outsAt0_A m c t h (by omega)]
  frame_out
  rw [← part_at m c t r x]
  pointwise [k0_pay2]

theorem next (t : Fin cfg0.N) (h : t.val % 2 = 1) (r x : Fin 1024) :
    outsAt0 m c t.val t.isLt (ix2 r x) = outsAt0 m c (t.val - 1) (Nat.lt_of_le_of_lt (Nat.sub_le _ _) t.isLt) (ix2 r x) + part m c t r x := by
  rw [outsAt0_B m c t (by omega) h]
  frame_out
  rw [← part_at m c t r x]
  pointwise [k0_pay3]

/-- The array the kernel leaves is the whole product on top of `h`. -/
def out : S4096x2048.Idx → EReal :=
  product (m ((c : Thread nD τ).loc main_arg0)) (m ((c : Thread nD τ).loc main_arg1)) (m ((c : Thread nD τ).loc main_arg2))

theorem halves (a : S4096x5632.Idx → EReal) (w : S5632x2048.Idx → EReal) (t' t : Fin cfg0.N) (h : t.val % 2 = 1)
    (ht : t'.val = t.val - 1) (r x : Fin 1024) :
    partOf a w t' r x + partOf a w t r x = ∑ k : Fin 5632, a (ix2 (row t r) k) * w (ix2 k (col t x)) := by
  refine Eq.trans ?_ (Fin.sum_mul_add_fin 2 2816 _)
  rw [Fin.sum_univ_two]
  unfold partOf
  have h0 : (t.val - 1) % 2 = 0 := by omega
  have h4 : (t.val - 1) / 4 = t.val / 4 := by omega
  have h2 : (t.val - 1) / 2 = t.val / 2 := by omega
  simp only [row, col, place, ht, h, h0, h4, h2]
  rfl

theorem product_at (a : S4096x5632.Idx → EReal) (w : S5632x2048.Idx → EReal) (h : S4096x2048.Idx → EReal) (t' t : Fin cfg0.N)
    (ht : t.val % 2 = 1) (e : t'.val = t.val - 1) (r x : Fin 1024) :
    partOf a w t' r x + h (ix2 (row t r) (col t x)) + partOf a w t r x = product a w h (ix2 (row t r) (col t x)) := by
  unfold product
  refine Eq.trans ?_ (congrArg (h (ix2 (row t r) (col t x)) + ·) (halves a w t' t ht e r x))
  rw [← add_assoc, add_comm (partOf a w t' r x)]

theorem left_at (t : Fin cfg0.N) (h : t.val % 2 = 1) (r x : Fin 1024) :
    outsAt0 m c t.val t.isLt (ix2 r x) = out m c (ix2 (row t r) (col t x)) := by
  have e := first m c ⟨t.val - 1, Nat.lt_of_le_of_lt (Nat.sub_le _ _) t.isLt⟩ (by dsimp only; omega) r x
  dsimp only at e
  rw [next m c t h r x, e, blk_h]
  have hr : row ⟨t.val - 1, Nat.lt_of_le_of_lt (Nat.sub_le _ _) t.isLt⟩ r = row t r := by
    have : (t.val - 1) / 4 = t.val / 4 := by omega
    simp only [row, this]
  have hc : col ⟨t.val - 1, Nat.lt_of_le_of_lt (Nat.sub_le _ _) t.isLt⟩ x = col t x := by
    have : (t.val - 1) / 2 = t.val / 2 := by omega
    simp only [col, this]
  rw [hr, hc]
  exact product_at _ _ _ ⟨t.val - 1, Nat.lt_of_le_of_lt (Nat.sub_le _ _) t.isLt⟩ t h rfl r x

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r x : Fin 1024), y = ix2 r x := ⟨y 0, y 1, eq_ix2 y⟩
  have eb : ((cfg0.win 3).blk t).view.emb (ix2 r x) = ix2 (row t r) (col t x) := by blk_ext [e, row, col]
  rw [eb]
  have L := left_at m c t ((flush0_3 t).mp hf) r x
  generalize outsAt0 m c t.val t.isLt = f at L ⊢
  exact L

end Cert.DownIdeal.Ffn

namespace Cert.DownRefIdeal.Ffn

open Cert.DownRefIdeal Cert.DownRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems (by decide) _⟩

end Cert.DownRefIdeal.Ffn

theorem Cert.DownIdeal.Ffn.algebraic : Cert.algebraic_DownIdeal_DownRefIdeal := by
  pair_intro
  · run_from Cert.DownIdeal.Value.run_blocks m g
  · run_from Cert.DownRefIdeal.Value.run m' g'
    rw [Cert.DownIdeal.Ffn.arr m c]
    funext y
    unfold Cert.DownIdeal.Ffn.out Cert.DownIdeal.Ffn.product
    pointwise

end
-- ==== Proof.Ffn.Gate.lean ====
/- The gate of SwiGLU on the extended reals: the logistic function, and the derivative of `g ↦ g · σ(g) · u` where its
   arguments are real numbers. -/
module

public import proofs.«01_k».proof.Proof.Att.Real

@[expose] public section

noncomputable section

open Idealize.ShloMosaic

namespace Cert.Ffn

/-- The constant one of both programs. -/
abbrev one : EReal := Ideal.ofBits .f32 0x3F800000#32

theorem one_eq : one = ((1 : ℝ) : EReal) := by
  unfold one
  simp [Ideal.ofBits, Ideal.ieee, -EReal.coe_mul]
  norm_num

theorem zero_eq : (Ideal.ofBits .f32 0x00000000#32 : EReal) = 0 := by
  simp [Ideal.ofBits, Ideal.ieee]

/-- The logistic function, as both programs write it. -/
def sigma (g : EReal) : EReal := Ideal.div one (one + Ideal.exp (-g))

theorem sigma_coe (g : ℝ) : sigma (g : EReal) = ((1 / (1 + Real.exp (-g)) : ℝ) : EReal) := by
  have h : (1 + Real.exp (-g)) ≠ 0 := by positivity
  unfold sigma
  rw [one_eq, ← EReal.coe_neg, Ideal.exp_coe, ← EReal.coe_add, Cert.Att.div_coe 1 h]

/-- The kernel's form of the gate's derivative is the product rule's, on real numbers. -/
theorem derivative (d u g : ℝ) :
    (d : EReal) * u * sigma g * (one + g * (one - sigma g)) = (d : EReal) * u * sigma g + (g * (d * u)) * (sigma g * (one - sigma g)) := by
  rw [sigma_coe, one_eq]
  generalize 1 / (1 + Real.exp (-g)) = s
  simp only [← EReal.coe_mul, ← EReal.coe_sub, ← EReal.coe_add]
  exact congrArg _ (by ring)

end Cert.Ffn

end
-- ==== Proof.Ffn.Act.lean ====
/- The gated activation `g · σ(g) · u`, a block of rows per grid point. -/
module

public import proofs.«01_k».proof.Defs
public import proofs.«01_k».proof.Proof.Gen.ActIdeal.Value
public import proofs.«01_k».proof.Proof.Gen.ActRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import proofs.«01_k».proof.Proof.Ffn.Gate

@[expose] public section

set_option maxRecDepth 16384

noncomputable section

open Idealize.ShloMosaic Idealize.ShloMosaic.TcCoe Idealize.ShloMosaic.Pipeline Idealize.SL.Sem

namespace Cert.ActIdeal.Ffn

open Cert.ActIdeal Cert.ActIdeal.Gen

open Cert.Ffn

/-- `g · σ(g) · u`, of the two halves of an array's columns. -/
def gated (a : S4096x11264.Idx → EReal) (t : Fin 4096) (x : Fin 5632) : EReal :=
  a (ix2 t ⟨x.val, by omega⟩) * sigma (a (ix2 t ⟨x.val, by omega⟩)) * a (ix2 t ⟨5632 + x.val, by omega⟩)

theorem idx : ∀ t : Fin cfg0.N, win0_0.index t = ![t.val, 0] ∧ win0_1.index t = ![t.val, 1] ∧ win0_2.index t = ![t.val, 0] :=
  (by decide +kernel : ∀ t : Fin grid0.N, _)

/-- The rows of a point. -/
def row (t : Fin cfg0.N) (r : Fin 128) : Fin 4096 := ⟨t.val * 128 + r.val, by have := Nat.lt_of_lt_of_eq t.isLt N_0; omega⟩

theorem part (x0 x1 : Vec Ideal S128x5632 .bf16) (r : Fin 128) (x : Fin 5632) :
    out0_2 x0 x1 (ix2 r x) = (x0 (ix2 r x) : EReal) * sigma (x0 (ix2 r x)) * x1 (ix2 r x) := by
  unfold out0_2
  rw [View.canon_unit_zero, View.ld_unit_zero, View.ld_unit_zero]
  · unfold sigma
    rw [← zero_sub, ← zero_eq]
    pointwise [k0_pay1]
  all_goals exact funext fun a => by fin_cases a <;> rfl

variable (m : (ℓ : Loc nD τ sig) → Buf (Elt Ideal) ℓ) (c : Dev nD)

theorem blk_g (t : Fin cfg0.N) (r : Fin 128) (x : Fin 5632) :
    iblk m c 0 t (ix2 r x) = m ((c : Thread nD τ).loc main_arg0) (ix2 (row t r) ⟨x.val, by omega⟩) := by
  have e := (idx t).1
  blk_ext [iblk, V, e, row]

theorem blk_u (t : Fin cfg0.N) (r : Fin 128) (x : Fin 5632) :
    iblk m c 1 t (ix2 r x) = m ((c : Thread nD τ).loc main_arg0) (ix2 (row t r) ⟨5632 + x.val, by omega⟩) := by
  have e := (idx t).2.1
  blk_ext [iblk, V, e, row]

/-- The array the kernel leaves. -/
def out : S4096x5632.Idx → EReal := fun y => gated (m ((c : Thread nD τ).loc main_arg0)) (y 0) (y 1)

theorem left_at (t : Fin cfg0.N) (r : Fin 128) (x : Fin 5632) :
    out0_2 (iblk m c 0 t) (iblk m c 1 t) (ix2 r x) = out m c (ix2 (row t r) x) := by
  refine (part (iblk m c 0 t) (iblk m c 1 t) r x).trans ?_
  unfold out gated
  rw [blk_g, blk_u]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 128) (x : Fin 5632), y = ix2 r x := ⟨y 0, y 1, eq_ix2 y⟩
  have eb : ((cfg0.win 2).blk t).view.emb (ix2 r x) = ix2 (row t r) x := by blk_ext [e, row]
  rw [eb]
  have L := left_at m c t r x
  generalize out0_2 (iblk m c 0 t) (iblk m c 1 t) = f at L ⊢
  exact L

end Cert.ActIdeal.Ffn

namespace Cert.ActRefIdeal.Ffn

open Cert.ActRefIdeal Cert.ActRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_mono (Value.run m ρ) fun r h => ⟨fun c => (h c).2, sem_eq_zero_of_no_sems (by decide) _⟩

end Cert.ActRefIdeal.Ffn

theorem Cert.ActIdeal.Ffn.algebraic : Cert.algebraic_ActIdeal_ActRefIdeal := by
  pair_intro
  · run_from Cert.ActIdeal.Value.run_blocks m g
  · run_from Cert.ActRefIdeal.Value.run m' g'
    rw [Cert.ActIdeal.Ffn.arr m c]
    funext y
    obtain ⟨t, x, rfl⟩ : ∃ (t : Fin 4096) (x : Fin 5632), y = ix2 t x := ⟨y 0, y 1, eq_ix2 y⟩
    unfold Cert.ActIdeal.Ffn.out Cert.ActIdeal.Ffn.gated Cert.Ffn.sigma
    pointwise

end
-- ==== Proof.Ffn.ActDx.lean ====
/- The gate's gradient: `(da · u · σ′, da · g · σ)` side by side, a block of rows per grid point, where the arguments are
   real numbers. -/
module

public import proofs.«01_k».proof.Defs
public import proofs.«01_k».proof.Proof.Gen.ActDxIdeal.Value
public import proofs.«01_k».proof.Proof.Gen.ActDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import proofs.«01_k».proof.Proof.Att.Finite
public import proofs.«01_k».proof.Proof.Ffn.Gate

@[expose] public section

set_option maxRecDepth 16384

noncomputable section

open Idealize.ShloMosaic Idealize.ShloMosaic.TcCoe Idealize.ShloMosaic.Pipeline Idealize.SL.Sem

namespace Cert.ActDxIdeal.Ffn

open Cert.ActDxIdeal Cert.ActDxIdeal.Gen

open Cert.Ffn

/-- The gate's and the linear half's column of `x`. -/
def gate (x : Fin 5632) : Fin 11264 := ⟨x.val, by omega⟩
def lin (x : Fin 5632) : Fin 11264 := ⟨5632 + x.val, by omega⟩

/-- The two halves of the gradient, at a row and a column. -/
def dGate (a : S4096x11264.Idx → EReal) (d : S4096x5632.Idx → EReal) (t : Fin 4096) (x : Fin 5632) : EReal :=
  d (ix2 t x) * a (ix2 t (lin x)) * sigma (a (ix2 t (gate x))) * (one + a (ix2 t (gate x)) * (one - sigma (a (ix2 t (gate x)))))
def dLin (a : S4096x11264.Idx → EReal) (d : S4096x5632.Idx → EReal) (t : Fin 4096) (x : Fin 5632) : EReal :=
  d (ix2 t x) * a (ix2 t (gate x)) * sigma (a (ix2 t (gate x)))

/-- Both, side by side. -/
def both (a : S4096x11264.Idx → EReal) (d : S4096x5632.Idx → EReal) : S4096x11264.Idx → EReal := fun y =>
  if h : (y 1).val < 5632 then dGate a d (y 0) ⟨(y 1).val, h⟩
  else dLin a d (y 0) ⟨(y 1).val - 5632, by have := (y 1).isLt; change (y 1).val < 11264 at this; omega⟩

theorem both_gate (a : S4096x11264.Idx → EReal) (d : S4096x5632.Idx → EReal) (t : Fin 4096) (x : Fin 5632) :
    both a d (ix2 t (gate x)) = dGate a d t x := dif_pos x.isLt

theorem both_lin (a : S4096x11264.Idx → EReal) (d : S4096x5632.Idx → EReal) (t : Fin 4096) (x : Fin 5632) :
    both a d (ix2 t (lin x)) = dLin a d t x := by
  refine (dif_neg (show ¬5632 + x.val < 5632 by omega)).trans ?_
  exact congrArg (dLin a d t) (Fin.ext (Nat.add_sub_cancel_left 5632 x.val))

/-- A column is one of the gate's or one of the linear half's. -/
theorem column (y : Fin 11264) : (∃ x, y = gate x) ∨ ∃ x, y = lin x := by
  by_cases h : y.val < 5632
  · exact Or.inl ⟨⟨y.val, h⟩, rfl⟩
  · exact Or.inr ⟨⟨y.val - 5632, by omega⟩, Fin.ext (show y.val = 5632 + (y.val - 5632) by omega)⟩

theorem idx : ∀ t : Fin cfg0.N, win0_0.index t = ![t.val, 0] ∧ win0_1.index t = ![t.val, 1] ∧ win0_2.index t = ![t.val, 0]
    ∧ win0_3.index t = ![t.val, 0] :=
  (by decide +kernel : ∀ t : Fin grid0.N, _)

/-- The rows of a point. -/
def row (t : Fin cfg0.N) (r : Fin 128) : Fin 4096 := ⟨t.val * 128 + r.val, by have := Nat.lt_of_lt_of_eq t.isLt N_0; omega⟩

theorem out_eq (x0 x1 : Vec Ideal S128x5632 .bf16) (x2 : Vec Ideal S128x5632 .f32) : out0_3 x0 x1 x2 = k0_pay1 x0 x1 x2 := by
  unfold out0_3
  rw [View.canon_unit_zero, View.ld_unit_zero, View.ld_unit_zero, View.ld_unit_zero]
  all_goals exact funext fun a => by fin_cases a <;> rfl

theorem part_gate (x0 x1 : Vec Ideal S128x5632 .bf16) (x2 : Vec Ideal S128x5632 .f32) (r : Fin 128) (x : Fin 5632) :
    k0_pay1 x0 x1 x2 (ix2 r (gate x))
      = (x2 (ix2 r x) : EReal) * x1 (ix2 r x) * sigma (x0 (ix2 r x)) * (one + x0 (ix2 r x) * (one - sigma (x0 (ix2 r x)))) := by
  unfold sigma
  rw [← zero_sub, ← zero_eq]
  pointwise [k0_pay1, gate]

theorem part_lin (x0 x1 : Vec Ideal S128x5632 .bf16) (x2 : Vec Ideal S128x5632 .f32) (r : Fin 128) (x : Fin 5632) :
    k0_pay1 x0 x1 x2 (ix2 r (lin x)) = (x2 (ix2 r x) : EReal) * x0 (ix2 r x) * sigma (x0 (ix2 r x)) := by
  unfold sigma
  rw [← zero_sub, ← zero_eq]
  pointwise [k0_pay1, lin]

variable (m : (ℓ : Loc nD τ sig) → Buf (Elt Ideal) ℓ) (c : Dev nD)

theorem blk_g (t : Fin cfg0.N) (r : Fin 128) (x : Fin 5632) :
    iblk m c 0 t (ix2 r x) = m ((c : Thread nD τ).loc main_arg0) (ix2 (row t r) (gate x)) := by
  have e := (idx t).1
  blk_ext [iblk, V, e, row, gate]

theorem blk_u (t : Fin cfg0.N) (r : Fin 128) (x : Fin 5632) :
    iblk m c 1 t (ix2 r x) = m ((c : Thread nD τ).loc main_arg0) (ix2 (row t r) (lin x)) := by
  have e := (idx t).2.1
  blk_ext [iblk, V, e, row, lin]

theorem blk_d (t : Fin cfg0.N) (r : Fin 128) (x : Fin 5632) :
    iblk m c 2 t (ix2 r x) = m ((c : Thread nD τ).loc main_arg1) (ix2 (row t r) x) := by
  have e := (idx t).2.2.1
  blk_ext [iblk, V, e, row]

/-- The array the kernel leaves. -/
def out : S4096x11264.Idx → EReal := both (m ((c : Thread nD τ).loc main_arg0)) (m ((c : Thread nD τ).loc main_arg1))

theorem left_at (t : Fin cfg0.N) (r : Fin 128) (y : Fin 11264) :
    out0_3 (iblk m c 0 t) (iblk m c 1 t) (iblk m c 2 t) (ix2 r y) = out m c (ix2 (row t r) y) := by
  rw [out_eq (iblk m c 0 t) (iblk m c 1 t) (iblk m c 2 t)]
  unfold out
  obtain ⟨x, rfl⟩ | ⟨x, rfl⟩ := column y
  · refine (part_gate (iblk m c 0 t) (iblk m c 1 t) (iblk m c 2 t) r x).trans (Eq.trans ?_ (both_gate _ _ (row t r) x).symm)
    unfold dGate
    rw [blk_g, blk_u, blk_d]
  · refine (part_lin (iblk m c 0 t) (iblk m c 1 t) (iblk m c 2 t) r x).trans (Eq.trans ?_ (both_lin _ _ (row t r) x).symm)
    unfold dLin
    rw [blk_g, blk_d]

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r : Fin 128) (x : Fin 11264), y = ix2 r x := ⟨y 0, y 1, eq_ix2 y⟩
  have eb : ((cfg0.win 3).blk t).view.emb (ix2 r x) = ix2 (row t r) x := by blk_ext [e, row]
  rw [eb]
  have L := left_at m c t r x
  generalize out0_3 (iblk m c 0 t) (iblk m c 1 t) (iblk m c 2 t) = f at L ⊢
  exact L

end Cert.ActDxIdeal.Ffn

namespace Cert.ActDxRefIdeal.Ffn

open Cert.ActDxRefIdeal Cert.ActDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ActDxRefIdeal.Ffn

namespace Cert.Pre_finite_gate.Ffn

open Cert.Pre_finite_gate Cert.Pre_finite_inputs.Att

instance facts : Facts where
  bcast_S_S4096x11264 := by decide
  concatenates_S4096x5632_S4096x5632_S4096x11264_d1 := by decide

theorem pinf16 : Ideal.ofBits .bf16 0x7F80#16 = (⊤ : EReal) := by
  change Ideal.ieee 8 7 0x7F80#16 = ⊤
  unfold Ideal.ieee
  dsimp only
  rw [if_pos (by decide), if_pos (by decide), if_neg (by decide)]

theorem real_bf16 (x : Ideal .bf16) (h : FloatOps.absf x < Ideal.ofBits .bf16 0x7F80#16) : ((x : EReal).toReal : EReal) = x := by
  refine real_of x ?_
  rw [pinf]
  rw [pinf16] at h
  exact h

/-- The arguments' elements where the precondition holds. -/
theorem real_gate (a : FVec Ideal S4096x11264 .bf16) (d : FVec Ideal S4096x5632 .f32) (e : fn a d = fun _ => 1#1) (t : Fin 4096) (x : Fin 5632) :
    ((a (ix2 t (Cert.ActDxIdeal.Ffn.gate x)) : EReal).toReal : EReal) = a (ix2 t (Cert.ActDxIdeal.Ffn.gate x))
      ∧ ((d (ix2 t x) : EReal).toReal : EReal) = d (ix2 t x) := by
  have e := congrFun e (ix2 t (Cert.ActDxIdeal.Ffn.gate x))
  pointwise [fn, Cert.ActDxIdeal.Ffn.gate] at e
  obtain ⟨e0, e1⟩ := both _ _ e
  exact ⟨real_bf16 _ (holds_of _ e0), real_of _ (holds_of _ e1)⟩

theorem real_lin (a : FVec Ideal S4096x11264 .bf16) (d : FVec Ideal S4096x5632 .f32) (e : fn a d = fun _ => 1#1) (t : Fin 4096) (x : Fin 5632) :
    ((a (ix2 t (Cert.ActDxIdeal.Ffn.lin x)) : EReal).toReal : EReal) = a (ix2 t (Cert.ActDxIdeal.Ffn.lin x)) := by
  have e := congrFun e (ix2 t (Cert.ActDxIdeal.Ffn.lin x))
  pointwise [fn, Cert.ActDxIdeal.Ffn.lin] at e
  exact real_bf16 _ (holds_of _ (both _ _ e).1)

end Cert.Pre_finite_gate.Ffn

open Cert.ActDxIdeal.Ffn Cert.Ffn in
/-- The gate's half by the product rule. -/
theorem Cert.ActDxIdeal.Ffn.dGate_eq (a : Cert.ActDxIdeal.S4096x11264.Idx → EReal) (d : Cert.ActDxIdeal.S4096x5632.Idx → EReal) (t : Fin 4096) (x : Fin 5632)
    (hd : ((d (ix2 t x)).toReal : EReal) = d (ix2 t x)) (hg : ((a (ix2 t (gate x))).toReal : EReal) = a (ix2 t (gate x)))
    (hu : ((a (ix2 t (lin x))).toReal : EReal) = a (ix2 t (lin x))) :
    dGate a d t x = d (ix2 t x) * a (ix2 t (lin x)) * sigma (a (ix2 t (gate x)))
      + a (ix2 t (gate x)) * (d (ix2 t x) * a (ix2 t (lin x))) * (sigma (a (ix2 t (gate x))) * (one - sigma (a (ix2 t (gate x))))) := by
  unfold dGate
  rw [← hd, ← hg, ← hu]
  exact derivative _ _ _

theorem Cert.ActDxIdeal.Ffn.algebraic : Cert.algebraic_ActDxIdeal_ActDxRefIdeal_pre_finite_gate := by
  intro m g m' g' hpre hagree
  refine ⟨fun c => Cert.ActDxIdeal.Ffn.out m c, ?_, ?_⟩
  · refine θ_run_mono (Cert.ActDxIdeal.Value.run_blocks m g) fun r h c => ?_
    exact ⟨(h c).1.trans (Cert.ActDxIdeal.Ffn.arr m c), (h c).2⟩
  · refine θ_run_mono (Cert.ActDxRefIdeal.Value.run m' g') fun r h c => ?_
    refine ⟨(h c).1.trans ?_, (h c).2⟩
    obtain ⟨e0, e1⟩ := hagree c
    rw [e0, e1]
    have hp := hpre c
    beta_reduce
    unfold Cert.ActDxIdeal.Ffn.out
    generalize m ((c.tc : Thread Cert.ActDxIdeal.nD Cert.ActDxIdeal.τ).loc Cert.ActDxIdeal.main_arg0) = a at hp ⊢
    generalize m ((c.tc : Thread Cert.ActDxIdeal.nD Cert.ActDxIdeal.τ).loc Cert.ActDxIdeal.main_arg1) = d at hp ⊢
    funext y
    obtain ⟨t, z, rfl⟩ : ∃ (t : Fin 4096) (z : Fin 11264), y = ix2 t z := ⟨y 0, y 1, eq_ix2 y⟩
    obtain ⟨x, rfl⟩ | ⟨x, rfl⟩ := Cert.ActDxIdeal.Ffn.column z
    · have R := Cert.Pre_finite_gate.Ffn.real_gate a d hp t x
      have L := Cert.Pre_finite_gate.Ffn.real_lin a d hp t x
      refine Eq.trans ?_ ((Cert.ActDxIdeal.Ffn.both_gate a d t x).trans (Cert.ActDxIdeal.Ffn.dGate_eq a d t x R.2 R.1 L)).symm
      unfold Cert.Ffn.sigma
      pointwise [Cert.ActDxIdeal.Ffn.gate, Cert.ActDxIdeal.Ffn.lin]
    · refine Eq.trans ?_ (Cert.ActDxIdeal.Ffn.both_lin a d t x).symm
      unfold Cert.ActDxIdeal.Ffn.dLin Cert.Ffn.sigma
      pointwise [Cert.ActDxIdeal.Ffn.gate, Cert.ActDxIdeal.Ffn.lin]
      rw [mul_comm, ← mul_assoc]

end
-- ==== Proof.Mix.Row.lean ====
/- The norm of a row of 2048 numbers and its two gradients, as the kernel and the reference both compute them. -/
module

public import Idealize.ShloMosaic.PureOps.Ideal

@[expose] public section

noncomputable section

open Idealize.ShloMosaic

namespace Cert.Mix

/-- The mean of the row's squares, plus 1e-6. -/
def spread (g : Fin 2048 → EReal) : EReal :=
  Ideal.div (∑ k, g k * g k) (Ideal.ofBits .f32 0x45000000#32) + Ideal.ofBits .f32 0x358637BD#32

/-- The row over the root of that, with a weight. -/
def normed (g w : Fin 2048 → EReal) (x : Fin 2048) : EReal := g x * Ideal.rsqrt (spread g) * w x

/-- What a row gives to the gradient by the weight. -/
def byWeight (g d : Fin 2048 → EReal) (x : Fin 2048) : EReal := g x * Ideal.rsqrt (spread g) * d x

/-- The gradient by the sum of the row's squares. -/
def bySpread (g d w : Fin 2048 → EReal) : EReal :=
  Ideal.div ((∑ k, g k * (d k * w k)) * (Ideal.ofBits .f32 0xBF000000#32 * Ideal.div (Ideal.rsqrt (spread g)) (spread g)))
    (Ideal.ofBits .f32 0x45000000#32)

/-- The gradient by the row, with what reaches the row beside the norm. -/
def byRow (g d w e : Fin 2048 → EReal) (x : Fin 2048) : EReal :=
  d x * w x * Ideal.rsqrt (spread g) + g x * bySpread g d w + bySpread g d w * g x + e x

end Cert.Mix

end
-- ==== Proof.Mix.Norm.lean ====
/- The norm of the rows, 256 rows per grid point. -/
module

public import proofs.«01_k».proof.Defs
public import proofs.«01_k».proof.Proof.Gen.NormIdeal.Value
public import proofs.«01_k».proof.Proof.Gen.NormRefIdeal.Run
public import proofs.«01_k».proof.Proof.Mix.Row
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.NormIdeal.Mix

open Cert.NormIdeal Cert.NormIdeal.Gen Cert.Mix

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S256x2048 .f32) (x1 : Vec Ideal S1x2048 .f32) (r : Fin 256) (x : Fin 2048) :
    out0_2 x0 x1 (ix2 r x) = normed (fun k => x0 (ix2 r k)) (fun k => x1 (ix2 0 k)) x := by
  unfold out0_2
  rw [View.canon_unit_zero, View.ld_unit_zero, View.ld_unit_zero]
  · unfold normed spread
    pointwise [k0_pay1]
  all_goals exact funext fun a => by fin_cases a <;> rfl

/-- The rows of a point. -/
def row (t : Fin cfg0.N) (r : Fin 256) : Fin 4096 := ⟨t.val * 256 + r.val, by have := Nat.lt_of_lt_of_eq t.isLt N_0; omega⟩

variable (m : (ℓ : Loc nD τ sig) → Buf (Elt Ideal) ℓ) (c : Dev nD)

theorem blk_h (t : Fin cfg0.N) (r : Fin 256) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) : iblk m c 1 t (ix2 0 k) = m ((c : Thread nD τ).loc main_arg1) (ix2 0 k) := by
  have e := (idx t).2.1
  blk_ext [iblk, V, e]

/-- All rows' norms. -/
def rows (h : S4096x2048.Idx → EReal) (w : S1x2048.Idx → EReal) : S4096x2048.Idx → EReal :=
  fun y => normed (fun k => h (ix2 (y 0) k)) (fun k => w (ix2 0 k)) (y 1)

/-- The array the kernel leaves. -/
def out : S4096x2048.Idx → EReal := rows (m ((c : Thread nD τ).loc main_arg0)) (m ((c : Thread nD τ).loc main_arg1))

theorem left_at (t : Fin cfg0.N) (r : Fin 256) (x : Fin 2048) :
    out0_2 (iblk m c 0 t) (iblk m c 1 t) (ix2 r x) = out m c (ix2 (row t r) x) := by
  refine (part (iblk m c 0 t) (iblk m c 1 t) r x).trans ?_
  exact congrArg₂ (fun g w => normed g w x) (funext fun k => blk_h m c t r k) (funext fun k => blk_w m c t k)

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 256) (x : Fin 2048), y = ix2 r x := ⟨y 0, y 1, eq_ix2 y⟩
  have eb : ((cfg0.win 2).blk t).view.emb (ix2 r x) = ix2 (row t r) x := by blk_ext [e, row]
  rw [eb]
  have L := left_at m c t r x
  generalize out0_2 (iblk m c 0 t) (iblk m c 1 t) = f at L ⊢
  exact L

end Cert.NormIdeal.Mix

namespace Cert.NormRefIdeal.Mix

open Cert.NormRefIdeal Cert.NormRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.NormRefIdeal.Mix

theorem Cert.NormIdeal.Mix.algebraic : Cert.algebraic_NormIdeal_NormRefIdeal := by
  pair_intro
  · run_from Cert.NormIdeal.Value.run_blocks m g
  · run_from Cert.NormRefIdeal.Value.run m' g'
    rw [Cert.NormIdeal.Mix.arr m c]
    funext y
    unfold Cert.NormIdeal.Mix.out Cert.NormIdeal.Mix.rows Cert.Mix.normed Cert.Mix.spread
    pointwise

end
-- ==== Proof.Mix.NormDx.lean ====
/- The norm's gradients by the rows, 256 rows per grid point, and by the weight, summed over the grid points in a window that
   stays in place. -/
module

public import proofs.«01_k».proof.Defs
public import proofs.«01_k».proof.Proof.Gen.NormDxIdeal.Value
public import proofs.«01_k».proof.Proof.Gen.NormDxRefIdeal.Run
public import proofs.«01_k».proof.Proof.Mix.Row
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.NormDxIdeal.Mix

open Cert.NormDxIdeal Cert.NormDxIdeal.Gen Cert.Mix

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem row_at (x0 x1 x2 : Vec Ideal S256x2048 .f32) (x3 : Vec Ideal S1x2048 .f32) (r : Fin 256) (x : Fin 2048) :
    k0_pay6 x0 x1 x2 x3 (ix2 r x)
      = byRow (fun k => x0 (ix2 r k)) (fun k => x1 (ix2 r k)) (fun k => x3 (ix2 0 k)) (fun k => x2 (ix2 r k)) x := by
  unfold byRow bySpread spread
  pointwise [k0_pay6, k0_pay4, k0_pay3]
  simp only [Finset.univ_unique, Finset.sum_singleton]

theorem weight_at (x0 x1 : Vec Ideal S256x2048 .f32) (x : Fin 2048) :
    k0_pay5 x0 x1 (ix2 0 x) = ∑ r : Fin 256, byWeight (fun k => x0 (ix2 r k)) (fun k => x1 (ix2 r k)) x := by
  unfold byWeight spread
  pointwise [k0_pay5, k0_pay4, k0_pay3]

/-- The rows of a point. -/
def row (t : Fin cfg0.N) (r : Fin 256) : Fin 4096 := ⟨t.val * 256 + r.val, by have := Nat.lt_of_lt_of_eq t.isLt N_0; omega⟩

variable (m : (ℓ : Loc nD τ sig) → Buf (Elt Ideal) ℓ) (c : Dev nD)

theorem blk_h (t : Fin cfg0.N) (r : Fin 256) (k : Fin 2048) : iblk m c 0 t (ix2 r k) = m ((c : Thread nD τ).loc main_arg0) (ix2 (row t r) k) := by
  have e := (idx t).1
  blk_ext [iblk, V, e, row]

theorem blk_d (t : Fin cfg0.N) (r : Fin 256) (k : Fin 2048) : iblk m c 1 t (ix2 r k) = m ((c : Thread nD τ).loc main_arg2) (ix2 (row t r) k) := by
  have e := (idx t).2.1
  blk_ext [iblk, V, e, row]

theorem blk_e (t : Fin cfg0.N) (r : Fin 256) (k : Fin 2048) : iblk m c 2 t (ix2 r k) = m ((c : Thread nD τ).loc main_arg3) (ix2 (row t r) k) := by
  have e := (idx t).2.2.1
  blk_ext [iblk, V, e, row]

theorem blk_w (t : Fin cfg0.N) (k : Fin 2048) : iblk m c 3 t (ix2 0 k) = m ((c : Thread nD τ).loc main_arg1) (ix2 0 k) := by
  have e := (idx t).2.2.2.1
  blk_ext [iblk, V, e]

/-- The gradients of all rows, and of the weight. -/
def rowsOf (h d e : S4096x2048.Idx → EReal) (w : S1x2048.Idx → EReal) : S4096x2048.Idx → EReal :=
  fun y => byRow (fun k => h (ix2 (y 0) k)) (fun k => d (ix2 (y 0) k)) (fun k => w (ix2 0 k)) (fun k => e (ix2 (y 0) k)) (y 1)
def weightOf (h d : S4096x2048.Idx → EReal) : S1x2048.Idx → EReal :=
  fun y => ∑ t : Fin 4096, byWeight (fun k => h (ix2 t k)) (fun k => d (ix2 t k)) (y 1)

/-- The two arrays the kernel leaves. -/
def rows : S4096x2048.Idx → EReal := rowsOf (m ((c : Thread nD τ).loc main_arg0)) (m ((c : Thread nD τ).loc main_arg2))
  (m ((c : Thread nD τ).loc main_arg3)) (m ((c : Thread nD τ).loc main_arg1))
def weight : S1x2048.Idx → EReal := weightOf (m ((c : Thread nD τ).loc main_arg0)) (m ((c : Thread nD τ).loc main_arg2))

/-- What a point adds to the weight's gradient. -/
def partOf (h d : S4096x2048.Idx → EReal) (t : Fin cfg0.N) (j : S1x2048.Idx) : EReal :=
  ∑ r : Fin 256, byWeight (fun k => h (ix2 (row t r) k)) (fun k => d (ix2 (row t r) k)) (j 1)
def part (t : Fin cfg0.N) (j : S1x2048.Idx) : EReal :=
  partOf (m ((c : Thread nD τ).loc main_arg0)) (m ((c : Thread nD τ).loc main_arg2)) t j

theorem part_at (t : Fin cfg0.N) (j : S1x2048.Idx) : k0_pay5 (iblk m c 0 t) (iblk m c 1 t) j = part m c t j := by
  obtain ⟨z, x, rfl⟩ : ∃ (z : Fin 1) (x : Fin 2048), j = ix2 z x := ⟨j 0, j 1, eq_ix2 j⟩
  obtain rfl : z = 0 := Subsingleton.elim _ _
  refine (weight_at (iblk m c 0 t) (iblk m c 1 t) x).trans ?_
  unfold part partOf
  refine Finset.sum_congr rfl fun r _ => ?_
  exact congrArg₂ (fun g d => byWeight g d x) (funext fun k => blk_h m c t r k) (funext fun k => blk_d m c t r k)

theorem first (t : Fin cfg0.N) (h : t.val % 16 = 0) (j : S1x2048.Idx) :
    (outsAt0 m c t.val t.isLt).2 j = 0 + part m c t j := by
  rw [outsAt0_A m c t h]
  frame_out
  rw [← part_at m c t j]
  pointwise [k0_pay2, k0_pay1]

theorem next (t : Fin cfg0.N) (h : ¬t.val % 16 = 0) (j : S1x2048.Idx) :
    (outsAt0 m c t.val t.isLt).2 j = (outsAt0 m c (t.val - 1) (Nat.lt_of_le_of_lt (Nat.sub_le _ _) t.isLt)).2 j + part m c t j := by
  rw [outsAt0_B m c t h]
  frame_out
  rw [← part_at m c t j]
  pointwise [k0_pay2]

theorem weight_left (t : Fin cfg0.N) (h : t.val % 16 = 15) (x : Fin 2048) :
    (outsAt0 m c t.val t.isLt).2 (ix2 0 x) = weight m c (ix2 0 x) := by
  rw [eq_sum_fin_of_reset_step_apply_of_flush (fun n hn => (outsAt0 m c n hn).2) 16 (fun _ => (0 : EReal)) (part m c)
    (first m c) (next m c) t h (ix2 0 x), zero_add]
  unfold part partOf weight weightOf
  refine Eq.trans ?_ (Fin.sum_mul_add_fin 16 256 _)
  have ht := Nat.lt_of_lt_of_eq t.isLt N_0
  have hs (s : Fin 16) : 16 * (t.val / 16) + s.val = s.val := by omega
  refine Finset.sum_congr rfl fun s _ => Finset.sum_congr rfl fun r _ => ?_
  simp only [row, hs]

theorem rows_left (t : Fin cfg0.N) (r : Fin 256) (x : Fin 2048) :
    (outsAt0 m c t.val t.isLt).1 (ix2 r x) = rows m c (ix2 (row t r) x) := by
  have E : (outsAt0 m c t.val t.isLt).1 (ix2 r x) = k0_pay6 (iblk m c 0 t) (iblk m c 1 t) (iblk m c 2 t) (iblk m c 3 t) (ix2 r x) := by
    by_cases h : t.val % 16 = 0
    · rw [outsAt0_A m c t h]
      frame_out
    · rw [outsAt0_B m c t h]
      frame_out
  refine E.trans ((row_at (iblk m c 0 t) (iblk m c 1 t) (iblk m c 2 t) (iblk m c 3 t) r x).trans ?_)
  rw [funext fun k => blk_h m c t r k, funext fun k => blk_d m c t r k, funext fun k => blk_e m c t r k, funext fun k => blk_w m c t k]
  rfl

theorem arr_rows : (dats m 0 c).arrAt 4 cfg0.N = rows m c := by
  refine (dats m 0 c).arrAt_eq_of_covers 4 (rows m c) (by decide +kernel) fun t hf y => ?_
  have e := (idx t).2.2.2.2.1
  rw [after0_4]
  obtain ⟨r, x, rfl⟩ : ∃ (r : Fin 256) (x : Fin 2048), y = ix2 r x := ⟨y 0, y 1, eq_ix2 y⟩
  have eb : ((cfg0.win 4).blk t).view.emb (ix2 r x) = ix2 (row t r) x := by blk_ext [e, row]
  rw [eb]
  have L := rows_left m c t r x
  generalize (outsAt0 m c t.val t.isLt).1 = f at L ⊢
  exact L

theorem arr_weight : (dats m 0 c).arrAt 5 cfg0.N = weight m c := by
  refine (dats m 0 c).arrAt_eq_of_covers 5 (weight m c) (by decide +kernel) fun t hf y => ?_
  have e := (idx t).2.2.2.2.2
  rw [after0_5]
  obtain ⟨z, x, rfl⟩ : ∃ (z : Fin 1) (x : Fin 2048), y = ix2 z x := ⟨y 0, y 1, eq_ix2 y⟩
  obtain rfl : z = 0 := Subsingleton.elim _ _
  have eb : ((cfg0.win 5).blk t).view.emb (ix2 0 x) = ix2 0 x := by blk_ext [e]
  rw [eb]
  have L := weight_left m c t ((flush0_5 t).mp hf) x
  generalize (outsAt0 m c t.val t.isLt).2 = f at L ⊢
  exact L

end Cert.NormDxIdeal.Mix

namespace Cert.NormDxRefIdeal.Mix

open Cert.NormDxRefIdeal Cert.NormDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (Value.run m ρ) fun r h => ⟨fun c => (h c).2.2, sem_eq_zero_of_no_sems (by decide) _⟩

end Cert.NormDxRefIdeal.Mix

theorem Cert.NormDxIdeal.Mix.algebraic : Cert.algebraic_NormDxIdeal_NormDxRefIdeal := by
  intro m g m' g' hpre hagree
  refine ⟨fun c => Cert.NormDxIdeal.Mix.rows m c, fun c => Cert.NormDxIdeal.Mix.weight m c, ?_, ?_⟩
  · refine θ_run_mono (Cert.NormDxIdeal.Value.run_blocks m g) fun r h c => ?_
    exact ⟨(h c).1.trans (Cert.NormDxIdeal.Mix.arr_rows m c), (h c).2.1.trans (Cert.NormDxIdeal.Mix.arr_weight m c), (h c).2.2⟩
  · refine θ_run_mono (Cert.NormDxRefIdeal.Value.run m' g') fun r h c => ?_
    refine ⟨(h c).1.trans ?_, (h c).2.1.trans ?_, (h c).2.2⟩
    all_goals clear h
    all_goals obtain ⟨e0, e1, e2, e3⟩ := hagree c
    · rw [e0, e1, e2, e3]
      beta_reduce
      unfold Cert.NormDxIdeal.Mix.rows
      generalize m ((c.tc : Thread Cert.NormDxIdeal.nD Cert.NormDxIdeal.τ).loc Cert.NormDxIdeal.main_arg0) = x
      generalize m ((c.tc : Thread Cert.NormDxIdeal.nD Cert.NormDxIdeal.τ).loc Cert.NormDxIdeal.main_arg1) = w
      generalize m ((c.tc : Thread Cert.NormDxIdeal.nD Cert.NormDxIdeal.τ).loc Cert.NormDxIdeal.main_arg2) = d
      generalize m ((c.tc : Thread Cert.NormDxIdeal.nD Cert.NormDxIdeal.τ).loc Cert.NormDxIdeal.main_arg3) = e
      funext y
      unfold Cert.NormDxIdeal.Mix.rowsOf Cert.Mix.byRow Cert.Mix.bySpread Cert.Mix.spread
      pointwise
      simp only [Finset.univ_unique, Finset.sum_singleton]
    · rw [e0, e2]
      beta_reduce
      unfold Cert.NormDxIdeal.Mix.weight
      generalize m ((c.tc : Thread Cert.NormDxIdeal.nD Cert.NormDxIdeal.τ).loc Cert.NormDxIdeal.main_arg0) = x
      generalize m ((c.tc : Thread Cert.NormDxIdeal.nD Cert.NormDxIdeal.τ).loc Cert.NormDxIdeal.main_arg2) = d
      funext y
      obtain ⟨z, k, rfl⟩ : ∃ (z : Fin 1) (k : Fin 2048), y = ix2 z k := ⟨y 0, y 1, eq_ix2 y⟩
      unfold Cert.NormDxIdeal.Mix.weightOf Cert.Mix.byWeight Cert.Mix.spread
      pointwise

end
-- ==== Proof.Mix.Proj.lean ====
/- A projection: `n · w`, one block of the result per grid point. -/
module

public import proofs.«01_k».proof.Defs
public import proofs.«01_k».proof.Proof.Gen.ProjIdeal.Value
public import proofs.«01_k».proof.Proof.Gen.ProjRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ProjIdeal.Mix

open Cert.ProjIdeal Cert.ProjIdeal.Gen

/-- The whole product. -/
def product (d : S4096x2048.Idx → EReal) (w : S2048x2048.Idx → EReal) : S4096x2048.Idx → EReal :=
  fun y => ∑ k : Fin 2048, d (ix2 (y 0) k) * w (ix2 k (y 1))

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem part (x0 : Vec Ideal S1024x2048 .bf16) (x1 : Vec Ideal S2048x1024 .bf16) (r : Fin 1024) (x : Fin 1024) :
    out0_2 x0 x1 (ix2 r x) = ∑ k : Fin 2048, x0 (ix2 r k) * x1 (ix2 k x) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 2 * 1024 + r.val, by have := Nat.lt_of_lt_of_eq t.isLt N_0; omega⟩
def col (t : Fin cfg0.N) (x : Fin 1024) : Fin 2048 := ⟨t.val % 2 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) (x : Fin 1024) : iblk m c 1 t (ix2 k x) = m ((c : Thread nD τ).loc main_arg1) (ix2 k (col t x)) := by
  have e := (idx t).2.1
  blk_ext [iblk, V, e, col]

/-- The array the kernel leaves is the whole product. -/
def out : S4096x2048.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.ProjIdeal.Mix

namespace Cert.ProjRefIdeal.Mix

open Cert.ProjRefIdeal Cert.ProjRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ProjRefIdeal.Mix

theorem Cert.ProjIdeal.Mix.algebraic : Cert.algebraic_ProjIdeal_ProjRefIdeal := by
  pair_intro
  · run_from Cert.ProjIdeal.Value.run_blocks m g
  · run_from Cert.ProjRefIdeal.Value.run m' g'
    rw [Cert.ProjIdeal.Mix.arr m c]
    funext y
    unfold Cert.ProjIdeal.Mix.out Cert.ProjIdeal.Mix.product
    pointwise

end
-- ==== Proof.Mix.ProjDw.lean ====
/- The gradient by a projection's weight: `nᵀ · dq`, each block of the result summed over two blocks of tokens
   in a scratch and written out in `bf16` at the second. -/
module

public import proofs.«01_k».proof.Defs
public import proofs.«01_k».proof.Proof.Gen.ProjDwIdeal.Value
public import proofs.«01_k».proof.Proof.Gen.ProjDwRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.ProjDwIdeal.Mix

open Cert.ProjDwIdeal Cert.ProjDwIdeal.Gen

/-- The whole product of two arrays that share their first axis. -/
def product (x : S4096x2048.Idx → EReal) (d : S4096x2048.Idx → EReal) : S2048x2048.Idx → EReal :=
  fun y => ∑ k : Fin 4096, x (ix2 k (y 0)) * d (ix2 k (y 1))

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The tokens, the rows and the columns of a point. -/
def tok (t : Fin cfg0.N) (k : Fin 2048) : Fin 4096 := ⟨t.val % 2 * 2048 + k.val, by omega⟩
def row (t : Fin cfg0.N) (r : Fin 1024) : Fin 2048 := ⟨t.val / 4 * 1024 + r.val, by have := Nat.lt_of_lt_of_eq t.isLt N_0; omega⟩
def col (t : Fin cfg0.N) (x : Fin 1024) : Fin 2048 := ⟨t.val / 2 % 2 * 1024 + x.val, by omega⟩

theorem dot_at (x0 : Vec Ideal S2048x1024 .bf16) (x1 : Vec Ideal S2048x1024 .bf16) (r : Fin 1024) (x : Fin 1024) :
    k0_pay1 x0 x1 (ix2 r x) = ∑ k : Fin 2048, x0 (ix2 k r) * x1 (ix2 k x) := by
  pointwise [k0_pay1]

variable (m : (ℓ : Loc nD τ sig) → Buf (Elt Ideal) ℓ) (c : Dev nD)

theorem blk_x (t : Fin cfg0.N) (k : Fin 2048) (r : Fin 1024) : iblk m c 0 t (ix2 k r) = m ((c : Thread nD τ).loc main_arg0) (ix2 (tok t k) (row t r)) := by
  have e := (idx t).1
  blk_ext [iblk, V, e, tok, row]

theorem blk_d (t : Fin cfg0.N) (k : Fin 2048) (x : Fin 1024) : iblk m c 1 t (ix2 k x) = m ((c : Thread nD τ).loc main_arg1) (ix2 (tok t k) (col t x)) := by
  have e := (idx t).2.1
  blk_ext [iblk, V, e, tok, col]

/-- What a point adds to its block. -/
def partOf (x : S4096x2048.Idx → EReal) (d : S4096x2048.Idx → EReal) (t : Fin cfg0.N) (j : S1024x1024.Idx) : EReal :=
  ∑ k : Fin 2048, x (ix2 (tok t k) (row t (j 0))) * d (ix2 (tok t k) (col t (j 1)))

def part (t : Fin cfg0.N) (j : S1024x1024.Idx) : EReal :=
  partOf (m ((c : Thread nD τ).loc main_arg0)) (m ((c : Thread nD τ).loc main_arg1)) t j

theorem part_at (t : Fin cfg0.N) (j : S1024x1024.Idx) : k0_pay1 (iblk m c 0 t) (iblk m c 1 t) j = part m c t j := by
  obtain ⟨r, x, rfl⟩ : ∃ (r : Fin 1024) (x : Fin 1024), j = ix2 r x := ⟨j 0, j 1, eq_ix2 j⟩
  refine (dot_at (iblk m c 0 t) (iblk m c 1 t) r x).trans ?_
  unfold part partOf
  refine Finset.sum_congr rfl fun k _ => ?_
  rw [blk_x, blk_d]
  rfl

theorem first (t : Fin cfg0.N) (h : t.val % 2 = 0) (j : S1024x1024.Idx) :
    (outsAt0 m c t.val t.isLt).2 j = 0 + part m c t j := by
  rw [outsAt0_A m c t h (by omega) (by omega)]
  frame_out
  rw [zero_add, ← part_at m c t j]
  pointwise [k0_pay2]

theorem next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + part m c t j := by
  rw [outsAt0_B m c t h (by omega) (by omega)]
  frame_out
  rw [← part_at m c t j]
  pointwise [k0_pay3]
  rw [read_unread_whole]

theorem written (t : Fin cfg0.N) (h : t.val % 2 = 1) (j : S1024x1024.Idx) :
    (outsAt0 m c t.val t.isLt).1 j = (outsAt0 m c t.val t.isLt).2 j := by
  rw [outsAt0_B m c t (by omega) h h]
  frame_out
  pointwise [k0_pay4]

/-- The array the kernel leaves is the whole product. -/
def out : S2048x2048.Idx → EReal := product (m ((c : Thread nD τ).loc main_arg0)) (m ((c : Thread nD τ).loc main_arg1))

theorem left_at (t : Fin cfg0.N) (h : t.val % 2 = 1) (r : Fin 1024) (x : Fin 1024) :
    (outsAt0 m c t.val t.isLt).1 (ix2 r x) = out m c (ix2 (row t r) (col t x)) := by
  rw [written m c t h, eq_sum_fin_of_reset_step_apply_of_flush (fun n hn => (outsAt0 m c n hn).2) 2 (fun _ => (0 : EReal)) (part m c)
    (first m c) (next m c) t h (ix2 r x), zero_add]
  unfold part partOf out product
  refine Eq.trans ?_ (Fin.sum_mul_add_fin 2 2048 _)
  refine Finset.sum_congr rfl fun s _ => Finset.sum_congr rfl fun k _ => ?_
  have hs : (2 * (t.val / 2) + s.val) % 2 = s.val := by omega
  have h4 : (2 * (t.val / 2) + s.val) / 4 = t.val / 4 := by omega
  have h2 : (2 * (t.val / 2) + s.val) / 2 = t.val / 2 := by omega
  simp only [tok, row, col, hs, h4, h2]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize (outsAt0 m c t.val t.isLt).1 = f at L ⊢
  exact L

end Cert.ProjDwIdeal.Mix

namespace Cert.ProjDwRefIdeal.Mix

open Cert.ProjDwRefIdeal Cert.ProjDwRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ProjDwRefIdeal.Mix

theorem Cert.ProjDwIdeal.Mix.algebraic : Cert.algebraic_ProjDwIdeal_ProjDwRefIdeal := by
  pair_intro
  · run_from Cert.ProjDwIdeal.Value.run_blocks m g
  · run_from Cert.ProjDwRefIdeal.Value.run m' g'
    rw [Cert.ProjDwIdeal.Mix.arr m c]
    funext y
    unfold Cert.ProjDwIdeal.Mix.out Cert.ProjDwIdeal.Mix.product
    pointwise
    exact Finset.sum_congr rfl fun k _ => mul_comm _ _

end
-- ==== Proof.Mix.ProjDx.lean ====
/- The gradient by a projection's input: `dq · wᵀ`, one block of the result per grid point. -/
module

public import proofs.«01_k».proof.Defs
public import proofs.«01_k».proof.Proof.Gen.ProjDxIdeal.Value
public import proofs.«01_k».proof.Proof.Gen.ProjDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ProjDxIdeal.Mix

open Cert.ProjDxIdeal Cert.ProjDxIdeal.Gen

/-- The whole product of two arrays that share their second axis. -/
def product (d : S4096x2048.Idx → EReal) (w : S2048x2048.Idx → EReal) : S4096x2048.Idx → EReal :=
  fun y => ∑ k : Fin 2048, d (ix2 (y 0) k) * w (ix2 (y 1) k)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem part (x0 : Vec Ideal S1024x2048 .bf16) (x1 : Vec Ideal S1024x2048 .bf16) (r : Fin 1024) (x : Fin 1024) :
    out0_2 x0 x1 (ix2 r x) = ∑ k : Fin 2048, x0 (ix2 r k) * x1 (ix2 x k) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 2 * 1024 + r.val, by have := Nat.lt_of_lt_of_eq t.isLt N_0; omega⟩
def col (t : Fin cfg0.N) (x : Fin 1024) : Fin 2048 := ⟨t.val % 2 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (x : Fin 1024) (k : Fin 2048) : iblk m c 1 t (ix2 x k) = m ((c : Thread nD τ).loc main_arg1) (ix2 (col t x) k) := by
  have e := (idx t).2.1
  blk_ext [iblk, V, e, col]

/-- The array the kernel leaves is the whole product. -/
def out : S4096x2048.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.ProjDxIdeal.Mix

namespace Cert.ProjDxRefIdeal.Mix

open Cert.ProjDxRefIdeal Cert.ProjDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ProjDxRefIdeal.Mix

theorem Cert.ProjDxIdeal.Mix.algebraic : Cert.algebraic_ProjDxIdeal_ProjDxRefIdeal := by
  pair_intro
  · run_from Cert.ProjDxIdeal.Value.run_blocks m g
  · run_from Cert.ProjDxRefIdeal.Value.run m' g'
    rw [Cert.ProjDxIdeal.Mix.arr m c]
    funext y
    unfold Cert.ProjDxIdeal.Mix.out Cert.ProjDxIdeal.Mix.product
    pointwise

end
-- ==== Proof.Mix.XbcDw.lean ====
/- The gradient by the input projection's weight: `nᵀ · du`, each block of the result summed over two blocks of tokens
   in a scratch and written out in `bf16` at the second. -/
module

public import proofs.«01_k».proof.Defs
public import proofs.«01_k».proof.Proof.Gen.XbcDwIdeal.Value
public import proofs.«01_k».proof.Proof.Gen.XbcDwRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.XbcDwIdeal.Mix

open Cert.XbcDwIdeal Cert.XbcDwIdeal.Gen

/-- The whole product of two arrays that share their first axis. -/
def product (x : S4096x2048.Idx → EReal) (d : S4096x6144.Idx → EReal) : S2048x6144.Idx → EReal :=
  fun y => ∑ k : Fin 4096, x (ix2 k (y 0)) * d (ix2 k (y 1))

theorem idx : ∀ t : Fin cfg0.N, win0_0.index t = ![t.val % 2, t.val / 12] ∧ win0_1.index t = ![t.val % 2, t.val / 2 % 6]
    ∧ win0_2.index t = ![t.val / 12, t.val / 2 % 6] :=
  (by decide +kernel : ∀ t : Fin grid0.N, _)

/-- The tokens, the rows and the columns of a point. -/
def tok (t : Fin cfg0.N) (k : Fin 2048) : Fin 4096 := ⟨t.val % 2 * 2048 + k.val, by omega⟩
def row (t : Fin cfg0.N) (r : Fin 1024) : Fin 2048 := ⟨t.val / 12 * 1024 + r.val, by have := Nat.lt_of_lt_of_eq t.isLt N_0; omega⟩
def col (t : Fin cfg0.N) (x : Fin 1024) : Fin 6144 := ⟨t.val / 2 % 6 * 1024 + x.val, by omega⟩

theorem dot_at (x0 : Vec Ideal S2048x1024 .bf16) (x1 : Vec Ideal S2048x1024 .bf16) (r : Fin 1024) (x : Fin 1024) :
    k0_pay1 x0 x1 (ix2 r x) = ∑ k : Fin 2048, x0 (ix2 k r) * x1 (ix2 k x) := by
  pointwise [k0_pay1]

variable (m : (ℓ : Loc nD τ sig) → Buf (Elt Ideal) ℓ) (c : Dev nD)

theorem blk_x (t : Fin cfg0.N) (k : Fin 2048) (r : Fin 1024) : iblk m c 0 t (ix2 k r) = m ((c : Thread nD τ).loc main_arg0) (ix2 (tok t k) (row t r)) := by
  have e := (idx t).1
  blk_ext [iblk, V, e, tok, row]

theorem blk_d (t : Fin cfg0.N) (k : Fin 2048) (x : Fin 1024) : iblk m c 1 t (ix2 k x) = m ((c : Thread nD τ).loc main_arg1) (ix2 (tok t k) (col t x)) := by
  have e := (idx t).2.1
  blk_ext [iblk, V, e, tok, col]

/-- What a point adds to its block. -/
def partOf (x : S4096x2048.Idx → EReal) (d : S4096x6144.Idx → EReal) (t : Fin cfg0.N) (j : S1024x1024.Idx) : EReal :=
  ∑ k : Fin 2048, x (ix2 (tok t k) (row t (j 0))) * d (ix2 (tok t k) (col t (j 1)))

def part (t : Fin cfg0.N) (j : S1024x1024.Idx) : EReal :=
  partOf (m ((c : Thread nD τ).loc main_arg0)) (m ((c : Thread nD τ).loc main_arg1)) t j

theorem part_at (t : Fin cfg0.N) (j : S1024x1024.Idx) : k0_pay1 (iblk m c 0 t) (iblk m c 1 t) j = part m c t j := by
  obtain ⟨r, x, rfl⟩ : ∃ (r : Fin 1024) (x : Fin 1024), j = ix2 r x := ⟨j 0, j 1, eq_ix2 j⟩
  refine (dot_at (iblk m c 0 t) (iblk m c 1 t) r x).trans ?_
  unfold part partOf
  refine Finset.sum_congr rfl fun k _ => ?_
  rw [blk_x, blk_d]
  rfl

theorem first (t : Fin cfg0.N) (h : t.val % 2 = 0) (j : S1024x1024.Idx) :
    (outsAt0 m c t.val t.isLt).2 j = 0 + part m c t j := by
  rw [outsAt0_A m c t h (by omega) (by omega)]
  frame_out
  rw [zero_add, ← part_at m c t j]
  pointwise [k0_pay2]

theorem next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + part m c t j := by
  rw [outsAt0_B m c t h (by omega) (by omega)]
  frame_out
  rw [← part_at m c t j]
  pointwise [k0_pay3]
  rw [read_unread_whole]

theorem written (t : Fin cfg0.N) (h : t.val % 2 = 1) (j : S1024x1024.Idx) :
    (outsAt0 m c t.val t.isLt).1 j = (outsAt0 m c t.val t.isLt).2 j := by
  rw [outsAt0_B m c t (by omega) h h]
  frame_out
  pointwise [k0_pay4]

/-- The array the kernel leaves is the whole product. -/
def out : S2048x6144.Idx → EReal := product (m ((c : Thread nD τ).loc main_arg0)) (m ((c : Thread nD τ).loc main_arg1))

theorem left_at (t : Fin cfg0.N) (h : t.val % 2 = 1) (r : Fin 1024) (x : Fin 1024) :
    (outsAt0 m c t.val t.isLt).1 (ix2 r x) = out m c (ix2 (row t r) (col t x)) := by
  rw [written m c t h, eq_sum_fin_of_reset_step_apply_of_flush (fun n hn => (outsAt0 m c n hn).2) 2 (fun _ => (0 : EReal)) (part m c)
    (first m c) (next m c) t h (ix2 r x), zero_add]
  unfold part partOf out product
  refine Eq.trans ?_ (Fin.sum_mul_add_fin 2 2048 _)
  refine Finset.sum_congr rfl fun s _ => Finset.sum_congr rfl fun k _ => ?_
  have hs : (2 * (t.val / 2) + s.val) % 2 = s.val := by omega
  have h12 : (2 * (t.val / 2) + s.val) / 12 = t.val / 12 := by omega
  have h2 : (2 * (t.val / 2) + s.val) / 2 = t.val / 2 := by omega
  simp only [tok, row, col, hs, h12, h2]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize (outsAt0 m c t.val t.isLt).1 = f at L ⊢
  exact L

end Cert.XbcDwIdeal.Mix

namespace Cert.XbcDwRefIdeal.Mix

open Cert.XbcDwRefIdeal Cert.XbcDwRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.XbcDwRefIdeal.Mix

theorem Cert.XbcDwIdeal.Mix.algebraic : Cert.algebraic_XbcDwIdeal_XbcDwRefIdeal := by
  pair_intro
  · run_from Cert.XbcDwIdeal.Value.run_blocks m g
  · run_from Cert.XbcDwRefIdeal.Value.run m' g'
    rw [Cert.XbcDwIdeal.Mix.arr m c]
    funext y
    unfold Cert.XbcDwIdeal.Mix.out Cert.XbcDwIdeal.Mix.product
    pointwise
    exact Finset.sum_congr rfl fun k _ => mul_comm _ _

end
-- ==== Proof.Mix.OutDw.lean ====
/- The gradient by the output projection's weight: `ynᵀ · dh`, each block of the result summed over two blocks of tokens
   in a scratch and written out in `bf16` at the second. -/
module

public import proofs.«01_k».proof.Defs
public import proofs.«01_k».proof.Proof.Gen.OutDwIdeal.Value
public import proofs.«01_k».proof.Proof.Gen.OutDwRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.OutDwIdeal.Mix

open Cert.OutDwIdeal Cert.OutDwIdeal.Gen

/-- The whole product of two arrays that share their first axis. -/
def product (x : S4096x4096.Idx → EReal) (d : S4096x2048.Idx → EReal) : S4096x2048.Idx → EReal :=
  fun y => ∑ k : Fin 4096, x (ix2 k (y 0)) * d (ix2 k (y 1))

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The tokens, the rows and the columns of a point. -/
def tok (t : Fin cfg0.N) (k : Fin 2048) : Fin 4096 := ⟨t.val % 2 * 2048 + k.val, by omega⟩
def row (t : Fin cfg0.N) (r : Fin 1024) : Fin 4096 := ⟨t.val / 4 * 1024 + r.val, by have := Nat.lt_of_lt_of_eq t.isLt N_0; omega⟩
def col (t : Fin cfg0.N) (x : Fin 1024) : Fin 2048 := ⟨t.val / 2 % 2 * 1024 + x.val, by omega⟩

theorem dot_at (x0 : Vec Ideal S2048x1024 .bf16) (x1 : Vec Ideal S2048x1024 .bf16) (r : Fin 1024) (x : Fin 1024) :
    k0_pay1 x0 x1 (ix2 r x) = ∑ k : Fin 2048, x0 (ix2 k r) * x1 (ix2 k x) := by
  pointwise [k0_pay1]

variable (m : (ℓ : Loc nD τ sig) → Buf (Elt Ideal) ℓ) (c : Dev nD)

theorem blk_x (t : Fin cfg0.N) (k : Fin 2048) (r : Fin 1024) : iblk m c 0 t (ix2 k r) = m ((c : Thread nD τ).loc main_arg0) (ix2 (tok t k) (row t r)) := by
  have e := (idx t).1
  blk_ext [iblk, V, e, tok, row]

theorem blk_d (t : Fin cfg0.N) (k : Fin 2048) (x : Fin 1024) : iblk m c 1 t (ix2 k x) = m ((c : Thread nD τ).loc main_arg1) (ix2 (tok t k) (col t x)) := by
  have e := (idx t).2.1
  blk_ext [iblk, V, e, tok, col]

/-- What a point adds to its block. -/
def partOf (x : S4096x4096.Idx → EReal) (d : S4096x2048.Idx → EReal) (t : Fin cfg0.N) (j : S1024x1024.Idx) : EReal :=
  ∑ k : Fin 2048, x (ix2 (tok t k) (row t (j 0))) * d (ix2 (tok t k) (col t (j 1)))

def part (t : Fin cfg0.N) (j : S1024x1024.Idx) : EReal :=
  partOf (m ((c : Thread nD τ).loc main_arg0)) (m ((c : Thread nD τ).loc main_arg1)) t j

theorem part_at (t : Fin cfg0.N) (j : S1024x1024.Idx) : k0_pay1 (iblk m c 0 t) (iblk m c 1 t) j = part m c t j := by
  obtain ⟨r, x, rfl⟩ : ∃ (r : Fin 1024) (x : Fin 1024), j = ix2 r x := ⟨j 0, j 1, eq_ix2 j⟩
  refine (dot_at (iblk m c 0 t) (iblk m c 1 t) r x).trans ?_
  unfold part partOf
  refine Finset.sum_congr rfl fun k _ => ?_
  rw [blk_x, blk_d]
  rfl

theorem first (t : Fin cfg0.N) (h : t.val % 2 = 0) (j : S1024x1024.Idx) :
    (outsAt0 m c t.val t.isLt).2 j = 0 + part m c t j := by
  rw [outsAt0_A m c t h (by omega) (by omega)]
  frame_out
  rw [zero_add, ← part_at m c t j]
  pointwise [k0_pay2]

theorem next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + part m c t j := by
  rw [outsAt0_B m c t h (by omega) (by omega)]
  frame_out
  rw [← part_at m c t j]
  pointwise [k0_pay3]
  rw [read_unread_whole]

theorem written (t : Fin cfg0.N) (h : t.val % 2 = 1) (j : S1024x1024.Idx) :
    (outsAt0 m c t.val t.isLt).1 j = (outsAt0 m c t.val t.isLt).2 j := by
  rw [outsAt0_B m c t (by omega) h h]
  frame_out
  pointwise [k0_pay4]

/-- The array the kernel leaves is the whole product. -/
def out : S4096x2048.Idx → EReal := product (m ((c : Thread nD τ).loc main_arg0)) (m ((c : Thread nD τ).loc main_arg1))

theorem left_at (t : Fin cfg0.N) (h : t.val % 2 = 1) (r : Fin 1024) (x : Fin 1024) :
    (outsAt0 m c t.val t.isLt).1 (ix2 r x) = out m c (ix2 (row t r) (col t x)) := by
  rw [written m c t h, eq_sum_fin_of_reset_step_apply_of_flush (fun n hn => (outsAt0 m c n hn).2) 2 (fun _ => (0 : EReal)) (part m c)
    (first m c) (next m c) t h (ix2 r x), zero_add]
  unfold part partOf out product
  refine Eq.trans ?_ (Fin.sum_mul_add_fin 2 2048 _)
  refine Finset.sum_congr rfl fun s _ => Finset.sum_congr rfl fun k _ => ?_
  have hs : (2 * (t.val / 2) + s.val) % 2 = s.val := by omega
  have h4 : (2 * (t.val / 2) + s.val) / 4 = t.val / 4 := by omega
  have h2 : (2 * (t.val / 2) + s.val) / 2 = t.val / 2 := by omega
  simp only [tok, row, col, hs, h4, h2]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize (outsAt0 m c t.val t.isLt).1 = f at L ⊢
  exact L

end Cert.OutDwIdeal.Mix

namespace Cert.OutDwRefIdeal.Mix

open Cert.OutDwRefIdeal Cert.OutDwRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.OutDwRefIdeal.Mix

theorem Cert.OutDwIdeal.Mix.algebraic : Cert.algebraic_OutDwIdeal_OutDwRefIdeal := by
  pair_intro
  · run_from Cert.OutDwIdeal.Value.run_blocks m g
  · run_from Cert.OutDwRefIdeal.Value.run m' g'
    rw [Cert.OutDwIdeal.Mix.arr m c]
    funext y
    unfold Cert.OutDwIdeal.Mix.out Cert.OutDwIdeal.Mix.product
    pointwise
    exact Finset.sum_congr rfl fun k _ => mul_comm _ _

end
-- ==== Proof.Mix.OutDx.lean ====
/- The gradient by the output projection's input: `dh · wᵀ`, one block of the result per grid point. -/
module

public import proofs.«01_k».proof.Defs
public import proofs.«01_k».proof.Proof.Gen.OutDxIdeal.Value
public import proofs.«01_k».proof.Proof.Gen.OutDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.OutDxIdeal.Mix

open Cert.OutDxIdeal Cert.OutDxIdeal.Gen

/-- The whole product of two arrays that share their second axis. -/
def product (d : S4096x2048.Idx → EReal) (w : S4096x2048.Idx → EReal) : S4096x4096.Idx → EReal :=
  fun y => ∑ k : Fin 2048, d (ix2 (y 0) k) * w (ix2 (y 1) k)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem part (x0 : Vec Ideal S1024x2048 .bf16) (x1 : Vec Ideal S1024x2048 .bf16) (r : Fin 1024) (x : Fin 1024) :
    out0_2 x0 x1 (ix2 r x) = ∑ k : Fin 2048, x0 (ix2 r k) * x1 (ix2 x k) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 4 * 1024 + r.val, by have := Nat.lt_of_lt_of_eq t.isLt N_0; omega⟩
def col (t : Fin cfg0.N) (x : Fin 1024) : Fin 4096 := ⟨t.val % 4 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (x : Fin 1024) (k : Fin 2048) : iblk m c 1 t (ix2 x k) = m ((c : Thread nD τ).loc main_arg1) (ix2 (col t x) k) := by
  have e := (idx t).2.1
  blk_ext [iblk, V, e, col]

/-- The array the kernel leaves is the whole product. -/
def out : S4096x4096.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.OutDxIdeal.Mix

namespace Cert.OutDxRefIdeal.Mix

open Cert.OutDxRefIdeal Cert.OutDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.OutDxRefIdeal.Mix

theorem Cert.OutDxIdeal.Mix.algebraic : Cert.algebraic_OutDxIdeal_OutDxRefIdeal := by
  pair_intro
  · run_from Cert.OutDxIdeal.Value.run_blocks m g
  · run_from Cert.OutDxRefIdeal.Value.run m' g'
    rw [Cert.OutDxIdeal.Mix.arr m c]
    funext y
    unfold Cert.OutDxIdeal.Mix.out Cert.OutDxIdeal.Mix.product
    pointwise

end
-- ==== Proof.Mix.Z.lean ====
/- The gate's half of the mixer's input projection: `n · w`, one block of the result per grid point. -/
module

public import proofs.«01_k».proof.Defs
public import proofs.«01_k».proof.Proof.Gen.ZIdeal.Value
public import proofs.«01_k».proof.Proof.Gen.ZRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ZIdeal.Mix

open Cert.ZIdeal Cert.ZIdeal.Gen

/-- The whole product. -/
def product (d : S4096x2048.Idx → EReal) (w : S2048x4096.Idx → EReal) : S4096x4096.Idx → EReal :=
  fun y => ∑ k : Fin 2048, d (ix2 (y 0) k) * w (ix2 k (y 1))

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem part (x0 : Vec Ideal S1024x2048 .bf16) (x1 : Vec Ideal S2048x1024 .bf16) (r : Fin 1024) (x : Fin 1024) :
    out0_2 x0 x1 (ix2 r x) = ∑ k : Fin 2048, x0 (ix2 r k) * x1 (ix2 k x) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 4 * 1024 + r.val, by have := Nat.lt_of_lt_of_eq t.isLt N_0; omega⟩
def col (t : Fin cfg0.N) (x : Fin 1024) : Fin 4096 := ⟨t.val % 4 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) (x : Fin 1024) : iblk m c 1 t (ix2 k x) = m ((c : Thread nD τ).loc main_arg1) (ix2 k (col t x)) := by
  have e := (idx t).2.1
  blk_ext [iblk, V, e, col]

/-- The array the kernel leaves is the whole product. -/
def out : S4096x4096.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.ZIdeal.Mix

namespace Cert.ZRefIdeal.Mix

open Cert.ZRefIdeal Cert.ZRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ZRefIdeal.Mix

theorem Cert.ZIdeal.Mix.algebraic : Cert.algebraic_ZIdeal_ZRefIdeal := by
  pair_intro
  · run_from Cert.ZIdeal.Value.run_blocks m g
  · run_from Cert.ZRefIdeal.Value.run m' g'
    rw [Cert.ZIdeal.Mix.arr m c]
    funext y
    unfold Cert.ZIdeal.Mix.out Cert.ZIdeal.Mix.product
    pointwise

end
-- ==== Proof.Mix.ZDw.lean ====
/- The gradient by the weight of the input projection's gate half: `nᵀ · dz`, each block of the result summed over two blocks of tokens
   in a scratch and written out in `bf16` at the second. -/
module

public import proofs.«01_k».proof.Defs
public import proofs.«01_k».proof.Proof.Gen.ZDwIdeal.Value
public import proofs.«01_k».proof.Proof.Gen.ZDwRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.ZDwIdeal.Mix

open Cert.ZDwIdeal Cert.ZDwIdeal.Gen

/-- The whole product of two arrays that share their first axis. -/
def product (x : S4096x2048.Idx → EReal) (d : S4096x4096.Idx → EReal) : S2048x4096.Idx → EReal :=
  fun y => ∑ k : Fin 4096, x (ix2 k (y 0)) * d (ix2 k (y 1))

theorem idx : ∀ t : Fin cfg0.N, win0_0.index t = ![t.val % 2, t.val / 8] ∧ win0_1.index t = ![t.val % 2, t.val / 2 % 4]
    ∧ win0_2.index t = ![t.val / 8, t.val / 2 % 4] :=
  (by decide +kernel : ∀ t : Fin grid0.N, _)

/-- The tokens, the rows and the columns of a point. -/
def tok (t : Fin cfg0.N) (k : Fin 2048) : Fin 4096 := ⟨t.val % 2 * 2048 + k.val, by omega⟩
def row (t : Fin cfg0.N) (r : Fin 1024) : Fin 2048 := ⟨t.val / 8 * 1024 + r.val, by have := Nat.lt_of_lt_of_eq t.isLt N_0; omega⟩
def col (t : Fin cfg0.N) (x : Fin 1024) : Fin 4096 := ⟨t.val / 2 % 4 * 1024 + x.val, by omega⟩

theorem dot_at (x0 : Vec Ideal S2048x1024 .bf16) (x1 : Vec Ideal S2048x1024 .bf16) (r : Fin 1024) (x : Fin 1024) :
    k0_pay1 x0 x1 (ix2 r x) = ∑ k : Fin 2048, x0 (ix2 k r) * x1 (ix2 k x) := by
  pointwise [k0_pay1]

variable (m : (ℓ : Loc nD τ sig) → Buf (Elt Ideal) ℓ) (c : Dev nD)

theorem blk_x (t : Fin cfg0.N) (k : Fin 2048) (r : Fin 1024) : iblk m c 0 t (ix2 k r) = m ((c : Thread nD τ).loc main_arg0) (ix2 (tok t k) (row t r)) := by
  have e := (idx t).1
  blk_ext [iblk, V, e, tok, row]

theorem blk_d (t : Fin cfg0.N) (k : Fin 2048) (x : Fin 1024) : iblk m c 1 t (ix2 k x) = m ((c : Thread nD τ).loc main_arg1) (ix2 (tok t k) (col t x)) := by
  have e := (idx t).2.1
  blk_ext [iblk, V, e, tok, col]

/-- What a point adds to its block. -/
def partOf (x : S4096x2048.Idx → EReal) (d : S4096x4096.Idx → EReal) (t : Fin cfg0.N) (j : S1024x1024.Idx) : EReal :=
  ∑ k : Fin 2048, x (ix2 (tok t k) (row t (j 0))) * d (ix2 (tok t k) (col t (j 1)))

def part (t : Fin cfg0.N) (j : S1024x1024.Idx) : EReal :=
  partOf (m ((c : Thread nD τ).loc main_arg0)) (m ((c : Thread nD τ).loc main_arg1)) t j

theorem part_at (t : Fin cfg0.N) (j : S1024x1024.Idx) : k0_pay1 (iblk m c 0 t) (iblk m c 1 t) j = part m c t j := by
  obtain ⟨r, x, rfl⟩ : ∃ (r : Fin 1024) (x : Fin 1024), j = ix2 r x := ⟨j 0, j 1, eq_ix2 j⟩
  refine (dot_at (iblk m c 0 t) (iblk m c 1 t) r x).trans ?_
  unfold part partOf
  refine Finset.sum_congr rfl fun k _ => ?_
  rw [blk_x, blk_d]
  rfl

theorem first (t : Fin cfg0.N) (h : t.val % 2 = 0) (j : S1024x1024.Idx) :
    (outsAt0 m c t.val t.isLt).2 j = 0 + part m c t j := by
  rw [outsAt0_A m c t h (by omega) (by omega)]
  frame_out
  rw [zero_add, ← part_at m c t j]
  pointwise [k0_pay2]

theorem next (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + part m c t j := by
  rw [outsAt0_B m c t h (by omega) (by omega)]
  frame_out
  rw [← part_at m c t j]
  pointwise [k0_pay3]
  rw [read_unread_whole]

theorem written (t : Fin cfg0.N) (h : t.val % 2 = 1) (j : S1024x1024.Idx) :
    (outsAt0 m c t.val t.isLt).1 j = (outsAt0 m c t.val t.isLt).2 j := by
  rw [outsAt0_B m c t (by omega) h h]
  frame_out
  pointwise [k0_pay4]

/-- The array the kernel leaves is the whole product. -/
def out : S2048x4096.Idx → EReal := product (m ((c : Thread nD τ).loc main_arg0)) (m ((c : Thread nD τ).loc main_arg1))

theorem left_at (t : Fin cfg0.N) (h : t.val % 2 = 1) (r : Fin 1024) (x : Fin 1024) :
    (outsAt0 m c t.val t.isLt).1 (ix2 r x) = out m c (ix2 (row t r) (col t x)) := by
  rw [written m c t h, eq_sum_fin_of_reset_step_apply_of_flush (fun n hn => (outsAt0 m c n hn).2) 2 (fun _ => (0 : EReal)) (part m c)
    (first m c) (next m c) t h (ix2 r x), zero_add]
  unfold part partOf out product
  refine Eq.trans ?_ (Fin.sum_mul_add_fin 2 2048 _)
  refine Finset.sum_congr rfl fun s _ => Finset.sum_congr rfl fun k _ => ?_
  have hs : (2 * (t.val / 2) + s.val) % 2 = s.val := by omega
  have h8 : (2 * (t.val / 2) + s.val) / 8 = t.val / 8 := by omega
  have h2 : (2 * (t.val / 2) + s.val) / 2 = t.val / 2 := by omega
  simp only [tok, row, col, hs, h8, h2]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize (outsAt0 m c t.val t.isLt).1 = f at L ⊢
  exact L

end Cert.ZDwIdeal.Mix

namespace Cert.ZDwRefIdeal.Mix

open Cert.ZDwRefIdeal Cert.ZDwRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ZDwRefIdeal.Mix

theorem Cert.ZDwIdeal.Mix.algebraic : Cert.algebraic_ZDwIdeal_ZDwRefIdeal := by
  pair_intro
  · run_from Cert.ZDwIdeal.Value.run_blocks m g
  · run_from Cert.ZDwRefIdeal.Value.run m' g'
    rw [Cert.ZDwIdeal.Mix.arr m c]
    funext y
    unfold Cert.ZDwIdeal.Mix.out Cert.ZDwIdeal.Mix.product
    pointwise
    exact Finset.sum_congr rfl fun k _ => mul_comm _ _

end
-- ==== Proof.Mix.Conv.lean ====
/- The convolution over the tokens and its gate, 128 columns per grid point. -/
module

public import proofs.«01_k».proof.Defs
public import proofs.«01_k».proof.Proof.Gen.ConvIdeal.Value
public import proofs.«01_k».proof.Proof.Gen.ConvRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.KernelVsHost
public import Idealize.ShloMosaic.Lib.Pipeline.ValueKit
public import proofs.«01_k».proof.Proof.Ffn.Gate

@[expose] public section

set_option maxRecDepth 16384

noncomputable section

open Idealize.ShloMosaic Idealize.ShloMosaic.TcCoe Idealize.ShloMosaic.Pipeline Idealize.SL.Sem

namespace Cert.ConvIdeal.Mix

open Cert.ConvIdeal Cert.ConvIdeal.Gen Cert.Ffn

/-- A column's entry `s` rows before `t`, zero before the first row. -/
def before (a : Fin 4096 → EReal) (s : Nat) (t : Fin 4096) : EReal :=
  if s ≤ t.val then a ⟨t.val - s, by omega⟩ else 0

theorem before_zero (a : Fin 4096 → EReal) (t : Fin 4096) : before a 0 t = a t := if_pos (Nat.zero_le _)

theorem tap (a : Fin 4096 → EReal) (w : EReal) (s : Nat) (hs : s < 4) (r : Fin 4096) (h : (r.val + 4096 - s) % 4096 < 4096) :
    Scalar.select (IntOp.cmpi .sge (BitVec.ofNat 32 r.val) (BitVec.ofNat 32 s)) (w * a ⟨(r.val + 4096 - s) % 4096, h⟩) 0
      = w * before a s r := by
  unfold Scalar.select before
  have e := WordCmp.cmpi_sge_ofNat_eq_one_iff (w := 32) (a := r.val) (b := s) (by omega) (by omega)
  by_cases hr : s ≤ r.val
  · rw [if_pos hr]
    refine (if_pos (e.mpr hr)).trans ?_
    exact congrArg (fun q => w * a q) (Fin.ext (show (r.val + 4096 - s) % 4096 = r.val - s by omega))
  · rw [if_neg hr, mul_zero]
    exact if_neg fun q => hr (e.mp q)

/-- A row of the convolved column `a`, with the column's bias and weights. -/
def conv (a : Fin 4096 → EReal) (b : EReal) (w : Fin 4 → EReal) (r : Fin 4096) : EReal :=
  b + w 0 * before a 3 r + w 1 * before a 2 r + w 2 * before a 1 r + w 3 * a r

theorem pre_at (x0 : Vec Ideal S4096x128 .f32) (b w0 w1 w2 w3 : Vec Ideal S1x128 .f32) (r : Fin 4096) (x : Fin 128) :
    k0_pay2 x0 b w0 w1 w2 w3 (ix2 r x)
      = conv (fun r => x0 (ix2 r x)) (b (ix2 0 x)) ![w0 (ix2 0 x), w1 (ix2 0 x), w2 (ix2 0 x), w3 (ix2 0 x)] r := by
  pointwise [k0_pay2]
  rw [tap (fun r => x0 (ix2 r x)) _ 3 (by omega), tap (fun r => x0 (ix2 r x)) _ 2 (by omega), tap (fun r => x0 (ix2 r x)) _ 1 (by omega)]
  rfl

theorem part (x0 : Vec Ideal S4096x128 .f32) (x1 : Vec Ideal S4x128 .f32) (x2 : Vec Ideal S1x128 .f32) (r : Fin 4096) (x : Fin 128) :
    out0_3 x0 x1 x2 (ix2 r x) = conv (fun r => x0 (ix2 r x)) (x2 (ix2 0 x)) (fun k => x1 (ix2 k x)) r
      * sigma (conv (fun r => x0 (ix2 r x)) (x2 (ix2 0 x)) (fun k => x1 (ix2 k x)) r) := by
  have L := pre_at (View.ld x0 r0_0) (View.ld x2 r0_1) (View.ld x1 r0_2) (View.ld x1 r0_3) (View.ld x1 r0_4) (View.ld x1 r0_5) r x
  have e : conv (fun r => View.ld x0 r0_0 (ix2 r x)) (View.ld x2 r0_1 (ix2 0 x))
      ![View.ld x1 r0_2 (ix2 0 x), View.ld x1 r0_3 (ix2 0 x), View.ld x1 r0_4 (ix2 0 x), View.ld x1 r0_5 (ix2 0 x)] r
      = conv (fun r => x0 (ix2 r x)) (x2 (ix2 0 x)) (fun k => x1 (ix2 k x)) r := by
    congr 1
    · exact funext fun r => View.ld_unit_apply_of x0 ![0, 0] _ _ (ix2 r x) (ix2 r x) fun a => by fin_cases a <;> simp [ix2]
    · exact View.ld_unit_apply_of x2 ![0, 0] _ _ (ix2 0 x) (ix2 0 x) fun a => by fin_cases a <;> simp [ix2]
    · funext k
      fin_cases k
      · exact View.ld_unit_apply_of x1 ![0, 0] _ _ (ix2 0 x) (ix2 0 x) fun a => by fin_cases a <;> simp [ix2]
      · exact View.ld_unit_apply_of x1 ![1, 0] _ _ (ix2 0 x) (ix2 1 x) fun a => by fin_cases a <;> simp [ix2]
      · exact View.ld_unit_apply_of x1 ![2, 0] _ _ (ix2 0 x) (ix2 2 x) fun a => by fin_cases a <;> simp [ix2]
      · exact View.ld_unit_apply_of x1 ![3, 0] _ _ (ix2 0 x) (ix2 3 x) fun a => by fin_cases a <;> simp [ix2]
  rw [← e, ← L]
  unfold out0_3
  rw [View.canon_unit_zero]
  · generalize k0_pay2 (F := Ideal) _ _ _ _ _ _ = f
    unfold sigma
    rw [← zero_sub, ← zero_eq]
    pointwise [k0_pay1]
  all_goals exact funext fun a => by fin_cases a <;> rfl

theorem idx : ∀ t : Fin cfg0.N, win0_0.index t = ![0, t.val] ∧ win0_1.index t = ![0, t.val] ∧ win0_2.index t = ![0, t.val]
    ∧ win0_3.index t = ![0, t.val] :=
  (by decide +kernel : ∀ t : Fin grid0.N, _)

/-- The columns of a point. -/
def col (t : Fin cfg0.N) (x : Fin 128) : Fin 6144 := ⟨t.val * 128 + x.val, by have := Nat.lt_of_lt_of_eq t.isLt N_0; omega⟩

variable (m : (ℓ : Loc nD τ sig) → Buf (Elt Ideal) ℓ) (c : Dev nD)

theorem blk_u (t : Fin cfg0.N) (r : Fin 4096) (x : Fin 128) :
    iblk m c 0 t (ix2 r x) = m ((c : Thread nD τ).loc main_arg0) (ix2 r (col t x)) := by
  have e := (idx t).1
  blk_ext [iblk, V, e, col]

theorem blk_w (t : Fin cfg0.N) (k : Fin 4) (x : Fin 128) :
    iblk m c 1 t (ix2 k x) = m ((c : Thread nD τ).loc main_arg1) (ix2 k (col t x)) := by
  have e := (idx t).2.1
  blk_ext [iblk, V, e, col]

theorem blk_b (t : Fin cfg0.N) (x : Fin 128) :
    iblk m c 2 t (ix2 0 x) = m ((c : Thread nD τ).loc main_arg2) (ix2 0 (col t x)) := by
  have e := (idx t).2.2.1
  blk_ext [iblk, V, e, col]

/-- The whole convolution. -/
def whole (u : S4096x6144.Idx → EReal) (w : S4x6144.Idx → EReal) (b : S1x6144.Idx → EReal) (y : S4096x6144.Idx) : EReal :=
  conv (fun r => u (ix2 r (y 1))) (b (ix2 0 (y 1))) (fun k => w (ix2 k (y 1))) (y 0)

/-- The array the kernel leaves. -/
def out : S4096x6144.Idx → EReal := fun y =>
  whole (m ((c : Thread nD τ).loc main_arg0)) (m ((c : Thread nD τ).loc main_arg1)) (m ((c : Thread nD τ).loc main_arg2)) y
    * sigma (whole (m ((c : Thread nD τ).loc main_arg0)) (m ((c : Thread nD τ).loc main_arg1)) (m ((c : Thread nD τ).loc main_arg2)) y)

theorem left_at (t : Fin cfg0.N) (r : Fin 4096) (x : Fin 128) :
    out0_3 (iblk m c 0 t) (iblk m c 1 t) (iblk m c 2 t) (ix2 r x) = out m c (ix2 r (col t x)) := by
  refine (part (iblk m c 0 t) (iblk m c 1 t) (iblk m c 2 t) r x).trans ?_
  have e : conv (fun r => iblk m c 0 t (ix2 r x)) (iblk m c 2 t (ix2 0 x)) (fun k => iblk m c 1 t (ix2 k x)) r
      = whole (m ((c : Thread nD τ).loc main_arg0)) (m ((c : Thread nD τ).loc main_arg1)) (m ((c : Thread nD τ).loc main_arg2)) (ix2 r (col t x)) := by
    simp only [blk_u, blk_w, blk_b]
    rfl
  exact congrArg (fun a => a * sigma a) e

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r : Fin 4096) (x : Fin 128), y = ix2 r x := ⟨y 0, y 1, eq_ix2 y⟩
  have eb : ((cfg0.win 3).blk t).view.emb (ix2 r x) = ix2 r (col t x) := by blk_ext [e, col]
  rw [eb]
  have L := left_at m c t r x
  generalize out0_3 (iblk m c 0 t) (iblk m c 1 t) (iblk m c 2 t) = f at L ⊢
  exact L

end Cert.ConvIdeal.Mix

namespace Cert.ConvRefIdeal.Mix

open Cert.ConvRefIdeal Cert.ConvRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems (by decide) _⟩

/-- The column with zeros before its first row. -/
theorem padded (u : S4096x6144.Idx → EReal) (k : Nat) (hk : k ≤ 3) (t : Fin 4096) (p : Fin 4099) (hp : p.val = k + t.val) (x : Fin 6144) :
    pad S4099x6144 ![3, 0] ![0, 0] ![0, 0] u (sitofp (F := Ideal) .f32 (constantI S_ 32 0#32)) pads_S4096x6144_S4099x6144_300_000 h_S_ (ix2 p x)
      = Cert.ConvIdeal.Mix.before (fun r => u (ix2 r x)) (3 - k) t := by
  unfold Cert.ConvIdeal.Mix.before
  by_cases h : 3 - k ≤ t.val
  · rw [if_pos h]
    refine pad_apply_of_inside _ _ _ _ _ _ _ _ _ fun a => ?_
    fin_cases a
    · show p.val = 3 + (t.val - (3 - k)) * (0 + 1)
      omega
    · show x.val = 0 + x.val * (0 + 1)
      omega
  · rw [if_neg h]
    refine (pad_apply_of_not_inside _ _ _ _ _ _ _ _ 0 fun q => ?_).trans ?_
    · have : 3 ≤ p.val := q.1
      omega
    · show (((0#32).toInt : ℝ) : EReal) = 0
      simp

end Cert.ConvRefIdeal.Mix

theorem Cert.ConvIdeal.Mix.algebraic : Cert.algebraic_ConvIdeal_ConvRefIdeal := by
  pair_intro
  · run_from Cert.ConvIdeal.Value.run_blocks m g
  · run_from Cert.ConvRefIdeal.Value.run m' g'
    rw [Cert.ConvIdeal.Mix.arr m c]
    funext y
    obtain ⟨t, x, rfl⟩ : ∃ (t : Fin 4096) (x : Fin 6144), y = ix2 t x := ⟨y 0, y 1, eq_ix2 y⟩
    unfold Cert.ConvIdeal.Mix.out
    unfold Cert.ConvRefIdeal.Value.res_main_v32
    generalize hp : pad _ _ _ _ _ _ _ _ = P
    have e := fun k hk p h => (congrFun hp (ix2 p x)).symm.trans (Cert.ConvRefIdeal.Mix.padded _ k hk t p h x)
    have e0 := e 0 (by omega) ⟨t.val, by omega⟩ (Nat.zero_add _).symm
    have e1 := e 1 (by omega) ⟨1 + t.val, by omega⟩ rfl
    have e2 := e 2 (by omega) ⟨2 + t.val, by omega⟩ rfl
    have e3 := (e 3 (by omega) ⟨3 + t.val, by omega⟩ rfl).trans (Cert.ConvIdeal.Mix.before_zero _ t)
    pointwise
    rw [e0, e1, e2, e3, (hagree c).1, (hagree c).2.1, (hagree c).2.2]
    unfold Cert.ConvIdeal.Mix.whole Cert.ConvIdeal.Mix.conv Cert.Ffn.sigma
    rw [Cert.Ffn.one_eq, EReal.coe_one]
    have S : ∀ b p q r s : EReal, p + q + r + s + b = b + p + q + r + s := fun b p q r s => by
      rw [add_comm _ b]
      simp only [add_assoc]
    exact congrArg (fun a => a * Ideal.div 1 (1 + Ideal.exp (-a))) (S _ _ _ _ _)

end
-- ==== Proof.Mix.Xbc.lean ====
/- The convolved columns' part of the mixer's input projection: `n · w`, one block of the result per grid point. -/
module

public import proofs.«01_k».proof.Defs
public import proofs.«01_k».proof.Proof.Gen.XbcIdeal.Value
public import proofs.«01_k».proof.Proof.Gen.XbcRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.XbcIdeal.Mix

open Cert.XbcIdeal Cert.XbcIdeal.Gen

/-- The whole product. -/
def product (d : S4096x2048.Idx → EReal) (w : S2048x6144.Idx → EReal) : S4096x6144.Idx → EReal :=
  fun y => ∑ k : Fin 2048, d (ix2 (y 0) k) * w (ix2 k (y 1))

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem part (x0 : Vec Ideal S1024x2048 .bf16) (x1 : Vec Ideal S2048x1024 .bf16) (r : Fin 1024) (x : Fin 1024) :
    out0_2 x0 x1 (ix2 r x) = ∑ k : Fin 2048, x0 (ix2 r k) * x1 (ix2 k x) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 6 * 1024 + r.val, by have := Nat.lt_of_lt_of_eq t.isLt N_0; omega⟩
def col (t : Fin cfg0.N) (x : Fin 1024) : Fin 6144 := ⟨t.val % 6 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) (x : Fin 1024) : iblk m c 1 t (ix2 k x) = m ((c : Thread nD τ).loc main_arg1) (ix2 k (col t x)) := by
  have e := (idx t).2.1
  blk_ext [iblk, V, e, col]

/-- The array the kernel leaves is the whole product. -/
def out : S4096x6144.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.XbcIdeal.Mix

namespace Cert.XbcRefIdeal.Mix

open Cert.XbcRefIdeal Cert.XbcRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.XbcRefIdeal.Mix

theorem Cert.XbcIdeal.Mix.algebraic : Cert.algebraic_XbcIdeal_XbcRefIdeal := by
  pair_intro
  · run_from Cert.XbcIdeal.Value.run_blocks m g
  · run_from Cert.XbcRefIdeal.Value.run m' g'
    rw [Cert.XbcIdeal.Mix.arr m c]
    funext y
    unfold Cert.XbcIdeal.Mix.out Cert.XbcIdeal.Mix.product
    pointwise

end
-- ==== Proof.Mix.XbcDx.lean ====
/- The gradient by the mixer's input through the convolved columns: `du · wᵀ`, each block of the result summed in place over
   three parts of the contraction. -/
module

public import proofs.«01_k».proof.Defs
public import proofs.«01_k».proof.Proof.Gen.XbcDxIdeal.Value
public import proofs.«01_k».proof.Proof.Gen.XbcDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.XbcDxIdeal.Mix

open Cert.XbcDxIdeal Cert.XbcDxIdeal.Gen

/-- The whole product of two arrays that share their second axis. -/
def product (d : S4096x6144.Idx → EReal) (w : S2048x6144.Idx → EReal) : S4096x2048.Idx → EReal :=
  fun y => ∑ k : Fin 6144, d (ix2 (y 0) k) * w (ix2 (y 1) k)

theorem idx : ∀ t : Fin cfg0.N, win0_0.index t = ![t.val / 6, t.val % 3] ∧ win0_1.index t = ![t.val / 3 % 2, t.val % 3]
    ∧ win0_2.index t = ![t.val / 6, t.val / 3 % 2] :=
  (by decide +kernel : ∀ t : Fin grid0.N, _)

/-- The rows, the columns and the contraction's positions of a point. -/
def row (t : Fin cfg0.N) (r : Fin 1024) : Fin 4096 := ⟨t.val / 6 * 1024 + r.val, by have := Nat.lt_of_lt_of_eq t.isLt N_0; omega⟩
def col (t : Fin cfg0.N) (x : Fin 1024) : Fin 2048 := ⟨t.val / 3 % 2 * 1024 + x.val, by omega⟩
def place (t : Fin cfg0.N) (k : Fin 2048) : Fin 6144 := ⟨t.val % 3 * 2048 + k.val, by omega⟩

theorem dot_at (x0 : Vec Ideal S1024x2048 .bf16) (x1 : Vec Ideal S1024x2048 .bf16) (r x : Fin 1024) :
    k0_pay1 x0 x1 (ix2 r x) = ∑ k : Fin 2048, x0 (ix2 r k) * x1 (ix2 x k) := by
  pointwise [k0_pay1]

variable (m : (ℓ : Loc nD τ sig) → Buf (Elt Ideal) ℓ) (c : Dev nD)

theorem blk_d (t : Fin cfg0.N) (r : Fin 1024) (k : Fin 2048) :
    iblk m c 0 t (ix2 r k) = m ((c : Thread nD τ).loc main_arg0) (ix2 (row t r) (place t k)) := by
  have e := (idx t).1
  blk_ext [iblk, V, e, row, place]

theorem blk_w (t : Fin cfg0.N) (x : Fin 1024) (k : Fin 2048) :
    iblk m c 1 t (ix2 x k) = m ((c : Thread nD τ).loc main_arg1) (ix2 (col t x) (place t k)) := by
  have e := (idx t).2.1
  blk_ext [iblk, V, e, col, place]

/-- What a point adds to its block. -/
def partOf (d : S4096x6144.Idx → EReal) (w : S2048x6144.Idx → EReal) (t : Fin cfg0.N) (j : S1024x1024.Idx) : EReal :=
  ∑ k : Fin 2048, d (ix2 (row t (j 0)) (place t k)) * w (ix2 (col t (j 1)) (place t k))

def part (t : Fin cfg0.N) (j : S1024x1024.Idx) : EReal :=
  partOf (m ((c : Thread nD τ).loc main_arg0)) (m ((c : Thread nD τ).loc main_arg1)) t j

theorem part_at (t : Fin cfg0.N) (j : S1024x1024.Idx) : k0_pay1 (iblk m c 0 t) (iblk m c 1 t) j = part m c t j := by
  obtain ⟨r, x, rfl⟩ : ∃ (r x : Fin 1024), j = ix2 r x := ⟨j 0, j 1, eq_ix2 j⟩
  refine (dot_at (iblk m c 0 t) (iblk m c 1 t) r x).trans ?_
  unfold part partOf
  refine Finset.sum_congr rfl fun k _ => ?_
  rw [blk_d, blk_w]
  rfl

theorem first (t : Fin cfg0.N) (h : t.val % 3 = 0) (j : S1024x1024.Idx) :
    outsAt0 m c t.val t.isLt j = 0 + part m c t j := by
  rw [outsAt0_A m c t h (by omega)]
  frame_out
  rw [zero_add, ← part_at m c t j]

theorem next (t : Fin cfg0.N) (h : ¬t.val % 3 = 0) (j : S1024x1024.Idx) :
    outsAt0 m c t.val t.isLt j = outsAt0 m c (t.val - 1) (Nat.lt_of_le_of_lt (Nat.sub_le _ _) t.isLt) j + part m c t j := by
  rw [outsAt0_B m c t h (by omega)]
  frame_out
  rw [← part_at m c t j]
  pointwise [k0_pay2]

/-- The array the kernel leaves is the whole product. -/
def out : S4096x2048.Idx → EReal := product (m ((c : Thread nD τ).loc main_arg0)) (m ((c : Thread nD τ).loc main_arg1))

theorem left_at (t : Fin cfg0.N) (h : t.val % 3 = 2) (r x : Fin 1024) :
    outsAt0 m c t.val t.isLt (ix2 r x) = out m c (ix2 (row t r) (col t x)) := by
  rw [eq_sum_fin_of_reset_step_apply_of_flush (fun n hn => outsAt0 m c n hn) 3 (fun _ => (0 : EReal)) (part m c)
    (first m c) (next m c) t h (ix2 r x), zero_add]
  unfold part partOf out product
  refine Eq.trans ?_ (Fin.sum_mul_add_fin 3 2048 _)
  refine Finset.sum_congr rfl fun s _ => Finset.sum_congr rfl fun k _ => ?_
  have hs : (3 * (t.val / 3) + s.val) % 3 = s.val := by omega
  have h6 : (3 * (t.val / 3) + s.val) / 6 = t.val / 6 := by omega
  have h3 : (3 * (t.val / 3) + s.val) / 3 = t.val / 3 := by omega
  simp only [row, col, place, hs, h6, h3]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r x : Fin 1024), y = ix2 r x := ⟨y 0, y 1, eq_ix2 y⟩
  have eb : ((cfg0.win 2).blk t).view.emb (ix2 r x) = ix2 (row t r) (col t x) := by blk_ext [e, row, col]
  rw [eb]
  have L := left_at m c t ((flush0_2 t).mp hf) r x
  generalize outsAt0 m c t.val t.isLt = f at L ⊢
  exact L

end Cert.XbcDxIdeal.Mix

namespace Cert.XbcDxRefIdeal.Mix

open Cert.XbcDxRefIdeal Cert.XbcDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.XbcDxRefIdeal.Mix

theorem Cert.XbcDxIdeal.Mix.algebraic : Cert.algebraic_XbcDxIdeal_XbcDxRefIdeal := by
  pair_intro
  · run_from Cert.XbcDxIdeal.Value.run_blocks m g
  · run_from Cert.XbcDxRefIdeal.Value.run m' g'
    rw [Cert.XbcDxIdeal.Mix.arr m c]
    funext y
    unfold Cert.XbcDxIdeal.Mix.out Cert.XbcDxIdeal.Mix.product
    pointwise

end
-- ==== Proof.Mix.ZDx.lean ====
/- The gradient by the mixer's input through the gate, on top of the one through the convolved columns: `dn + dz · wᵀ`, each
   block of the result summed in place over two halves of the contraction. -/
module

public import proofs.«01_k».proof.Defs
public import proofs.«01_k».proof.Proof.Gen.ZDxIdeal.Value
public import proofs.«01_k».proof.Proof.Gen.ZDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.ZDxIdeal.Mix

open Cert.ZDxIdeal Cert.ZDxIdeal.Gen

/-- The whole product, on top of `h`. -/
def product (a : S4096x4096.Idx → EReal) (w : S2048x4096.Idx → EReal) (h : S4096x2048.Idx → EReal) : S4096x2048.Idx → EReal :=
  fun y => h y + ∑ k : Fin 4096, a (ix2 (y 0) k) * w (ix2 (y 1) k)

theorem idx : ∀ t : Fin cfg0.N, win0_0.index t = ![t.val / 4, t.val % 2] ∧ win0_1.index t = ![t.val / 2 % 2, t.val % 2]
    ∧ win0_2.index t = ![t.val / 4, t.val / 2 % 2] ∧ win0_3.index t = ![t.val / 4, t.val / 2 % 2] :=
  (by decide +kernel : ∀ t : Fin grid0.N, _)

/-- The rows, the columns and the contraction's positions of a point. -/
def row (t : Fin cfg0.N) (r : Fin 1024) : Fin 4096 := ⟨t.val / 4 * 1024 + r.val, by have := Nat.lt_of_lt_of_eq t.isLt N_0; omega⟩
def col (t : Fin cfg0.N) (x : Fin 1024) : Fin 2048 := ⟨t.val / 2 % 2 * 1024 + x.val, by omega⟩
def place (t : Fin cfg0.N) (k : Fin 2048) : Fin 4096 := ⟨t.val % 2 * 2048 + k.val, by omega⟩

theorem dot_at (x0 : Vec Ideal S1024x2048 .bf16) (x1 : Vec Ideal S1024x2048 .bf16) (r x : Fin 1024) :
    k0_pay1 x0 x1 (ix2 r x) = ∑ k : Fin 2048, x0 (ix2 r k) * x1 (ix2 x k) := by
  pointwise [k0_pay1]

variable (m : (ℓ : Loc nD τ sig) → Buf (Elt Ideal) ℓ) (c : Dev nD)

theorem blk_a (t : Fin cfg0.N) (r : Fin 1024) (k : Fin 2048) :
    iblk m c 0 t (ix2 r k) = m ((c : Thread nD τ).loc main_arg0) (ix2 (row t r) (place t k)) := by
  have e := (idx t).1
  blk_ext [iblk, V, e, row, place]

theorem blk_w (t : Fin cfg0.N) (x : Fin 1024) (k : Fin 2048) :
    iblk m c 1 t (ix2 x k) = m ((c : Thread nD τ).loc main_arg1) (ix2 (col t x) (place t k)) := by
  have e := (idx t).2.1
  blk_ext [iblk, V, e, place, col]

theorem blk_h (t : Fin cfg0.N) (r x : Fin 1024) :
    iblk m c 2 t (ix2 r x) = m ((c : Thread nD τ).loc main_arg2) (ix2 (row t r) (col t x)) := by
  have e := (idx t).2.2.1
  blk_ext [iblk, V, e, row, col]

/-- What a point adds to its block. -/
def partOf (a : S4096x4096.Idx → EReal) (w : S2048x4096.Idx → EReal) (t : Fin cfg0.N) (r x : Fin 1024) : EReal :=
  ∑ k : Fin 2048, a (ix2 (row t r) (place t k)) * w (ix2 (col t x) (place t k))

def part (t : Fin cfg0.N) (r x : Fin 1024) : EReal :=
  partOf (m ((c : Thread nD τ).loc main_arg0)) (m ((c : Thread nD τ).loc main_arg1)) t r x

theorem part_at (t : Fin cfg0.N) (r x : Fin 1024) : k0_pay1 (iblk m c 0 t) (iblk m c 1 t) (ix2 r x) = part m c t r x := by
  refine (dot_at (iblk m c 0 t) (iblk m c 1 t) r x).trans ?_
  unfold part partOf
  refine Finset.sum_congr rfl fun k _ => ?_
  rw [blk_a, blk_w]

/-- The first point of a run starts from `h`'s block. -/
theorem first (t : Fin cfg0.N) (h : t.val % 2 = 0) (r x : Fin 1024) :
    outsAt0 m c t.val t.isLt (ix2 r x) = part m c t r x + iblk m c 2 t (ix2 r x) := by
  rw [outsAt0_A m c t h (by omega)]
  frame_out
  rw [← part_at m c t r x]
  pointwise [k0_pay2]

theorem next (t : Fin cfg0.N) (h : t.val % 2 = 1) (r x : Fin 1024) :
    outsAt0 m c t.val t.isLt (ix2 r x) = outsAt0 m c (t.val - 1) (Nat.lt_of_le_of_lt (Nat.sub_le _ _) t.isLt) (ix2 r x) + part m c t r x := by
  rw [outsAt0_B m c t (by omega) h]
  frame_out
  rw [← part_at m c t r x]
  pointwise [k0_pay3]

/-- The array the kernel leaves is the whole product on top of `h`. -/
def out : S4096x2048.Idx → EReal :=
  product (m ((c : Thread nD τ).loc main_arg0)) (m ((c : Thread nD τ).loc main_arg1)) (m ((c : Thread nD τ).loc main_arg2))

theorem halves (a : S4096x4096.Idx → EReal) (w : S2048x4096.Idx → EReal) (t' t : Fin cfg0.N) (h : t.val % 2 = 1)
    (ht : t'.val = t.val - 1) (r x : Fin 1024) :
    partOf a w t' r x + partOf a w t r x = ∑ k : Fin 4096, a (ix2 (row t r) k) * w (ix2 (col t x) k) := by
  refine Eq.trans ?_ (Fin.sum_mul_add_fin 2 2048 _)
  rw [Fin.sum_univ_two]
  unfold partOf
  have h0 : (t.val - 1) % 2 = 0 := by omega
  have h4 : (t.val - 1) / 4 = t.val / 4 := by omega
  have h2 : (t.val - 1) / 2 = t.val / 2 := by omega
  simp only [row, col, place, ht, h, h0, h4, h2]
  rfl

theorem product_at (a : S4096x4096.Idx → EReal) (w : S2048x4096.Idx → EReal) (h : S4096x2048.Idx → EReal) (t' t : Fin cfg0.N)
    (ht : t.val % 2 = 1) (e : t'.val = t.val - 1) (r x : Fin 1024) :
    partOf a w t' r x + h (ix2 (row t r) (col t x)) + partOf a w t r x = product a w h (ix2 (row t r) (col t x)) := by
  unfold product
  refine Eq.trans ?_ (congrArg (h (ix2 (row t r) (col t x)) + ·) (halves a w t' t ht e r x))
  rw [← add_assoc, add_comm (partOf a w t' r x)]

theorem left_at (t : Fin cfg0.N) (h : t.val % 2 = 1) (r x : Fin 1024) :
    outsAt0 m c t.val t.isLt (ix2 r x) = out m c (ix2 (row t r) (col t x)) := by
  have e := first m c ⟨t.val - 1, Nat.lt_of_le_of_lt (Nat.sub_le _ _) t.isLt⟩ (by dsimp only; omega) r x
  dsimp only at e
  rw [next m c t h r x, e, blk_h]
  have hr : row ⟨t.val - 1, Nat.lt_of_le_of_lt (Nat.sub_le _ _) t.isLt⟩ r = row t r := by
    have : (t.val - 1) / 4 = t.val / 4 := by omega
    simp only [row, this]
  have hc : col ⟨t.val - 1, Nat.lt_of_le_of_lt (Nat.sub_le _ _) t.isLt⟩ x = col t x := by
    have : (t.val - 1) / 2 = t.val / 2 := by omega
    simp only [col, this]
  rw [hr, hc]
  exact product_at _ _ _ ⟨t.val - 1, Nat.lt_of_le_of_lt (Nat.sub_le _ _) t.isLt⟩ t h rfl r x

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r x : Fin 1024), y = ix2 r x := ⟨y 0, y 1, eq_ix2 y⟩
  have eb : ((cfg0.win 3).blk t).view.emb (ix2 r x) = ix2 (row t r) (col t x) := by blk_ext [e, row, col]
  rw [eb]
  have L := left_at m c t ((flush0_3 t).mp hf) r x
  generalize outsAt0 m c t.val t.isLt = f at L ⊢
  exact L

end Cert.ZDxIdeal.Mix

namespace Cert.ZDxRefIdeal.Mix

open Cert.ZDxRefIdeal Cert.ZDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems (by decide) _⟩

end Cert.ZDxRefIdeal.Mix

theorem Cert.ZDxIdeal.Mix.algebraic : Cert.algebraic_ZDxIdeal_ZDxRefIdeal := by
  pair_intro
  · run_from Cert.ZDxIdeal.Value.run_blocks m g
  · run_from Cert.ZDxRefIdeal.Value.run m' g'
    rw [Cert.ZDxIdeal.Mix.arr m c]
    funext y
    unfold Cert.ZDxIdeal.Mix.out Cert.ZDxIdeal.Mix.product
    pointwise

end
-- ==== Proof.Mix.Out.lean ====
/- The mixer's output projection onto the residual: `h + yn · w`, each block of the result summed in place over two halves of
   the contraction. -/
module

public import proofs.«01_k».proof.Defs
public import proofs.«01_k».proof.Proof.Gen.OutIdeal.Value
public import proofs.«01_k».proof.Proof.Gen.OutRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Pipeline Idealize.SL.Sem

namespace Cert.OutIdeal.Mix

open Cert.OutIdeal Cert.OutIdeal.Gen

/-- The whole product, on top of `h`. -/
def product (a : S4096x4096.Idx → EReal) (w : S4096x2048.Idx → EReal) (h : S4096x2048.Idx → EReal) : S4096x2048.Idx → EReal :=
  fun y => h y + ∑ k : Fin 4096, a (ix2 (y 0) k) * w (ix2 k (y 1))

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- The rows, the columns and the contraction's positions of a point. -/
def row (t : Fin cfg0.N) (r : Fin 1024) : Fin 4096 := ⟨t.val / 4 * 1024 + r.val, by have := Nat.lt_of_lt_of_eq t.isLt N_0; omega⟩
def col (t : Fin cfg0.N) (x : Fin 1024) : Fin 2048 := ⟨t.val / 2 % 2 * 1024 + x.val, by omega⟩
def place (t : Fin cfg0.N) (k : Fin 2048) : Fin 4096 := ⟨t.val % 2 * 2048 + k.val, by omega⟩

theorem dot_at (x0 : Vec Ideal S1024x2048 .bf16) (x1 : Vec Ideal S2048x1024 .bf16) (r x : Fin 1024) :
    k0_pay1 x0 x1 (ix2 r x) = ∑ k : Fin 2048, x0 (ix2 r k) * x1 (ix2 k x) := by
  pointwise [k0_pay1]

variable (m : (ℓ : Loc nD τ sig) → Buf (Elt Ideal) ℓ) (c : Dev nD)

theorem blk_a (t : Fin cfg0.N) (r : Fin 1024) (k : Fin 2048) :
    iblk m c 0 t (ix2 r k) = m ((c : Thread nD τ).loc main_arg0) (ix2 (row t r) (place t k)) := by
  have e := (idx t).1
  blk_ext [iblk, V, e, row, place]

theorem blk_w (t : Fin cfg0.N) (k : Fin 2048) (x : Fin 1024) :
    iblk m c 1 t (ix2 k x) = m ((c : Thread nD τ).loc main_arg1) (ix2 (place t k) (col t x)) := by
  have e := (idx t).2.1
  blk_ext [iblk, V, e, place, col]

theorem blk_h (t : Fin cfg0.N) (r x : Fin 1024) :
    iblk m c 2 t (ix2 r x) = m ((c : Thread nD τ).loc main_arg2) (ix2 (row t r) (col t x)) := by
  have e := (idx t).2.2.1
  blk_ext [iblk, V, e, row, col]

/-- What a point adds to its block. -/
def partOf (a : S4096x4096.Idx → EReal) (w : S4096x2048.Idx → EReal) (t : Fin cfg0.N) (r x : Fin 1024) : EReal :=
  ∑ k : Fin 2048, a (ix2 (row t r) (place t k)) * w (ix2 (place t k) (col t x))

def part (t : Fin cfg0.N) (r x : Fin 1024) : EReal :=
  partOf (m ((c : Thread nD τ).loc main_arg0)) (m ((c : Thread nD τ).loc main_arg1)) t r x

theorem part_at (t : Fin cfg0.N) (r x : Fin 1024) : k0_pay1 (iblk m c 0 t) (iblk m c 1 t) (ix2 r x) = part m c t r x := by
  refine (dot_at (iblk m c 0 t) (iblk m c 1 t) r x).trans ?_
  unfold part partOf
  refine Finset.sum_congr rfl fun k _ => ?_
  rw [blk_a, blk_w]

/-- The first point of a run starts from `h`'s block. -/
theorem first (t : Fin cfg0.N) (h : t.val % 2 = 0) (r x : Fin 1024) :
    outsAt0 m c t.val t.isLt (ix2 r x) = part m c t r x + iblk m c 2 t (ix2 r x) := by
  rw [outsAt0_A m c t h (by omega)]
  frame_out
  rw [← part_at m c t r x]
  pointwise [k0_pay2]

theorem next (t : Fin cfg0.N) (h : t.val % 2 = 1) (r x : Fin 1024) :
    outsAt0 m c t.val t.isLt (ix2 r x) = outsAt0 m c (t.val - 1) (Nat.lt_of_le_of_lt (Nat.sub_le _ _) t.isLt) (ix2 r x) + part m c t r x := by
  rw [outsAt0_B m c t (by omega) h]
  frame_out
  rw [← part_at m c t r x]
  pointwise [k0_pay3]

/-- The array the kernel leaves is the whole product on top of `h`. -/
def out : S4096x2048.Idx → EReal :=
  product (m ((c : Thread nD τ).loc main_arg0)) (m ((c : Thread nD τ).loc main_arg1)) (m ((c : Thread nD τ).loc main_arg2))

theorem halves (a : S4096x4096.Idx → EReal) (w : S4096x2048.Idx → EReal) (t' t : Fin cfg0.N) (h : t.val % 2 = 1)
    (ht : t'.val = t.val - 1) (r x : Fin 1024) :
    partOf a w t' r x + partOf a w t r x = ∑ k : Fin 4096, a (ix2 (row t r) k) * w (ix2 k (col t x)) := by
  refine Eq.trans ?_ (Fin.sum_mul_add_fin 2 2048 _)
  rw [Fin.sum_univ_two]
  unfold partOf
  have h0 : (t.val - 1) % 2 = 0 := by omega
  have h4 : (t.val - 1) / 4 = t.val / 4 := by omega
  have h2 : (t.val - 1) / 2 = t.val / 2 := by omega
  simp only [row, col, place, ht, h, h0, h4, h2]
  rfl

theorem product_at (a : S4096x4096.Idx → EReal) (w : S4096x2048.Idx → EReal) (h : S4096x2048.Idx → EReal) (t' t : Fin cfg0.N)
    (ht : t.val % 2 = 1) (e : t'.val = t.val - 1) (r x : Fin 1024) :
    partOf a w t' r x + h (ix2 (row t r) (col t x)) + partOf a w t r x = product a w h (ix2 (row t r) (col t x)) := by
  unfold product
  refine Eq.trans ?_ (congrArg (h (ix2 (row t r) (col t x)) + ·) (halves a w t' t ht e r x))
  rw [← add_assoc, add_comm (partOf a w t' r x)]

theorem left_at (t : Fin cfg0.N) (h : t.val % 2 = 1) (r x : Fin 1024) :
    outsAt0 m c t.val t.isLt (ix2 r x) = out m c (ix2 (row t r) (col t x)) := by
  have e := first m c ⟨t.val - 1, Nat.lt_of_le_of_lt (Nat.sub_le _ _) t.isLt⟩ (by dsimp only; omega) r x
  dsimp only at e
  rw [next m c t h r x, e, blk_h]
  have hr : row ⟨t.val - 1, Nat.lt_of_le_of_lt (Nat.sub_le _ _) t.isLt⟩ r = row t r := by
    have : (t.val - 1) / 4 = t.val / 4 := by omega
    simp only [row, this]
  have hc : col ⟨t.val - 1, Nat.lt_of_le_of_lt (Nat.sub_le _ _) t.isLt⟩ x = col t x := by
    have : (t.val - 1) / 2 = t.val / 2 := by omega
    simp only [col, this]
  rw [hr, hc]
  exact product_at _ _ _ ⟨t.val - 1, Nat.lt_of_le_of_lt (Nat.sub_le _ _) t.isLt⟩ t h rfl r x

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r x : Fin 1024), y = ix2 r x := ⟨y 0, y 1, eq_ix2 y⟩
  have eb : ((cfg0.win 3).blk t).view.emb (ix2 r x) = ix2 (row t r) (col t x) := by blk_ext [e, row, col]
  rw [eb]
  have L := left_at m c t ((flush0_3 t).mp hf) r x
  generalize outsAt0 m c t.val t.isLt = f at L ⊢
  exact L

end Cert.OutIdeal.Mix

namespace Cert.OutRefIdeal.Mix

open Cert.OutRefIdeal Cert.OutRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems (by decide) _⟩

end Cert.OutRefIdeal.Mix

theorem Cert.OutIdeal.Mix.algebraic : Cert.algebraic_OutIdeal_OutRefIdeal := by
  pair_intro
  · run_from Cert.OutIdeal.Value.run_blocks m g
  · run_from Cert.OutRefIdeal.Value.run m' g'
    rw [Cert.OutIdeal.Mix.arr m c]
    funext y
    unfold Cert.OutIdeal.Mix.out Cert.OutIdeal.Mix.product
    pointwise

end
-- ==== Proof.Mix.ProjV.lean ====
/- The projection to the values: `n · w`, rounded to bfloat16, one block of the result per grid point. -/
module

public import proofs.«01_k».proof.Defs
public import proofs.«01_k».proof.Proof.Gen.ProjVIdeal.Value
public import proofs.«01_k».proof.Proof.Gen.ProjVRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ProjVIdeal.Mix

open Cert.ProjVIdeal Cert.ProjVIdeal.Gen

/-- The whole product. -/
def product (d : S4096x2048.Idx → EReal) (w : S2048x2048.Idx → EReal) : S4096x2048.Idx → EReal :=
  fun y => ∑ k : Fin 2048, d (ix2 (y 0) k) * w (ix2 k (y 1))

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem part (x0 : Vec Ideal S1024x2048 .bf16) (x1 : Vec Ideal S2048x1024 .bf16) (r : Fin 1024) (x : Fin 1024) :
    out0_2 x0 x1 (ix2 r x) = ∑ k : Fin 2048, x0 (ix2 r k) * x1 (ix2 k x) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 2 * 1024 + r.val, by have := Nat.lt_of_lt_of_eq t.isLt N_0; omega⟩
def col (t : Fin cfg0.N) (x : Fin 1024) : Fin 2048 := ⟨t.val % 2 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) (x : Fin 1024) : iblk m c 1 t (ix2 k x) = m ((c : Thread nD τ).loc main_arg1) (ix2 k (col t x)) := by
  have e := (idx t).2.1
  blk_ext [iblk, V, e, col]

/-- The array the kernel leaves is the whole product. -/
def out : S4096x2048.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.ProjVIdeal.Mix

namespace Cert.ProjVRefIdeal.Mix

open Cert.ProjVRefIdeal Cert.ProjVRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ProjVRefIdeal.Mix

theorem Cert.ProjVIdeal.Mix.algebraic : Cert.algebraic_ProjVIdeal_ProjVRefIdeal := by
  pair_intro
  · run_from Cert.ProjVIdeal.Value.run_blocks m g
  · run_from Cert.ProjVRefIdeal.Value.run m' g'
    rw [Cert.ProjVIdeal.Mix.arr m c]
    funext y
    unfold Cert.ProjVIdeal.Mix.out Cert.ProjVIdeal.Mix.product
    pointwise

end
-- ==== Proof.Mix.ProjVDx.lean ====
/- The gradient by the projection's input through the values, on top of the one through the keys: `dn + dv · wᵀ`, one block
   of the result per grid point. -/
module

public import proofs.«01_k».proof.Defs
public import proofs.«01_k».proof.Proof.Gen.ProjVDxIdeal.Value
public import proofs.«01_k».proof.Proof.Gen.ProjVDxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ProjVDxIdeal.Mix

open Cert.ProjVDxIdeal Cert.ProjVDxIdeal.Gen

/-- The whole product on top of `h` of two arrays that share their second axis. -/
def product (d : S4096x2048.Idx → EReal) (w : S2048x2048.Idx → EReal) (h : S4096x2048.Idx → EReal) : S4096x2048.Idx → EReal :=
  fun y => h y + ∑ k : Fin 2048, d (ix2 (y 0) k) * w (ix2 (y 1) k)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

theorem part (x0 : Vec Ideal S1024x2048 .bf16) (x1 : Vec Ideal S1024x2048 .bf16) (x2 : Vec Ideal S1024x1024 .f32) (r : Fin 1024) (x : Fin 1024) :
    out0_3 x0 x1 x2 (ix2 r x) = x2 (ix2 r x) + ∑ k : Fin 2048, x0 (ix2 r k) * x1 (ix2 x k) := by
  unfold out0_3
  rw [View.canon_unit_zero, View.ld_unit_zero, View.ld_unit_zero, View.ld_unit_zero]
  · refine Eq.trans ?_ (add_comm _ _)
    pointwise [k0_pay1]
  all_goals exact funext fun a => by fin_cases a <;> rfl

/-- The row block and the column block of a point. -/
def row (t : Fin cfg0.N) (r : Fin 1024) : Fin 4096 := ⟨t.val / 2 * 1024 + r.val, by have := Nat.lt_of_lt_of_eq t.isLt N_0; omega⟩
def col (t : Fin cfg0.N) (x : Fin 1024) : Fin 2048 := ⟨t.val % 2 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (x : Fin 1024) (k : Fin 2048) : iblk m c 1 t (ix2 x k) = m ((c : Thread nD τ).loc main_arg1) (ix2 (col t x) k) := by
  have e := (idx t).2.1
  blk_ext [iblk, V, e, col]

theorem blk_h (t : Fin cfg0.N) (r x : Fin 1024) :
    iblk m c 2 t (ix2 r x) = m ((c : Thread nD τ).loc main_arg2) (ix2 (row t r) (col t x)) := by
  have e := (idx t).2.2.1
  blk_ext [iblk, V, e, row, col]

/-- The array the kernel leaves is the whole product. -/
def out : S4096x2048.Idx → EReal :=
  product (m ((c : Thread nD τ).loc main_arg0)) (m ((c : Thread nD τ).loc main_arg1)) (m ((c : Thread nD τ).loc main_arg2))

theorem left_at (t : Fin cfg0.N) (r : Fin 1024) (x : Fin 1024) :
    out0_3 (iblk m c 0 t) (iblk m c 1 t) (iblk m c 2 t) (ix2 r x) = out m c (ix2 (row t r) (col t x)) := by
  refine (part (iblk m c 0 t) (iblk m c 1 t) (iblk m c 2 t) r x).trans ?_
  unfold out product
  rw [blk_h]
  refine congrArg (@HAdd.hAdd EReal EReal EReal _ _) (Finset.sum_congr rfl fun k _ => ?_)
  rw [blk_d, blk_w]
  rfl

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r : Fin 1024) (x : Fin 1024), y = ix2 r x := ⟨y 0, y 1, eq_ix2 y⟩
  have eb : ((cfg0.win 3).blk t).view.emb (ix2 r x) = ix2 (row t r) (col t x) := by blk_ext [e, row, col]
  rw [eb]
  have L := left_at m c t r x
  generalize out0_3 (iblk m c 0 t) (iblk m c 1 t) (iblk m c 2 t) = f at L ⊢
  exact L

end Cert.ProjVDxIdeal.Mix

namespace Cert.ProjVDxRefIdeal.Mix

open Cert.ProjVDxRefIdeal Cert.ProjVDxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems (by decide) _⟩

end Cert.ProjVDxRefIdeal.Mix

theorem Cert.ProjVDxIdeal.Mix.algebraic : Cert.algebraic_ProjVDxIdeal_ProjVDxRefIdeal := by
  pair_intro
  · run_from Cert.ProjVDxIdeal.Value.run_blocks m g
  · run_from Cert.ProjVDxRefIdeal.Value.run m' g'
    rw [Cert.ProjVDxIdeal.Mix.arr m c]
    funext y
    unfold Cert.ProjVDxIdeal.Mix.out Cert.ProjVDxIdeal.Mix.product
    pointwise

end
-- ==== Proof.Mix.ProjO.lean ====
/- The attention's output projection onto the residual: `h + o · w`, one block of the result per grid point. -/
module

public import proofs.«01_k».proof.Defs
public import proofs.«01_k».proof.Proof.Gen.ProjOIdeal.Value
public import proofs.«01_k».proof.Proof.Gen.ProjORefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ProjOIdeal.Mix

open Cert.ProjOIdeal Cert.ProjOIdeal.Gen

/-- The whole product on top of `h`. -/
def product (d : S4096x2048.Idx → EReal) (w : S2048x2048.Idx → EReal) (h : S4096x2048.Idx → EReal) : S4096x2048.Idx → EReal :=
  fun y => h y + ∑ k : Fin 2048, d (ix2 (y 0) k) * w (ix2 k (y 1))

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

theorem part (x0 : Vec Ideal S1024x2048 .bf16) (x1 : Vec Ideal S2048x1024 .bf16) (x2 : Vec Ideal S1024x1024 .f32) (r : Fin 1024) (x : Fin 1024) :
    out0_3 x0 x1 x2 (ix2 r x) = x2 (ix2 r x) + ∑ k : Fin 2048, x0 (ix2 r k) * x1 (ix2 k x) := by
  unfold out0_3
  rw [View.canon_unit_zero, View.ld_unit_zero, View.ld_unit_zero, View.ld_unit_zero]
  · refine Eq.trans ?_ (add_comm _ _)
    pointwise [k0_pay1]
  all_goals exact funext fun a => by fin_cases a <;> rfl

/-- The row block and the column block of a point. -/
def row (t : Fin cfg0.N) (r : Fin 1024) : Fin 4096 := ⟨t.val / 2 * 1024 + r.val, by have := Nat.lt_of_lt_of_eq t.isLt N_0; omega⟩
def col (t : Fin cfg0.N) (x : Fin 1024) : Fin 2048 := ⟨t.val % 2 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (k : Fin 2048) (x : Fin 1024) : iblk m c 1 t (ix2 k x) = m ((c : Thread nD τ).loc main_arg1) (ix2 k (col t x)) := by
  have e := (idx t).2.1
  blk_ext [iblk, V, e, col]

theorem blk_h (t : Fin cfg0.N) (r x : Fin 1024) :
    iblk m c 2 t (ix2 r x) = m ((c : Thread nD τ).loc main_arg2) (ix2 (row t r) (col t x)) := by
  have e := (idx t).2.2.1
  blk_ext [iblk, V, e, row, col]

/-- The array the kernel leaves is the whole product. -/
def out : S4096x2048.Idx → EReal :=
  product (m ((c : Thread nD τ).loc main_arg0)) (m ((c : Thread nD τ).loc main_arg1)) (m ((c : Thread nD τ).loc main_arg2))

theorem left_at (t : Fin cfg0.N) (r : Fin 1024) (x : Fin 1024) :
    out0_3 (iblk m c 0 t) (iblk m c 1 t) (iblk m c 2 t) (ix2 r x) = out m c (ix2 (row t r) (col t x)) := by
  refine (part (iblk m c 0 t) (iblk m c 1 t) (iblk m c 2 t) r x).trans ?_
  unfold out product
  rw [blk_h]
  refine congrArg (@HAdd.hAdd EReal EReal EReal _ _) (Finset.sum_congr rfl fun k _ => ?_)
  rw [blk_d, blk_w]
  rfl

theorem arr : (dats m 0 c).arrAt 3 cfg0.N = out m c := by
  refine (dats m 0 c).arrAt_eq_of_covers 3 (out m c) (by decide +kernel) fun t hf y => ?_
  have e := (idx t).2.2.2
  rw [after0_3]
  obtain ⟨r, x, rfl⟩ : ∃ (r : Fin 1024) (x : Fin 1024), y = ix2 r x := ⟨y 0, y 1, eq_ix2 y⟩
  have eb : ((cfg0.win 3).blk t).view.emb (ix2 r x) = ix2 (row t r) (col t x) := by blk_ext [e, row, col]
  rw [eb]
  have L := left_at m c t r x
  generalize out0_3 (iblk m c 0 t) (iblk m c 1 t) (iblk m c 2 t) = f at L ⊢
  exact L

end Cert.ProjOIdeal.Mix

namespace Cert.ProjORefIdeal.Mix

open Cert.ProjORefIdeal Cert.ProjORefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems (by decide) _⟩

end Cert.ProjORefIdeal.Mix

theorem Cert.ProjOIdeal.Mix.algebraic : Cert.algebraic_ProjOIdeal_ProjORefIdeal := by
  pair_intro
  · run_from Cert.ProjOIdeal.Value.run_blocks m g
  · run_from Cert.ProjORefIdeal.Value.run m' g'
    rw [Cert.ProjOIdeal.Mix.arr m c]
    funext y
    unfold Cert.ProjOIdeal.Mix.out Cert.ProjOIdeal.Mix.product
    pointwise

end
-- ==== Proof.Mix.ProjODx.lean ====
/- The gradient by the attention's output: `dh · wᵀ`, rounded to bfloat16, one block of the result per grid point. -/
module

public import proofs.«01_k».proof.Defs
public import proofs.«01_k».proof.Proof.Gen.ProjODxIdeal.Value
public import proofs.«01_k».proof.Proof.Gen.ProjODxRefIdeal.Run
public import Idealize.ShloMosaic.Lib.Claim
public import Idealize.ShloMosaic.Lib.Quiescent
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Pipeline Idealize.SL.Sem

namespace Cert.ProjODxIdeal.Mix

open Cert.ProjODxIdeal Cert.ProjODxIdeal.Gen

/-- The whole product of two arrays that share their second axis. -/
def product (d : S4096x2048.Idx → EReal) (w : S2048x2048.Idx → EReal) : S4096x2048.Idx → EReal :=
  fun y => ∑ k : Fin 2048, d (ix2 (y 0) k) * w (ix2 (y 1) k)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem part (x0 : Vec Ideal S1024x2048 .bf16) (x1 : Vec Ideal S1024x2048 .bf16) (r : Fin 1024) (x : Fin 1024) :
    out0_2 x0 x1 (ix2 r x) = ∑ k : Fin 2048, x0 (ix2 r k) * x1 (ix2 x k) := by
  unfold out0_2
  rw [View.canon_unit_zero, View.ld_unit_zero, View.ld_unit_zero]
  · pointwise [k0_pay1]
  all_goals exact funext fun a => by fin_cases a <;> rfl

/-- The row block and the column block of a point. -/
def row (t : Fin cfg0.N) (r : Fin 1024) : Fin 4096 := ⟨t.val / 2 * 1024 + r.val, by have := Nat.lt_of_lt_of_eq t.isLt N_0; omega⟩
def col (t : Fin cfg0.N) (x : Fin 1024) : Fin 2048 := ⟨t.val % 2 * 1024 + x.val, by omega⟩

variable (m : (ℓ : Loc nD τ sig) → Buf (Elt Ideal) ℓ) (c : Dev nD)

theorem blk_d (t : Fin cfg0.N) (r : Fin 1024) (k : Fin 2048) : iblk m c 0 t (ix2 r k) = m ((c : Thread nD τ).loc main_arg0) (ix2 (row t r) k) := by
  have e := (idx t).1
  blk_ext [iblk, V, e, row]

theorem blk_w (t : Fin cfg0.N) (x : Fin 1024) (k : Fin 2048) : iblk m c 1 t (ix2 x k) = m ((c : Thread nD τ).loc main_arg1) (ix2 (col t x) k) := by
  have e := (idx t).2.1
  blk_ext [iblk, V, e, col]

/-- The array the kernel leaves is the whole product. -/
def out : S4096x2048.Idx → EReal := product (m ((c : Thread nD τ).loc main_arg0)) (m ((c : Thread nD τ).loc main_arg1))

theorem left_at (t : Fin cfg0.N) (r : Fin 1024) (x : Fin 1024) :
    out0_2 (iblk m c 0 t) (iblk m c 1 t) (ix2 r x) = out m c (ix2 (row t r) (col t x)) := by
  refine (part (iblk m c 0 t) (iblk m c 1 t) r x).trans ?_
  unfold out product
  refine Finset.sum_congr rfl fun k _ => ?_
  rw [blk_d, blk_w]
  rfl

theorem arr : (dats m 0 c).arrAt 2 cfg0.N = out m c := by
  refine (dats m 0 c).arrAt_eq_of_covers 2 (out m c) (by decide +kernel) fun t hf y => ?_
  have e := (idx t).2.2
  rw [after0_2]
  obtain ⟨r, x, rfl⟩ : ∃ (r : Fin 1024) (x : Fin 1024), y = ix2 r x := ⟨y 0, y 1, eq_ix2 y⟩
  have eb : ((cfg0.win 2).blk t).view.emb (ix2 r x) = ix2 (row t r) (col t x) := by blk_ext [e, row, col]
  rw [eb]
  have L := left_at m c t r x
  generalize out0_2 (iblk m c 0 t) (iblk m c 1 t) = f at L ⊢
  exact L

end Cert.ProjODxIdeal.Mix

namespace Cert.ProjODxRefIdeal.Mix

open Cert.ProjODxRefIdeal Cert.ProjODxRefIdeal.Gen

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems (by decide) _⟩

end Cert.ProjODxRefIdeal.Mix

theorem Cert.ProjODxIdeal.Mix.algebraic : Cert.algebraic_ProjODxIdeal_ProjODxRefIdeal := by
  pair_intro
  · run_from Cert.ProjODxIdeal.Value.run_blocks m g
  · run_from Cert.ProjODxRefIdeal.Value.run m' g'
    rw [Cert.ProjODxIdeal.Mix.arr m c]
    funext y
    unfold Cert.ProjODxIdeal.Mix.out Cert.ProjODxIdeal.Mix.product
    pointwise

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActDx
public import proofs.«01_k».proof.Proof.Gen.ActDx.Frame
public import proofs.«01_k».proof.Proof.Gen.ActDxIdeal
public import proofs.«01_k».proof.Proof.Gen.ActDxIdeal.Frame
public import proofs.«01_k».proof.Proof.Gen.ActDxIdeal.Value
public import proofs.«01_k».proof.Proof.Gen.ActDxRefIdeal
public import proofs.«01_k».proof.Proof.Gen.ActDxRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormDx
public import proofs.«01_k».proof.Proof.Gen.NormDx.Frame
public import proofs.«01_k».proof.Proof.Gen.NormDxIdeal
public import proofs.«01_k».proof.Proof.Gen.NormDxIdeal.Frame
public import proofs.«01_k».proof.Proof.Gen.NormDxIdeal.Value
public import proofs.«01_k».proof.Proof.Gen.NormDxRefIdeal
public import proofs.«01_k».proof.Proof.Gen.NormDxRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.XbcDw
public import proofs.«01_k».proof.Proof.Gen.XbcDw.Frame
public import proofs.«01_k».proof.Proof.Gen.XbcDwIdeal
public import proofs.«01_k».proof.Proof.Gen.XbcDwIdeal.Frame
public import proofs.«01_k».proof.Proof.Gen.XbcDwIdeal.Value
public import proofs.«01_k».proof.Proof.Gen.XbcDwRefIdeal
public import proofs.«01_k».proof.Proof.Gen.XbcDwRefIdeal.Run
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.Z
public import proofs.«01_k».proof.Proof.Gen.Z.Frame
public import proofs.«01_k».proof.Proof.Gen.ZIdeal
public import proofs.«01_k».proof.Proof.Gen.ZIdeal.Frame
public import proofs.«01_k».proof.Proof.Gen.ZIdeal.Value
public import proofs.«01_k».proof.Proof.Gen.ZRefIdeal
public import proofs.«01_k».proof.Proof.Gen.ZRefIdeal.Run
public import proofs.«01_k».proof.Proof.Gen.ZDw
public import proofs.«01_k».proof.Proof.Gen.ZDw.Frame
public import proofs.«01_k».proof.Proof.Gen.ZDwIdeal
public import proofs.«01_k».proof.Proof.Gen.ZDwIdeal.Frame
public import proofs.«01_k».proof.Proof.Gen.ZDwIdeal.Value
public import proofs.«01_k».proof.Proof.Gen.ZDwRefIdeal
public import proofs.«01_k».proof.Proof.Gen.ZDwRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Xbc
public import proofs.«01_k».proof.Proof.Gen.Xbc.Frame
public import proofs.«01_k».proof.Proof.Gen.XbcIdeal
public import proofs.«01_k».proof.Proof.Gen.XbcIdeal.Frame
public import proofs.«01_k».proof.Proof.Gen.XbcIdeal.Value
public import proofs.«01_k».proof.Proof.Gen.XbcRefIdeal
public import proofs.«01_k».proof.Proof.Gen.XbcRefIdeal.Run
public import proofs.«01_k».proof.Proof.Gen.XbcDx
public import proofs.«01_k».proof.Proof.Gen.XbcDx.Frame
public import proofs.«01_k».proof.Proof.Gen.XbcDxIdeal
public import proofs.«01_k».proof.Proof.Gen.XbcDxIdeal.Frame
public import proofs.«01_k».proof.Proof.Gen.XbcDxIdeal.Value
public import proofs.«01_k».proof.Proof.Gen.XbcDxRefIdeal
public import proofs.«01_k».proof.Proof.Gen.XbcDxRefIdeal.Run
public import proofs.«01_k».proof.Proof.Gen.ZDx
public import proofs.«01_k».proof.Proof.Gen.ZDx.Frame
public import proofs.«01_k».proof.Proof.Gen.ZDxIdeal
public import proofs.«01_k».proof.Proof.Gen.ZDxIdeal.Frame
public import proofs.«01_k».proof.Proof.Gen.ZDxIdeal.Value
public import proofs.«01_k».proof.Proof.Gen.ZDxRefIdeal
public import proofs.«01_k».proof.Proof.Gen.ZDxRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.ProjV
public import proofs.«01_k».proof.Proof.Gen.ProjV.Frame
public import proofs.«01_k».proof.Proof.Gen.ProjVIdeal
public import proofs.«01_k».proof.Proof.Gen.ProjVIdeal.Frame
public import proofs.«01_k».proof.Proof.Gen.ProjVIdeal.Value
public import proofs.«01_k».proof.Proof.Gen.ProjVRefIdeal
public import proofs.«01_k».proof.Proof.Gen.ProjVRefIdeal.Run
public import proofs.«01_k».proof.Proof.Gen.ProjVDx
public import proofs.«01_k».proof.Proof.Gen.ProjVDx.Frame
public import proofs.«01_k».proof.Proof.Gen.ProjVDxIdeal
public import proofs.«01_k».proof.Proof.Gen.ProjVDxIdeal.Frame
public import proofs.«01_k».proof.Proof.Gen.ProjVDxIdeal.Value
public import proofs.«01_k».proof.Proof.Gen.ProjVDxRefIdeal
public import proofs.«01_k».proof.Proof.Gen.ProjVDxRefIdeal.Run
public import proofs.«01_k».proof.Proof.Gen.ProjO
public import proofs.«01_k».proof.Proof.Gen.ProjO.Frame
public import proofs.«01_k».proof.Proof.Gen.ProjOIdeal
public import proofs.«01_k».proof.Proof.Gen.ProjOIdeal.Frame
public import proofs.«01_k».proof.Proof.Gen.ProjOIdeal.Value
public import proofs.«01_k».proof.Proof.Gen.ProjORefIdeal
public import proofs.«01_k».proof.Proof.Gen.ProjORefIdeal.Run
public import proofs.«01_k».proof.Proof.Gen.ProjODx
public import proofs.«01_k».proof.Proof.Gen.ProjODx.Frame
public import proofs.«01_k».proof.Proof.Gen.ProjODxIdeal
public import proofs.«01_k».proof.Proof.Gen.ProjODxIdeal.Frame
public import proofs.«01_k».proof.Proof.Gen.ProjODxIdeal.Value
public import proofs.«01_k».proof.Proof.Gen.ProjODxRefIdeal
public import proofs.«01_k».proof.Proof.Gen.ProjODxRefIdeal.Run
public import proofs.«01_k».proof.Proof.Att.Dats
public import proofs.«01_k».proof.Proof.Att.Frames
public import proofs.«01_k».proof.Proof.Att.Finite
public import proofs.«01_k».proof.Proof.Att.Algebraic
public import proofs.«01_k».proof.Proof.Words.Dats
public import proofs.«01_k».proof.Proof.Ffn.UpDw
public import proofs.«01_k».proof.Proof.Ffn.UpDx
public import proofs.«01_k».proof.Proof.Ffn.DownDw
public import proofs.«01_k».proof.Proof.Ffn.DownDx
public import proofs.«01_k».proof.Proof.Ffn.Up
public import proofs.«01_k».proof.Proof.Ffn.Down
public import proofs.«01_k».proof.Proof.Ffn.Act
public import proofs.«01_k».proof.Proof.Ffn.ActDx
public import proofs.«01_k».proof.Proof.Mix.Norm
public import proofs.«01_k».proof.Proof.Mix.NormDx
public import proofs.«01_k».proof.Proof.Mix.Proj
public import proofs.«01_k».proof.Proof.Mix.ProjDw
public import proofs.«01_k».proof.Proof.Mix.ProjDx
public import proofs.«01_k».proof.Proof.Mix.XbcDw
public import proofs.«01_k».proof.Proof.Mix.OutDw
public import proofs.«01_k».proof.Proof.Mix.OutDx
public import proofs.«01_k».proof.Proof.Mix.Z
public import proofs.«01_k».proof.Proof.Mix.ZDw
public import proofs.«01_k».proof.Proof.Mix.Conv
public import proofs.«01_k».proof.Proof.Mix.Xbc
public import proofs.«01_k».proof.Proof.Mix.XbcDx
public import proofs.«01_k».proof.Proof.Mix.ZDx
public import proofs.«01_k».proof.Proof.Mix.Out
public import proofs.«01_k».proof.Proof.Mix.ProjV
public import proofs.«01_k».proof.Proof.Mix.ProjVDx
public import proofs.«01_k».proof.Proof.Mix.ProjO
public import proofs.«01_k».proof.Proof.Mix.ProjODx
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Act.Gen.facts, Cert.ActIdeal.Gen.facts, Cert.ActRefIdeal.Gen.facts,
  Cert.Norm.Gen.facts, Cert.NormIdeal.Gen.facts, Cert.NormRefIdeal.Gen.facts,
  Cert.NormDx.Gen.facts, Cert.NormDxIdeal.Gen.facts, Cert.NormDxRefIdeal.Gen.facts,
  Cert.Proj.Gen.facts, Cert.ProjIdeal.Gen.facts, Cert.ProjRefIdeal.Gen.facts,
  Cert.ProjDw.Gen.facts, Cert.ProjDwIdeal.Gen.facts, Cert.ProjDwRefIdeal.Gen.facts,
  Cert.ProjDx.Gen.facts, Cert.ProjDxIdeal.Gen.facts, Cert.ProjDxRefIdeal.Gen.facts,
  Cert.XbcDw.Gen.facts, Cert.XbcDwIdeal.Gen.facts, Cert.XbcDwRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.Z.Gen.facts, Cert.ZIdeal.Gen.facts, Cert.ZRefIdeal.Gen.facts,
  Cert.ZDw.Gen.facts, Cert.ZDwIdeal.Gen.facts, Cert.ZDwRefIdeal.Gen.facts,
  Cert.Conv.Gen.facts, Cert.ConvIdeal.Gen.facts, Cert.ConvRefIdeal.Gen.facts,
  Cert.Xbc.Gen.facts, Cert.XbcIdeal.Gen.facts, Cert.XbcRefIdeal.Gen.facts,
  Cert.XbcDx.Gen.facts, Cert.XbcDxIdeal.Gen.facts, Cert.XbcDxRefIdeal.Gen.facts,
  Cert.ZDx.Gen.facts, Cert.ZDxIdeal.Gen.facts, Cert.ZDxRefIdeal.Gen.facts,
  Cert.Out.Gen.facts, Cert.OutIdeal.Gen.facts, Cert.OutRefIdeal.Gen.facts,
  Cert.ProjV.Gen.facts, Cert.ProjVIdeal.Gen.facts, Cert.ProjVRefIdeal.Gen.facts,
  Cert.ProjVDx.Gen.facts, Cert.ProjVDxIdeal.Gen.facts, Cert.ProjVDxRefIdeal.Gen.facts,
  Cert.ProjO.Gen.facts, Cert.ProjOIdeal.Gen.facts, Cert.ProjORefIdeal.Gen.facts,
  Cert.ProjODx.Gen.facts, Cert.ProjODxIdeal.Gen.facts, Cert.ProjODxRefIdeal.Gen.facts,
  Cert.ActDx.Gen.facts, Cert.ActDxIdeal.Gen.facts, Cert.ActDxRefIdeal.Gen.facts,
  Cert.Pre_finite_inputs.Att.facts, Cert.Pre_finite_gate.Ffn.facts,
  fun m ρ _ => Cert.Kernel.Att.frame m ρ,
  fun m ρ _ => Cert.KernelIdeal.Att.frame m ρ,
  fun m ρ _ => Cert.KernelIdeal.Att.frame m ρ,
  fun m ρ _ => Cert.ReferenceIdeal.Att.frame m ρ,
  fun m ρ _ => Cert.ReferenceIdeal.Att.frame m ρ,
  fun m ρ _ => Cert.UpDw.Gen.frame m ρ, fun m ρ _ => Cert.UpDwIdeal.Gen.frame m ρ, fun m ρ _ => Cert.UpDwRefIdeal.Ffn.frame m ρ,
  fun m ρ _ => Cert.UpDx.Gen.frame m ρ, fun m ρ _ => Cert.UpDxIdeal.Gen.frame m ρ, fun m ρ _ => Cert.UpDxRefIdeal.Ffn.frame m ρ,
  fun m ρ _ => Cert.DownDw.Gen.frame m ρ, fun m ρ _ => Cert.DownDwIdeal.Gen.frame m ρ, fun m ρ _ => Cert.DownDwRefIdeal.Ffn.frame m ρ,
  fun m ρ _ => Cert.DownDx.Gen.frame m ρ, fun m ρ _ => Cert.DownDxIdeal.Gen.frame m ρ, fun m ρ _ => Cert.DownDxRefIdeal.Ffn.frame m ρ,
  fun m ρ _ => Cert.Up.Gen.frame m ρ, fun m ρ _ => Cert.UpIdeal.Gen.frame m ρ, fun m ρ _ => Cert.UpRefIdeal.Ffn.frame m ρ,
  fun m ρ _ => Cert.Down.Gen.frame m ρ, fun m ρ _ => Cert.DownIdeal.Gen.frame m ρ, fun m ρ _ => Cert.DownRefIdeal.Ffn.frame m ρ,
  fun m ρ _ => Cert.Act.Gen.frame m ρ, fun m ρ _ => Cert.ActIdeal.Gen.frame m ρ, fun m ρ _ => Cert.ActRefIdeal.Ffn.frame m ρ,
  fun m ρ _ => Cert.Norm.Gen.frame m ρ, fun m ρ _ => Cert.NormIdeal.Gen.frame m ρ, fun m ρ _ => Cert.NormRefIdeal.Mix.frame m ρ,
  fun m ρ _ => Cert.NormDx.Gen.frame m ρ, fun m ρ _ => Cert.NormDxIdeal.Gen.frame m ρ, fun m ρ _ => Cert.NormDxRefIdeal.Mix.frame m ρ,
  fun m ρ _ => Cert.Proj.Gen.frame m ρ, fun m ρ _ => Cert.ProjIdeal.Gen.frame m ρ, fun m ρ _ => Cert.ProjRefIdeal.Mix.frame m ρ,
  fun m ρ _ => Cert.ProjDw.Gen.frame m ρ, fun m ρ _ => Cert.ProjDwIdeal.Gen.frame m ρ, fun m ρ _ => Cert.ProjDwRefIdeal.Mix.frame m ρ,
  fun m ρ _ => Cert.ProjDx.Gen.frame m ρ, fun m ρ _ => Cert.ProjDxIdeal.Gen.frame m ρ, fun m ρ _ => Cert.ProjDxRefIdeal.Mix.frame m ρ,
  fun m ρ _ => Cert.XbcDw.Gen.frame m ρ, fun m ρ _ => Cert.XbcDwIdeal.Gen.frame m ρ, fun m ρ _ => Cert.XbcDwRefIdeal.Mix.frame m ρ,
  fun m ρ _ => Cert.OutDw.Gen.frame m ρ, fun m ρ _ => Cert.OutDwIdeal.Gen.frame m ρ, fun m ρ _ => Cert.OutDwRefIdeal.Mix.frame m ρ,
  fun m ρ _ => Cert.OutDx.Gen.frame m ρ, fun m ρ _ => Cert.OutDxIdeal.Gen.frame m ρ, fun m ρ _ => Cert.OutDxRefIdeal.Mix.frame m ρ,
  fun m ρ _ => Cert.Z.Gen.frame m ρ, fun m ρ _ => Cert.ZIdeal.Gen.frame m ρ, fun m ρ _ => Cert.ZRefIdeal.Mix.frame m ρ,
  fun m ρ _ => Cert.ZDw.Gen.frame m ρ, fun m ρ _ => Cert.ZDwIdeal.Gen.frame m ρ, fun m ρ _ => Cert.ZDwRefIdeal.Mix.frame m ρ,
  fun m ρ _ => Cert.Conv.Gen.frame m ρ, fun m ρ _ => Cert.ConvIdeal.Gen.frame m ρ, fun m ρ _ => Cert.ConvRefIdeal.Mix.frame m ρ,
  fun m ρ _ => Cert.Xbc.Gen.frame m ρ, fun m ρ _ => Cert.XbcIdeal.Gen.frame m ρ, fun m ρ _ => Cert.XbcRefIdeal.Mix.frame m ρ,
  fun m ρ _ => Cert.XbcDx.Gen.frame m ρ, fun m ρ _ => Cert.XbcDxIdeal.Gen.frame m ρ, fun m ρ _ => Cert.XbcDxRefIdeal.Mix.frame m ρ,
  fun m ρ _ => Cert.ZDx.Gen.frame m ρ, fun m ρ _ => Cert.ZDxIdeal.Gen.frame m ρ, fun m ρ _ => Cert.ZDxRefIdeal.Mix.frame m ρ,
  fun m ρ _ => Cert.Out.Gen.frame m ρ, fun m ρ _ => Cert.OutIdeal.Gen.frame m ρ, fun m ρ _ => Cert.OutRefIdeal.Mix.frame m ρ,
  fun m ρ _ => Cert.ProjV.Gen.frame m ρ, fun m ρ _ => Cert.ProjVIdeal.Gen.frame m ρ, fun m ρ _ => Cert.ProjVRefIdeal.Mix.frame m ρ,
  fun m ρ _ => Cert.ProjVDx.Gen.frame m ρ, fun m ρ _ => Cert.ProjVDxIdeal.Gen.frame m ρ, fun m ρ _ => Cert.ProjVDxRefIdeal.Mix.frame m ρ,
  fun m ρ _ => Cert.ProjO.Gen.frame m ρ, fun m ρ _ => Cert.ProjOIdeal.Gen.frame m ρ, fun m ρ _ => Cert.ProjORefIdeal.Mix.frame m ρ,
  fun m ρ _ => Cert.ProjODx.Gen.frame m ρ, fun m ρ _ => Cert.ProjODxIdeal.Gen.frame m ρ, fun m ρ _ => Cert.ProjODxRefIdeal.Mix.frame m ρ,
  fun m ρ _ => Cert.ActDx.Gen.frame m ρ,
  fun m ρ _ => Cert.ActDxIdeal.Gen.frame m ρ,
  fun m ρ _ => Cert.ActDxIdeal.Gen.frame m ρ,
  fun m ρ _ => Cert.ActDxRefIdeal.Ffn.frame m ρ,
  fun m ρ _ => Cert.ActDxRefIdeal.Ffn.frame m ρ,
  Cert.ReferenceIdeal.Att.preserves,
  Cert.Att.algebraic,
  trivial, Cert.UpDwIdeal.Ffn.algebraic,
  trivial, Cert.UpDxIdeal.Ffn.algebraic,
  trivial, Cert.DownDwIdeal.Ffn.algebraic,
  trivial, Cert.DownDxIdeal.Ffn.algebraic,
  trivial, Cert.UpIdeal.Ffn.algebraic,
  trivial, Cert.DownIdeal.Ffn.algebraic,
  trivial, Cert.ActIdeal.Ffn.algebraic,
  trivial, Cert.NormIdeal.Mix.algebraic,
  trivial, Cert.NormDxIdeal.Mix.algebraic,
  trivial, Cert.ProjIdeal.Mix.algebraic,
  trivial, Cert.ProjDwIdeal.Mix.algebraic,
  trivial, Cert.ProjDxIdeal.Mix.algebraic,
  trivial, Cert.XbcDwIdeal.Mix.algebraic,
  trivial, Cert.OutDwIdeal.Mix.algebraic,
  trivial, Cert.OutDxIdeal.Mix.algebraic,
  trivial, Cert.ZIdeal.Mix.algebraic,
  trivial, Cert.ZDwIdeal.Mix.algebraic,
  trivial, Cert.ConvIdeal.Mix.algebraic,
  trivial, Cert.XbcIdeal.Mix.algebraic,
  trivial, Cert.XbcDxIdeal.Mix.algebraic,
  trivial, Cert.ZDxIdeal.Mix.algebraic,
  trivial, Cert.OutIdeal.Mix.algebraic,
  trivial, Cert.ProjVIdeal.Mix.algebraic,
  trivial, Cert.ProjVDxIdeal.Mix.algebraic,
  trivial, Cert.ProjOIdeal.Mix.algebraic,
  trivial, Cert.ProjODxIdeal.Mix.algebraic,
  trivial, Cert.ActDxIdeal.Ffn.algebraic⟩

end Cert.Proof

end
